-- ==== Defs.lean ====
def Pre_Augru (m : (ℓ : Loc Cert.Augru.nD Cert.Augru.τ Cert.Augru.sig) → Buf (Elt Bits) ℓ) : Prop :=
  True

def Pre_AugruIdeal (m : (ℓ : Loc Cert.AugruIdeal.nD Cert.AugruIdeal.τ Cert.AugruIdeal.sig) → Buf (Elt Ideal) ℓ) : Prop :=
  True

def Pre_AugruIdeal_finite [hPre_finite : Cert.Pre_finite.Facts] (m : (ℓ : Loc Cert.AugruIdeal.nD Cert.AugruIdeal.τ Cert.AugruIdeal.sig) → Buf (Elt Ideal) ℓ) : Prop :=
  ∀ c : Dev Cert.AugruIdeal.nD,
    (Cert.Pre_finite.fn (F := Ideal) (m ((c.tc : Thread Cert.AugruIdeal.nD Cert.AugruIdeal.τ).loc Cert.AugruIdeal.main_arg0)) (m ((c.tc : Thread Cert.AugruIdeal.nD Cert.AugruIdeal.τ).loc Cert.AugruIdeal.main_arg1)) (m ((c.tc : Thread Cert.AugruIdeal.nD Cert.AugruIdeal.τ).loc Cert.AugruIdeal.main_arg2)) (m ((c.tc : Thread Cert.AugruIdeal.nD Cert.AugruIdeal.τ).loc Cert.AugruIdeal.main_arg3)) (m ((c.tc : Thread Cert.AugruIdeal.nD Cert.AugruIdeal.τ).loc Cert.AugruIdeal.main_arg4)) (m ((c.tc : Thread Cert.AugruIdeal.nD Cert.AugruIdeal.τ).loc Cert.AugruIdeal.main_arg5)) (m ((c.tc : Thread Cert.AugruIdeal.nD Cert.AugruIdeal.τ).loc Cert.AugruIdeal.main_arg6)) (m ((c.tc : Thread Cert.AugruIdeal.nD Cert.AugruIdeal.τ).loc Cert.AugruIdeal.main_arg7)) (m ((c.tc : Thread Cert.AugruIdeal.nD Cert.AugruIdeal.τ).loc Cert.AugruIdeal.main_arg8))).1 = (fun _ => 1#1)
    ∧ (Cert.Pre_finite.fn (F := Ideal) (m ((c.tc : Thread Cert.AugruIdeal.nD Cert.AugruIdeal.τ).loc Cert.AugruIdeal.main_arg0)) (m ((c.tc : Thread Cert.AugruIdeal.nD Cert.AugruIdeal.τ).loc Cert.AugruIdeal.main_arg1)) (m ((c.tc : Thread Cert.AugruIdeal.nD Cert.AugruIdeal.τ).loc Cert.AugruIdeal.main_arg2)) (m ((c.tc : Thread Cert.AugruIdeal.nD Cert.AugruIdeal.τ).loc Cert.AugruIdeal.main_arg3)) (m ((c.tc : Thread Cert.AugruIdeal.nD Cert.AugruIdeal.τ).loc Cert.AugruIdeal.main_arg4)) (m ((c.tc : Thread Cert.AugruIdeal.nD Cert.AugruIdeal.τ).loc Cert.AugruIdeal.main_arg5)) (m ((c.tc : Thread Cert.AugruIdeal.nD Cert.AugruIdeal.τ).loc Cert.AugruIdeal.main_arg6)) (m ((c.tc : Thread Cert.AugruIdeal.nD Cert.AugruIdeal.τ).loc Cert.AugruIdeal.main_arg7)) (m ((c.tc : Thread Cert.AugruIdeal.nD Cert.AugruIdeal.τ).loc Cert.AugruIdeal.main_arg8))).2.1 = (fun _ => 1#1)
    ∧ (Cert.Pre_finite.fn (F := Ideal) (m ((c.tc : Thread Cert.AugruIdeal.nD Cert.AugruIdeal.τ).loc Cert.AugruIdeal.main_arg0)) (m ((c.tc : Thread Cert.AugruIdeal.nD Cert.AugruIdeal.τ).loc Cert.AugruIdeal.main_arg1)) (m ((c.tc : Thread Cert.AugruIdeal.nD Cert.AugruIdeal.τ).loc Cert.AugruIdeal.main_arg2)) (m ((c.tc : Thread Cert.AugruIdeal.nD Cert.AugruIdeal.τ).loc Cert.AugruIdeal.main_arg3)) (m ((c.tc : Thread Cert.AugruIdeal.nD Cert.AugruIdeal.τ).loc Cert.AugruIdeal.main_arg4)) (m ((c.tc : Thread Cert.AugruIdeal.nD Cert.AugruIdeal.τ).loc Cert.AugruIdeal.main_arg5)) (m ((c.tc : Thread Cert.AugruIdeal.nD Cert.AugruIdeal.τ).loc Cert.AugruIdeal.main_arg6)) (m ((c.tc : Thread Cert.AugruIdeal.nD Cert.AugruIdeal.τ).loc Cert.AugruIdeal.main_arg7)) (m ((c.tc : Thread Cert.AugruIdeal.nD Cert.AugruIdeal.τ).loc Cert.AugruIdeal.main_arg8))).2.2.1 = (fun _ => 1#1)
    ∧ (Cert.Pre_finite.fn (F := Ideal) (m ((c.tc : Thread Cert.AugruIdeal.nD Cert.AugruIdeal.τ).loc Cert.AugruIdeal.main_arg0)) (m ((c.tc : Thread Cert.AugruIdeal.nD Cert.AugruIdeal.τ).loc Cert.AugruIdeal.main_arg1)) (m ((c.tc : Thread Cert.AugruIdeal.nD Cert.AugruIdeal.τ).loc Cert.AugruIdeal.main_arg2)) (m ((c.tc : Thread Cert.AugruIdeal.nD Cert.AugruIdeal.τ).loc Cert.AugruIdeal.main_arg3)) (m ((c.tc : Thread Cert.AugruIdeal.nD Cert.AugruIdeal.τ).loc Cert.AugruIdeal.main_arg4)) (m ((c.tc : Thread Cert.AugruIdeal.nD Cert.AugruIdeal.τ).loc Cert.AugruIdeal.main_arg5)) (m ((c.tc : Thread Cert.AugruIdeal.nD Cert.AugruIdeal.τ).loc Cert.AugruIdeal.main_arg6)) (m ((c.tc : Thread Cert.AugruIdeal.nD Cert.AugruIdeal.τ).loc Cert.AugruIdeal.main_arg7)) (m ((c.tc : Thread Cert.AugruIdeal.nD Cert.AugruIdeal.τ).loc Cert.AugruIdeal.main_arg8))).2.2.2.1 = (fun _ => 1#1)
    ∧ (Cert.Pre_finite.fn (F := Ideal) (m ((c.tc : Thread Cert.AugruIdeal.nD Cert.AugruIdeal.τ).loc Cert.AugruIdeal.main_arg0)) (m ((c.tc : Thread Cert.AugruIdeal.nD Cert.AugruIdeal.τ).loc Cert.AugruIdeal.main_arg1)) (m ((c.tc : Thread Cert.AugruIdeal.nD Cert.AugruIdeal.τ).loc Cert.AugruIdeal.main_arg2)) (m ((c.tc : Thread Cert.AugruIdeal.nD Cert.AugruIdeal.τ).loc Cert.AugruIdeal.main_arg3)) (m ((c.tc : Thread Cert.AugruIdeal.nD Cert.AugruIdeal.τ).loc Cert.AugruIdeal.main_arg4)) (m ((c.tc : Thread Cert.AugruIdeal.nD Cert.AugruIdeal.τ).loc Cert.AugruIdeal.main_arg5)) (m ((c.tc : Thread Cert.AugruIdeal.nD Cert.AugruIdeal.τ).loc Cert.AugruIdeal.main_arg6)) (m ((c.tc : Thread Cert.AugruIdeal.nD Cert.AugruIdeal.τ).loc Cert.AugruIdeal.main_arg7)) (m ((c.tc : Thread Cert.AugruIdeal.nD Cert.AugruIdeal.τ).loc Cert.AugruIdeal.main_arg8))).2.2.2.2 = (fun _ => 1#1)

def Pre_AugruReferenceIdeal (m : (ℓ : Loc Cert.AugruReferenceIdeal.nD Cert.AugruReferenceIdeal.τ Cert.AugruReferenceIdeal.sig) → Buf (Elt Ideal) ℓ) : Prop :=
  True

def Pre_AugruReferenceIdeal_finite [hPre_finite : Cert.Pre_finite.Facts] (m : (ℓ : Loc Cert.AugruReferenceIdeal.nD Cert.AugruReferenceIdeal.τ Cert.AugruReferenceIdeal.sig) → Buf (Elt Ideal) ℓ) : Prop :=
  ∀ c : Dev Cert.AugruReferenceIdeal.nD,
    (Cert.Pre_finite.fn (F := Ideal) (m ((c.tc : Thread Cert.AugruReferenceIdeal.nD Cert.AugruReferenceIdeal.τ).loc Cert.AugruReferenceIdeal.main_arg0)) (m ((c.tc : Thread Cert.AugruReferenceIdeal.nD Cert.AugruReferenceIdeal.τ).loc Cert.AugruReferenceIdeal.main_arg1)) (m ((c.tc : Thread Cert.AugruReferenceIdeal.nD Cert.AugruReferenceIdeal.τ).loc Cert.AugruReferenceIdeal.main_arg2)) (m ((c.tc : Thread Cert.AugruReferenceIdeal.nD Cert.AugruReferenceIdeal.τ).loc Cert.AugruReferenceIdeal.main_arg3)) (m ((c.tc : Thread Cert.AugruReferenceIdeal.nD Cert.AugruReferenceIdeal.τ).loc Cert.AugruReferenceIdeal.main_arg4)) (m ((c.tc : Thread Cert.AugruReferenceIdeal.nD Cert.AugruReferenceIdeal.τ).loc Cert.AugruReferenceIdeal.main_arg5)) (m ((c.tc : Thread Cert.AugruReferenceIdeal.nD Cert.AugruReferenceIdeal.τ).loc Cert.AugruReferenceIdeal.main_arg6)) (m ((c.tc : Thread Cert.AugruReferenceIdeal.nD Cert.AugruReferenceIdeal.τ).loc Cert.AugruReferenceIdeal.main_arg7)) (m ((c.tc : Thread Cert.AugruReferenceIdeal.nD Cert.AugruReferenceIdeal.τ).loc Cert.AugruReferenceIdeal.main_arg8))).1 = (fun _ => 1#1)
    ∧ (Cert.Pre_finite.fn (F := Ideal) (m ((c.tc : Thread Cert.AugruReferenceIdeal.nD Cert.AugruReferenceIdeal.τ).loc Cert.AugruReferenceIdeal.main_arg0)) (m ((c.tc : Thread Cert.AugruReferenceIdeal.nD Cert.AugruReferenceIdeal.τ).loc Cert.AugruReferenceIdeal.main_arg1)) (m ((c.tc : Thread Cert.AugruReferenceIdeal.nD Cert.AugruReferenceIdeal.τ).loc Cert.AugruReferenceIdeal.main_arg2)) (m ((c.tc : Thread Cert.AugruReferenceIdeal.nD Cert.AugruReferenceIdeal.τ).loc Cert.AugruReferenceIdeal.main_arg3)) (m ((c.tc : Thread Cert.AugruReferenceIdeal.nD Cert.AugruReferenceIdeal.τ).loc Cert.AugruReferenceIdeal.main_arg4)) (m ((c.tc : Thread Cert.AugruReferenceIdeal.nD Cert.AugruReferenceIdeal.τ).loc Cert.AugruReferenceIdeal.main_arg5)) (m ((c.tc : Thread Cert.AugruReferenceIdeal.nD Cert.AugruReferenceIdeal.τ).loc Cert.AugruReferenceIdeal.main_arg6)) (m ((c.tc : Thread Cert.AugruReferenceIdeal.nD Cert.AugruReferenceIdeal.τ).loc Cert.AugruReferenceIdeal.main_arg7)) (m ((c.tc : Thread Cert.AugruReferenceIdeal.nD Cert.AugruReferenceIdeal.τ).loc Cert.AugruReferenceIdeal.main_arg8))).2.1 = (fun _ => 1#1)
    ∧ (Cert.Pre_finite.fn (F := Ideal) (m ((c.tc : Thread Cert.AugruReferenceIdeal.nD Cert.AugruReferenceIdeal.τ).loc Cert.AugruReferenceIdeal.main_arg0)) (m ((c.tc : Thread Cert.AugruReferenceIdeal.nD Cert.AugruReferenceIdeal.τ).loc Cert.AugruReferenceIdeal.main_arg1)) (m ((c.tc : Thread Cert.AugruReferenceIdeal.nD Cert.AugruReferenceIdeal.τ).loc Cert.AugruReferenceIdeal.main_arg2)) (m ((c.tc : Thread Cert.AugruReferenceIdeal.nD Cert.AugruReferenceIdeal.τ).loc Cert.AugruReferenceIdeal.main_arg3)) (m ((c.tc : Thread Cert.AugruReferenceIdeal.nD Cert.AugruReferenceIdeal.τ).loc Cert.AugruReferenceIdeal.main_arg4)) (m ((c.tc : Thread Cert.AugruReferenceIdeal.nD Cert.AugruReferenceIdeal.τ).loc Cert.AugruReferenceIdeal.main_arg5)) (m ((c.tc : Thread Cert.AugruReferenceIdeal.nD Cert.AugruReferenceIdeal.τ).loc Cert.AugruReferenceIdeal.main_arg6)) (m ((c.tc : Thread Cert.AugruReferenceIdeal.nD Cert.AugruReferenceIdeal.τ).loc Cert.AugruReferenceIdeal.main_arg7)) (m ((c.tc : Thread Cert.AugruReferenceIdeal.nD Cert.AugruReferenceIdeal.τ).loc Cert.AugruReferenceIdeal.main_arg8))).2.2.1 = (fun _ => 1#1)
    ∧ (Cert.Pre_finite.fn (F := Ideal) (m ((c.tc : Thread Cert.AugruReferenceIdeal.nD Cert.AugruReferenceIdeal.τ).loc Cert.AugruReferenceIdeal.main_arg0)) (m ((c.tc : Thread Cert.AugruReferenceIdeal.nD Cert.AugruReferenceIdeal.τ).loc Cert.AugruReferenceIdeal.main_arg1)) (m ((c.tc : Thread Cert.AugruReferenceIdeal.nD Cert.AugruReferenceIdeal.τ).loc Cert.AugruReferenceIdeal.main_arg2)) (m ((c.tc : Thread Cert.AugruReferenceIdeal.nD Cert.AugruReferenceIdeal.τ).loc Cert.AugruReferenceIdeal.main_arg3)) (m ((c.tc : Thread Cert.AugruReferenceIdeal.nD Cert.AugruReferenceIdeal.τ).loc Cert.AugruReferenceIdeal.main_arg4)) (m ((c.tc : Thread Cert.AugruReferenceIdeal.nD Cert.AugruReferenceIdeal.τ).loc Cert.AugruReferenceIdeal.main_arg5)) (m ((c.tc : Thread Cert.AugruReferenceIdeal.nD Cert.AugruReferenceIdeal.τ).loc Cert.AugruReferenceIdeal.main_arg6)) (m ((c.tc : Thread Cert.AugruReferenceIdeal.nD Cert.AugruReferenceIdeal.τ).loc Cert.AugruReferenceIdeal.main_arg7)) (m ((c.tc : Thread Cert.AugruReferenceIdeal.nD Cert.AugruReferenceIdeal.τ).loc Cert.AugruReferenceIdeal.main_arg8))).2.2.2.1 = (fun _ => 1#1)
    ∧ (Cert.Pre_finite.fn (F := Ideal) (m ((c.tc : Thread Cert.AugruReferenceIdeal.nD Cert.AugruReferenceIdeal.τ).loc Cert.AugruReferenceIdeal.main_arg0)) (m ((c.tc : Thread Cert.AugruReferenceIdeal.nD Cert.AugruReferenceIdeal.τ).loc Cert.AugruReferenceIdeal.main_arg1)) (m ((c.tc : Thread Cert.AugruReferenceIdeal.nD Cert.AugruReferenceIdeal.τ).loc Cert.AugruReferenceIdeal.main_arg2)) (m ((c.tc : Thread Cert.AugruReferenceIdeal.nD Cert.AugruReferenceIdeal.τ).loc Cert.AugruReferenceIdeal.main_arg3)) (m ((c.tc : Thread Cert.AugruReferenceIdeal.nD Cert.AugruReferenceIdeal.τ).loc Cert.AugruReferenceIdeal.main_arg4)) (m ((c.tc : Thread Cert.AugruReferenceIdeal.nD Cert.AugruReferenceIdeal.τ).loc Cert.AugruReferenceIdeal.main_arg5)) (m ((c.tc : Thread Cert.AugruReferenceIdeal.nD Cert.AugruReferenceIdeal.τ).loc Cert.AugruReferenceIdeal.main_arg6)) (m ((c.tc : Thread Cert.AugruReferenceIdeal.nD Cert.AugruReferenceIdeal.τ).loc Cert.AugruReferenceIdeal.main_arg7)) (m ((c.tc : Thread Cert.AugruReferenceIdeal.nD Cert.AugruReferenceIdeal.τ).loc Cert.AugruReferenceIdeal.main_arg8))).2.2.2.2 = (fun _ => 1#1)

def Pre_Gru1 (m : (ℓ : Loc Cert.Gru1.nD Cert.Gru1.τ Cert.Gru1.sig) → Buf (Elt Bits) ℓ) : Prop :=
  True

def Pre_Gru1Ideal (m : (ℓ : Loc Cert.Gru1Ideal.nD Cert.Gru1Ideal.τ Cert.Gru1Ideal.sig) → Buf (Elt Ideal) ℓ) : Prop :=
  True

def Pre_Gru1Ideal_finite1 [hPre_finite1 : Cert.Pre_finite1.Facts] (m : (ℓ : Loc Cert.Gru1Ideal.nD Cert.Gru1Ideal.τ Cert.Gru1Ideal.sig) → Buf (Elt Ideal) ℓ) : Prop :=
  ∀ c : Dev Cert.Gru1Ideal.nD,
    (Cert.Pre_finite1.fn (F := Ideal) (m ((c.tc : Thread Cert.Gru1Ideal.nD Cert.Gru1Ideal.τ).loc Cert.Gru1Ideal.main_arg0)) (m ((c.tc : Thread Cert.Gru1Ideal.nD Cert.Gru1Ideal.τ).loc Cert.Gru1Ideal.main_arg1)) (m ((c.tc : Thread Cert.Gru1Ideal.nD Cert.Gru1Ideal.τ).loc Cert.Gru1Ideal.main_arg2)) (m ((c.tc : Thread Cert.Gru1Ideal.nD Cert.Gru1Ideal.τ).loc Cert.Gru1Ideal.main_arg3)) (m ((c.tc : Thread Cert.Gru1Ideal.nD Cert.Gru1Ideal.τ).loc Cert.Gru1Ideal.main_arg4)) (m ((c.tc : Thread Cert.Gru1Ideal.nD Cert.Gru1Ideal.τ).loc Cert.Gru1Ideal.main_arg5)) (m ((c.tc : Thread Cert.Gru1Ideal.nD Cert.Gru1Ideal.τ).loc Cert.Gru1Ideal.main_arg6)) (m ((c.tc : Thread Cert.Gru1Ideal.nD Cert.Gru1Ideal.τ).loc Cert.Gru1Ideal.main_arg7)) (m ((c.tc : Thread Cert.Gru1Ideal.nD Cert.Gru1Ideal.τ).loc Cert.Gru1Ideal.main_arg8)) (m ((c.tc : Thread Cert.Gru1Ideal.nD Cert.Gru1Ideal.τ).loc Cert.Gru1Ideal.main_arg9)) (m ((c.tc : Thread Cert.Gru1Ideal.nD Cert.Gru1Ideal.τ).loc Cert.Gru1Ideal.main_arg10))).1 = (fun _ => 1#1)
    ∧ (Cert.Pre_finite1.fn (F := Ideal) (m ((c.tc : Thread Cert.Gru1Ideal.nD Cert.Gru1Ideal.τ).loc Cert.Gru1Ideal.main_arg0)) (m ((c.tc : Thread Cert.Gru1Ideal.nD Cert.Gru1Ideal.τ).loc Cert.Gru1Ideal.main_arg1)) (m ((c.tc : Thread Cert.Gru1Ideal.nD Cert.Gru1Ideal.τ).loc Cert.Gru1Ideal.main_arg2)) (m ((c.tc : Thread Cert.Gru1Ideal.nD Cert.Gru1Ideal.τ).loc Cert.Gru1Ideal.main_arg3)) (m ((c.tc : Thread Cert.Gru1Ideal.nD Cert.Gru1Ideal.τ).loc Cert.Gru1Ideal.main_arg4)) (m ((c.tc : Thread Cert.Gru1Ideal.nD Cert.Gru1Ideal.τ).loc Cert.Gru1Ideal.main_arg5)) (m ((c.tc : Thread Cert.Gru1Ideal.nD Cert.Gru1Ideal.τ).loc Cert.Gru1Ideal.main_arg6)) (m ((c.tc : Thread Cert.Gru1Ideal.nD Cert.Gru1Ideal.τ).loc Cert.Gru1Ideal.main_arg7)) (m ((c.tc : Thread Cert.Gru1Ideal.nD Cert.Gru1Ideal.τ).loc Cert.Gru1Ideal.main_arg8)) (m ((c.tc : Thread Cert.Gru1Ideal.nD Cert.Gru1Ideal.τ).loc Cert.Gru1Ideal.main_arg9)) (m ((c.tc : Thread Cert.Gru1Ideal.nD Cert.Gru1Ideal.τ).loc Cert.Gru1Ideal.main_arg10))).2.1 = (fun _ => 1#1)
    ∧ (Cert.Pre_finite1.fn (F := Ideal) (m ((c.tc : Thread Cert.Gru1Ideal.nD Cert.Gru1Ideal.τ).loc Cert.Gru1Ideal.main_arg0)) (m ((c.tc : Thread Cert.Gru1Ideal.nD Cert.Gru1Ideal.τ).loc Cert.Gru1Ideal.main_arg1)) (m ((c.tc : Thread Cert.Gru1Ideal.nD Cert.Gru1Ideal.τ).loc Cert.Gru1Ideal.main_arg2)) (m ((c.tc : Thread Cert.Gru1Ideal.nD Cert.Gru1Ideal.τ).loc Cert.Gru1Ideal.main_arg3)) (m ((c.tc : Thread Cert.Gru1Ideal.nD Cert.Gru1Ideal.τ).loc Cert.Gru1Ideal.main_arg4)) (m ((c.tc : Thread Cert.Gru1Ideal.nD Cert.Gru1Ideal.τ).loc Cert.Gru1Ideal.main_arg5)) (m ((c.tc : Thread Cert.Gru1Ideal.nD Cert.Gru1Ideal.τ).loc Cert.Gru1Ideal.main_arg6)) (m ((c.tc : Thread Cert.Gru1Ideal.nD Cert.Gru1Ideal.τ).loc Cert.Gru1Ideal.main_arg7)) (m ((c.tc : Thread Cert.Gru1Ideal.nD Cert.Gru1Ideal.τ).loc Cert.Gru1Ideal.main_arg8)) (m ((c.tc : Thread Cert.Gru1Ideal.nD Cert.Gru1Ideal.τ).loc Cert.Gru1Ideal.main_arg9)) (m ((c.tc : Thread Cert.Gru1Ideal.nD Cert.Gru1Ideal.τ).loc Cert.Gru1Ideal.main_arg10))).2.2 = (fun _ => 1#1)

def Pre_Gru1ReferenceIdeal (m : (ℓ : Loc Cert.Gru1ReferenceIdeal.nD Cert.Gru1ReferenceIdeal.τ Cert.Gru1ReferenceIdeal.sig) → Buf (Elt Ideal) ℓ) : Prop :=
  True

def Pre_Gru1ReferenceIdeal_finite1 [hPre_finite1 : Cert.Pre_finite1.Facts] (m : (ℓ : Loc Cert.Gru1ReferenceIdeal.nD Cert.Gru1ReferenceIdeal.τ Cert.Gru1ReferenceIdeal.sig) → Buf (Elt Ideal) ℓ) : Prop :=
  ∀ c : Dev Cert.Gru1ReferenceIdeal.nD,
    (Cert.Pre_finite1.fn (F := Ideal) (m ((c.tc : Thread Cert.Gru1ReferenceIdeal.nD Cert.Gru1ReferenceIdeal.τ).loc Cert.Gru1ReferenceIdeal.main_arg0)) (m ((c.tc : Thread Cert.Gru1ReferenceIdeal.nD Cert.Gru1ReferenceIdeal.τ).loc Cert.Gru1ReferenceIdeal.main_arg1)) (m ((c.tc : Thread Cert.Gru1ReferenceIdeal.nD Cert.Gru1ReferenceIdeal.τ).loc Cert.Gru1ReferenceIdeal.main_arg2)) (m ((c.tc : Thread Cert.Gru1ReferenceIdeal.nD Cert.Gru1ReferenceIdeal.τ).loc Cert.Gru1ReferenceIdeal.main_arg3)) (m ((c.tc : Thread Cert.Gru1ReferenceIdeal.nD Cert.Gru1ReferenceIdeal.τ).loc Cert.Gru1ReferenceIdeal.main_arg4)) (m ((c.tc : Thread Cert.Gru1ReferenceIdeal.nD Cert.Gru1ReferenceIdeal.τ).loc Cert.Gru1ReferenceIdeal.main_arg5)) (m ((c.tc : Thread Cert.Gru1ReferenceIdeal.nD Cert.Gru1ReferenceIdeal.τ).loc Cert.Gru1ReferenceIdeal.main_arg6)) (m ((c.tc : Thread Cert.Gru1ReferenceIdeal.nD Cert.Gru1ReferenceIdeal.τ).loc Cert.Gru1ReferenceIdeal.main_arg7)) (m ((c.tc : Thread Cert.Gru1ReferenceIdeal.nD Cert.Gru1ReferenceIdeal.τ).loc Cert.Gru1ReferenceIdeal.main_arg8)) (m ((c.tc : Thread Cert.Gru1ReferenceIdeal.nD Cert.Gru1ReferenceIdeal.τ).loc Cert.Gru1ReferenceIdeal.main_arg9)) (m ((c.tc : Thread Cert.Gru1ReferenceIdeal.nD Cert.Gru1ReferenceIdeal.τ).loc Cert.Gru1ReferenceIdeal.main_arg10))).1 = (fun _ => 1#1)
    ∧ (Cert.Pre_finite1.fn (F := Ideal) (m ((c.tc : Thread Cert.Gru1ReferenceIdeal.nD Cert.Gru1ReferenceIdeal.τ).loc Cert.Gru1ReferenceIdeal.main_arg0)) (m ((c.tc : Thread Cert.Gru1ReferenceIdeal.nD Cert.Gru1ReferenceIdeal.τ).loc Cert.Gru1ReferenceIdeal.main_arg1)) (m ((c.tc : Thread Cert.Gru1ReferenceIdeal.nD Cert.Gru1ReferenceIdeal.τ).loc Cert.Gru1ReferenceIdeal.main_arg2)) (m ((c.tc : Thread Cert.Gru1ReferenceIdeal.nD Cert.Gru1ReferenceIdeal.τ).loc Cert.Gru1ReferenceIdeal.main_arg3)) (m ((c.tc : Thread Cert.Gru1ReferenceIdeal.nD Cert.Gru1ReferenceIdeal.τ).loc Cert.Gru1ReferenceIdeal.main_arg4)) (m ((c.tc : Thread Cert.Gru1ReferenceIdeal.nD Cert.Gru1ReferenceIdeal.τ).loc Cert.Gru1ReferenceIdeal.main_arg5)) (m ((c.tc : Thread Cert.Gru1ReferenceIdeal.nD Cert.Gru1ReferenceIdeal.τ).loc Cert.Gru1ReferenceIdeal.main_arg6)) (m ((c.tc : Thread Cert.Gru1ReferenceIdeal.nD Cert.Gru1ReferenceIdeal.τ).loc Cert.Gru1ReferenceIdeal.main_arg7)) (m ((c.tc : Thread Cert.Gru1ReferenceIdeal.nD Cert.Gru1ReferenceIdeal.τ).loc Cert.Gru1ReferenceIdeal.main_arg8)) (m ((c.tc : Thread Cert.Gru1ReferenceIdeal.nD Cert.Gru1ReferenceIdeal.τ).loc Cert.Gru1ReferenceIdeal.main_arg9)) (m ((c.tc : Thread Cert.Gru1ReferenceIdeal.nD Cert.Gru1ReferenceIdeal.τ).loc Cert.Gru1ReferenceIdeal.main_arg10))).2.1 = (fun _ => 1#1)
    ∧ (Cert.Pre_finite1.fn (F := Ideal) (m ((c.tc : Thread Cert.Gru1ReferenceIdeal.nD Cert.Gru1ReferenceIdeal.τ).loc Cert.Gru1ReferenceIdeal.main_arg0)) (m ((c.tc : Thread Cert.Gru1ReferenceIdeal.nD Cert.Gru1ReferenceIdeal.τ).loc Cert.Gru1ReferenceIdeal.main_arg1)) (m ((c.tc : Thread Cert.Gru1ReferenceIdeal.nD Cert.Gru1ReferenceIdeal.τ).loc Cert.Gru1ReferenceIdeal.main_arg2)) (m ((c.tc : Thread Cert.Gru1ReferenceIdeal.nD Cert.Gru1ReferenceIdeal.τ).loc Cert.Gru1ReferenceIdeal.main_arg3)) (m ((c.tc : Thread Cert.Gru1ReferenceIdeal.nD Cert.Gru1ReferenceIdeal.τ).loc Cert.Gru1ReferenceIdeal.main_arg4)) (m ((c.tc : Thread Cert.Gru1ReferenceIdeal.nD Cert.Gru1ReferenceIdeal.τ).loc Cert.Gru1ReferenceIdeal.main_arg5)) (m ((c.tc : Thread Cert.Gru1ReferenceIdeal.nD Cert.Gru1ReferenceIdeal.τ).loc Cert.Gru1ReferenceIdeal.main_arg6)) (m ((c.tc : Thread Cert.Gru1ReferenceIdeal.nD Cert.Gru1ReferenceIdeal.τ).loc Cert.Gru1ReferenceIdeal.main_arg7)) (m ((c.tc : Thread Cert.Gru1ReferenceIdeal.nD Cert.Gru1ReferenceIdeal.τ).loc Cert.Gru1ReferenceIdeal.main_arg8)) (m ((c.tc : Thread Cert.Gru1ReferenceIdeal.nD Cert.Gru1ReferenceIdeal.τ).loc Cert.Gru1ReferenceIdeal.main_arg9)) (m ((c.tc : Thread Cert.Gru1ReferenceIdeal.nD Cert.Gru1ReferenceIdeal.τ).loc Cert.Gru1ReferenceIdeal.main_arg10))).2.2 = (fun _ => 1#1)

def quiescent_Augru [hAugru : Cert.Augru.Facts] : Prop :=
  ∀ (m : (ℓ : Loc Cert.Augru.nD Cert.Augru.τ Cert.Augru.sig) → Buf (Elt Bits) ℓ) (g : Dev Cert.Augru.nD → PrngReg), Pre_Augru m →
    θ_run (Cert.Augru.defs (F := Bits)) (onTc (τ := Cert.Augru.τ) (Cert.Augru.main (F := Bits))) ⟨m, fun _ => 0, g⟩ (fun r => (∀ c : Dev Cert.Augru.nD,
      r.2.mem ((c.tc : Thread Cert.Augru.nD Cert.Augru.τ).loc Cert.Augru.main_arg0) = m ((c.tc : Thread Cert.Augru.nD Cert.Augru.τ).loc Cert.Augru.main_arg0)
      ∧ r.2.mem ((c.tc : Thread Cert.Augru.nD Cert.Augru.τ).loc Cert.Augru.main_arg1) = m ((c.tc : Thread Cert.Augru.nD Cert.Augru.τ).loc Cert.Augru.main_arg1)
      ∧ r.2.mem ((c.tc : Thread Cert.Augru.nD Cert.Augru.τ).loc Cert.Augru.main_arg2) = m ((c.tc : Thread Cert.Augru.nD Cert.Augru.τ).loc Cert.Augru.main_arg2)
      ∧ r.2.mem ((c.tc : Thread Cert.Augru.nD Cert.Augru.τ).loc Cert.Augru.main_arg3) = m ((c.tc : Thread Cert.Augru.nD Cert.Augru.τ).loc Cert.Augru.main_arg3)
      ∧ r.2.mem ((c.tc : Thread Cert.Augru.nD Cert.Augru.τ).loc Cert.Augru.main_arg4) = m ((c.tc : Thread Cert.Augru.nD Cert.Augru.τ).loc Cert.Augru.main_arg4)
      ∧ r.2.mem ((c.tc : Thread Cert.Augru.nD Cert.Augru.τ).loc Cert.Augru.main_arg5) = m ((c.tc : Thread Cert.Augru.nD Cert.Augru.τ).loc Cert.Augru.main_arg5)
      ∧ r.2.mem ((c.tc : Thread Cert.Augru.nD Cert.Augru.τ).loc Cert.Augru.main_arg6) = m ((c.tc : Thread Cert.Augru.nD Cert.Augru.τ).loc Cert.Augru.main_arg6)
      ∧ r.2.mem ((c.tc : Thread Cert.Augru.nD Cert.Augru.τ).loc Cert.Augru.main_arg7) = m ((c.tc : Thread Cert.Augru.nD Cert.Augru.τ).loc Cert.Augru.main_arg7)
      ∧ r.2.mem ((c.tc : Thread Cert.Augru.nD Cert.Augru.τ).loc Cert.Augru.main_arg8) = m ((c.tc : Thread Cert.Augru.nD Cert.Augru.τ).loc Cert.Augru.main_arg8))
      ∧ r.2.sem = fun _ => 0)

def quiescent_AugruIdeal [hAugruIdeal : Cert.AugruIdeal.Facts] : Prop :=
  ∀ (m : (ℓ : Loc Cert.AugruIdeal.nD Cert.AugruIdeal.τ Cert.AugruIdeal.sig) → Buf (Elt Ideal) ℓ) (g : Dev Cert.AugruIdeal.nD → PrngReg), Pre_AugruIdeal m →
    θ_run (Cert.AugruIdeal.defs (F := Ideal)) (onTc (τ := Cert.AugruIdeal.τ) (Cert.AugruIdeal.main (F := Ideal))) ⟨m, fun _ => 0, g⟩ (fun r => (∀ c : Dev Cert.AugruIdeal.nD,
      r.2.mem ((c.tc : Thread Cert.AugruIdeal.nD Cert.AugruIdeal.τ).loc Cert.AugruIdeal.main_arg0) = m ((c.tc : Thread Cert.AugruIdeal.nD Cert.AugruIdeal.τ).loc Cert.AugruIdeal.main_arg0)
      ∧ r.2.mem ((c.tc : Thread Cert.AugruIdeal.nD Cert.AugruIdeal.τ).loc Cert.AugruIdeal.main_arg1) = m ((c.tc : Thread Cert.AugruIdeal.nD Cert.AugruIdeal.τ).loc Cert.AugruIdeal.main_arg1)
      ∧ r.2.mem ((c.tc : Thread Cert.AugruIdeal.nD Cert.AugruIdeal.τ).loc Cert.AugruIdeal.main_arg2) = m ((c.tc : Thread Cert.AugruIdeal.nD Cert.AugruIdeal.τ).loc Cert.AugruIdeal.main_arg2)
      ∧ r.2.mem ((c.tc : Thread Cert.AugruIdeal.nD Cert.AugruIdeal.τ).loc Cert.AugruIdeal.main_arg3) = m ((c.tc : Thread Cert.AugruIdeal.nD Cert.AugruIdeal.τ).loc Cert.AugruIdeal.main_arg3)
      ∧ r.2.mem ((c.tc : Thread Cert.AugruIdeal.nD Cert.AugruIdeal.τ).loc Cert.AugruIdeal.main_arg4) = m ((c.tc : Thread Cert.AugruIdeal.nD Cert.AugruIdeal.τ).loc Cert.AugruIdeal.main_arg4)
      ∧ r.2.mem ((c.tc : Thread Cert.AugruIdeal.nD Cert.AugruIdeal.τ).loc Cert.AugruIdeal.main_arg5) = m ((c.tc : Thread Cert.AugruIdeal.nD Cert.AugruIdeal.τ).loc Cert.AugruIdeal.main_arg5)
      ∧ r.2.mem ((c.tc : Thread Cert.AugruIdeal.nD Cert.AugruIdeal.τ).loc Cert.AugruIdeal.main_arg6) = m ((c.tc : Thread Cert.AugruIdeal.nD Cert.AugruIdeal.τ).loc Cert.AugruIdeal.main_arg6)
      ∧ r.2.mem ((c.tc : Thread Cert.AugruIdeal.nD Cert.AugruIdeal.τ).loc Cert.AugruIdeal.main_arg7) = m ((c.tc : Thread Cert.AugruIdeal.nD Cert.AugruIdeal.τ).loc Cert.AugruIdeal.main_arg7)
      ∧ r.2.mem ((c.tc : Thread Cert.AugruIdeal.nD Cert.AugruIdeal.τ).loc Cert.AugruIdeal.main_arg8) = m ((c.tc : Thread Cert.AugruIdeal.nD Cert.AugruIdeal.τ).loc Cert.AugruIdeal.main_arg8))
      ∧ r.2.sem = fun _ => 0)

def quiescent_AugruIdeal_pre_finite [hAugruIdeal : Cert.AugruIdeal.Facts] [hPre_finite : Cert.Pre_finite.Facts] : Prop :=
  ∀ (m : (ℓ : Loc Cert.AugruIdeal.nD Cert.AugruIdeal.τ Cert.AugruIdeal.sig) → Buf (Elt Ideal) ℓ) (g : Dev Cert.AugruIdeal.nD → PrngReg), Pre_AugruIdeal_finite m →
    θ_run (Cert.AugruIdeal.defs (F := Ideal)) (onTc (τ := Cert.AugruIdeal.τ) (Cert.AugruIdeal.main (F := Ideal))) ⟨m, fun _ => 0, g⟩ (fun r => (∀ c : Dev Cert.AugruIdeal.nD,
      r.2.mem ((c.tc : Thread Cert.AugruIdeal.nD Cert.AugruIdeal.τ).loc Cert.AugruIdeal.main_arg0) = m ((c.tc : Thread Cert.AugruIdeal.nD Cert.AugruIdeal.τ).loc Cert.AugruIdeal.main_arg0)
      ∧ r.2.mem ((c.tc : Thread Cert.AugruIdeal.nD Cert.AugruIdeal.τ).loc Cert.AugruIdeal.main_arg1) = m ((c.tc : Thread Cert.AugruIdeal.nD Cert.AugruIdeal.τ).loc Cert.AugruIdeal.main_arg1)
      ∧ r.2.mem ((c.tc : Thread Cert.AugruIdeal.nD Cert.AugruIdeal.τ).loc Cert.AugruIdeal.main_arg2) = m ((c.tc : Thread Cert.AugruIdeal.nD Cert.AugruIdeal.τ).loc Cert.AugruIdeal.main_arg2)
      ∧ r.2.mem ((c.tc : Thread Cert.AugruIdeal.nD Cert.AugruIdeal.τ).loc Cert.AugruIdeal.main_arg3) = m ((c.tc : Thread Cert.AugruIdeal.nD Cert.AugruIdeal.τ).loc Cert.AugruIdeal.main_arg3)
      ∧ r.2.mem ((c.tc : Thread Cert.AugruIdeal.nD Cert.AugruIdeal.τ).loc Cert.AugruIdeal.main_arg4) = m ((c.tc : Thread Cert.AugruIdeal.nD Cert.AugruIdeal.τ).loc Cert.AugruIdeal.main_arg4)
      ∧ r.2.mem ((c.tc : Thread Cert.AugruIdeal.nD Cert.AugruIdeal.τ).loc Cert.AugruIdeal.main_arg5) = m ((c.tc : Thread Cert.AugruIdeal.nD Cert.AugruIdeal.τ).loc Cert.AugruIdeal.main_arg5)
      ∧ r.2.mem ((c.tc : Thread Cert.AugruIdeal.nD Cert.AugruIdeal.τ).loc Cert.AugruIdeal.main_arg6) = m ((c.tc : Thread Cert.AugruIdeal.nD Cert.AugruIdeal.τ).loc Cert.AugruIdeal.main_arg6)
      ∧ r.2.mem ((c.tc : Thread Cert.AugruIdeal.nD Cert.AugruIdeal.τ).loc Cert.AugruIdeal.main_arg7) = m ((c.tc : Thread Cert.AugruIdeal.nD Cert.AugruIdeal.τ).loc Cert.AugruIdeal.main_arg7)
      ∧ r.2.mem ((c.tc : Thread Cert.AugruIdeal.nD Cert.AugruIdeal.τ).loc Cert.AugruIdeal.main_arg8) = m ((c.tc : Thread Cert.AugruIdeal.nD Cert.AugruIdeal.τ).loc Cert.AugruIdeal.main_arg8))
      ∧ r.2.sem = fun _ => 0)

def quiescent_AugruReferenceIdeal [hAugruReferenceIdeal : Cert.AugruReferenceIdeal.Facts] : Prop :=
  ∀ (m : (ℓ : Loc Cert.AugruReferenceIdeal.nD Cert.AugruReferenceIdeal.τ Cert.AugruReferenceIdeal.sig) → Buf (Elt Ideal) ℓ) (g : Dev Cert.AugruReferenceIdeal.nD → PrngReg), Pre_AugruReferenceIdeal m →
    θ_run (Cert.AugruReferenceIdeal.defs (F := Ideal)) (onTc (τ := Cert.AugruReferenceIdeal.τ) (Cert.AugruReferenceIdeal.main (F := Ideal))) ⟨m, fun _ => 0, g⟩ (fun r => (∀ c : Dev Cert.AugruReferenceIdeal.nD,
      r.2.mem ((c.tc : Thread Cert.AugruReferenceIdeal.nD Cert.AugruReferenceIdeal.τ).loc Cert.AugruReferenceIdeal.main_arg0) = m ((c.tc : Thread Cert.AugruReferenceIdeal.nD Cert.AugruReferenceIdeal.τ).loc Cert.AugruReferenceIdeal.main_arg0)
      ∧ r.2.mem ((c.tc : Thread Cert.AugruReferenceIdeal.nD Cert.AugruReferenceIdeal.τ).loc Cert.AugruReferenceIdeal.main_arg1) = m ((c.tc : Thread Cert.AugruReferenceIdeal.nD Cert.AugruReferenceIdeal.τ).loc Cert.AugruReferenceIdeal.main_arg1)
      ∧ r.2.mem ((c.tc : Thread Cert.AugruReferenceIdeal.nD Cert.AugruReferenceIdeal.τ).loc Cert.AugruReferenceIdeal.main_arg2) = m ((c.tc : Thread Cert.AugruReferenceIdeal.nD Cert.AugruReferenceIdeal.τ).loc Cert.AugruReferenceIdeal.main_arg2)
      ∧ r.2.mem ((c.tc : Thread Cert.AugruReferenceIdeal.nD Cert.AugruReferenceIdeal.τ).loc Cert.AugruReferenceIdeal.main_arg3) = m ((c.tc : Thread Cert.AugruReferenceIdeal.nD Cert.AugruReferenceIdeal.τ).loc Cert.AugruReferenceIdeal.main_arg3)
      ∧ r.2.mem ((c.tc : Thread Cert.AugruReferenceIdeal.nD Cert.AugruReferenceIdeal.τ).loc Cert.AugruReferenceIdeal.main_arg4) = m ((c.tc : Thread Cert.AugruReferenceIdeal.nD Cert.AugruReferenceIdeal.τ).loc Cert.AugruReferenceIdeal.main_arg4)
      ∧ r.2.mem ((c.tc : Thread Cert.AugruReferenceIdeal.nD Cert.AugruReferenceIdeal.τ).loc Cert.AugruReferenceIdeal.main_arg5) = m ((c.tc : Thread Cert.AugruReferenceIdeal.nD Cert.AugruReferenceIdeal.τ).loc Cert.AugruReferenceIdeal.main_arg5)
      ∧ r.2.mem ((c.tc : Thread Cert.AugruReferenceIdeal.nD Cert.AugruReferenceIdeal.τ).loc Cert.AugruReferenceIdeal.main_arg6) = m ((c.tc : Thread Cert.AugruReferenceIdeal.nD Cert.AugruReferenceIdeal.τ).loc Cert.AugruReferenceIdeal.main_arg6)
      ∧ r.2.mem ((c.tc : Thread Cert.AugruReferenceIdeal.nD Cert.AugruReferenceIdeal.τ).loc Cert.AugruReferenceIdeal.main_arg7) = m ((c.tc : Thread Cert.AugruReferenceIdeal.nD Cert.AugruReferenceIdeal.τ).loc Cert.AugruReferenceIdeal.main_arg7)
      ∧ r.2.mem ((c.tc : Thread Cert.AugruReferenceIdeal.nD Cert.AugruReferenceIdeal.τ).loc Cert.AugruReferenceIdeal.main_arg8) = m ((c.tc : Thread Cert.AugruReferenceIdeal.nD Cert.AugruReferenceIdeal.τ).loc Cert.AugruReferenceIdeal.main_arg8))
      ∧ r.2.sem = fun _ => 0)

def quiescent_AugruReferenceIdeal_pre_finite [hAugruReferenceIdeal : Cert.AugruReferenceIdeal.Facts] [hPre_finite : Cert.Pre_finite.Facts] : Prop :=
  ∀ (m : (ℓ : Loc Cert.AugruReferenceIdeal.nD Cert.AugruReferenceIdeal.τ Cert.AugruReferenceIdeal.sig) → Buf (Elt Ideal) ℓ) (g : Dev Cert.AugruReferenceIdeal.nD → PrngReg), Pre_AugruReferenceIdeal_finite m →
    θ_run (Cert.AugruReferenceIdeal.defs (F := Ideal)) (onTc (τ := Cert.AugruReferenceIdeal.τ) (Cert.AugruReferenceIdeal.main (F := Ideal))) ⟨m, fun _ => 0, g⟩ (fun r => (∀ c : Dev Cert.AugruReferenceIdeal.nD,
      r.2.mem ((c.tc : Thread Cert.AugruReferenceIdeal.nD Cert.AugruReferenceIdeal.τ).loc Cert.AugruReferenceIdeal.main_arg0) = m ((c.tc : Thread Cert.AugruReferenceIdeal.nD Cert.AugruReferenceIdeal.τ).loc Cert.AugruReferenceIdeal.main_arg0)
      ∧ r.2.mem ((c.tc : Thread Cert.AugruReferenceIdeal.nD Cert.AugruReferenceIdeal.τ).loc Cert.AugruReferenceIdeal.main_arg1) = m ((c.tc : Thread Cert.AugruReferenceIdeal.nD Cert.AugruReferenceIdeal.τ).loc Cert.AugruReferenceIdeal.main_arg1)
      ∧ r.2.mem ((c.tc : Thread Cert.AugruReferenceIdeal.nD Cert.AugruReferenceIdeal.τ).loc Cert.AugruReferenceIdeal.main_arg2) = m ((c.tc : Thread Cert.AugruReferenceIdeal.nD Cert.AugruReferenceIdeal.τ).loc Cert.AugruReferenceIdeal.main_arg2)
      ∧ r.2.mem ((c.tc : Thread Cert.AugruReferenceIdeal.nD Cert.AugruReferenceIdeal.τ).loc Cert.AugruReferenceIdeal.main_arg3) = m ((c.tc : Thread Cert.AugruReferenceIdeal.nD Cert.AugruReferenceIdeal.τ).loc Cert.AugruReferenceIdeal.main_arg3)
      ∧ r.2.mem ((c.tc : Thread Cert.AugruReferenceIdeal.nD Cert.AugruReferenceIdeal.τ).loc Cert.AugruReferenceIdeal.main_arg4) = m ((c.tc : Thread Cert.AugruReferenceIdeal.nD Cert.AugruReferenceIdeal.τ).loc Cert.AugruReferenceIdeal.main_arg4)
      ∧ r.2.mem ((c.tc : Thread Cert.AugruReferenceIdeal.nD Cert.AugruReferenceIdeal.τ).loc Cert.AugruReferenceIdeal.main_arg5) = m ((c.tc : Thread Cert.AugruReferenceIdeal.nD Cert.AugruReferenceIdeal.τ).loc Cert.AugruReferenceIdeal.main_arg5)
      ∧ r.2.mem ((c.tc : Thread Cert.AugruReferenceIdeal.nD Cert.AugruReferenceIdeal.τ).loc Cert.AugruReferenceIdeal.main_arg6) = m ((c.tc : Thread Cert.AugruReferenceIdeal.nD Cert.AugruReferenceIdeal.τ).loc Cert.AugruReferenceIdeal.main_arg6)
      ∧ r.2.mem ((c.tc : Thread Cert.AugruReferenceIdeal.nD Cert.AugruReferenceIdeal.τ).loc Cert.AugruReferenceIdeal.main_arg7) = m ((c.tc : Thread Cert.AugruReferenceIdeal.nD Cert.AugruReferenceIdeal.τ).loc Cert.AugruReferenceIdeal.main_arg7)
      ∧ r.2.mem ((c.tc : Thread Cert.AugruReferenceIdeal.nD Cert.AugruReferenceIdeal.τ).loc Cert.AugruReferenceIdeal.main_arg8) = m ((c.tc : Thread Cert.AugruReferenceIdeal.nD Cert.AugruReferenceIdeal.τ).loc Cert.AugruReferenceIdeal.main_arg8))
      ∧ r.2.sem = fun _ => 0)

def quiescent_Gru1 [hGru1 : Cert.Gru1.Facts] : Prop :=
  ∀ (m : (ℓ : Loc Cert.Gru1.nD Cert.Gru1.τ Cert.Gru1.sig) → Buf (Elt Bits) ℓ) (g : Dev Cert.Gru1.nD → PrngReg), Pre_Gru1 m →
    θ_run (Cert.Gru1.defs (F := Bits)) (onTc (τ := Cert.Gru1.τ) (Cert.Gru1.main (F := Bits))) ⟨m, fun _ => 0, g⟩ (fun r => (∀ c : Dev Cert.Gru1.nD,
      r.2.mem ((c.tc : Thread Cert.Gru1.nD Cert.Gru1.τ).loc Cert.Gru1.main_arg0) = m ((c.tc : Thread Cert.Gru1.nD Cert.Gru1.τ).loc Cert.Gru1.main_arg0)
      ∧ r.2.mem ((c.tc : Thread Cert.Gru1.nD Cert.Gru1.τ).loc Cert.Gru1.main_arg1) = m ((c.tc : Thread Cert.Gru1.nD Cert.Gru1.τ).loc Cert.Gru1.main_arg1)
      ∧ r.2.mem ((c.tc : Thread Cert.Gru1.nD Cert.Gru1.τ).loc Cert.Gru1.main_arg2) = m ((c.tc : Thread Cert.Gru1.nD Cert.Gru1.τ).loc Cert.Gru1.main_arg2)
      ∧ r.2.mem ((c.tc : Thread Cert.Gru1.nD Cert.Gru1.τ).loc Cert.Gru1.main_arg3) = m ((c.tc : Thread Cert.Gru1.nD Cert.Gru1.τ).loc Cert.Gru1.main_arg3)
      ∧ r.2.mem ((c.tc : Thread Cert.Gru1.nD Cert.Gru1.τ).loc Cert.Gru1.main_arg4) = m ((c.tc : Thread Cert.Gru1.nD Cert.Gru1.τ).loc Cert.Gru1.main_arg4)
      ∧ r.2.mem ((c.tc : Thread Cert.Gru1.nD Cert.Gru1.τ).loc Cert.Gru1.main_arg5) = m ((c.tc : Thread Cert.Gru1.nD Cert.Gru1.τ).loc Cert.Gru1.main_arg5)
      ∧ r.2.mem ((c.tc : Thread Cert.Gru1.nD Cert.Gru1.τ).loc Cert.Gru1.main_arg6) = m ((c.tc : Thread Cert.Gru1.nD Cert.Gru1.τ).loc Cert.Gru1.main_arg6)
      ∧ r.2.mem ((c.tc : Thread Cert.Gru1.nD Cert.Gru1.τ).loc Cert.Gru1.main_arg7) = m ((c.tc : Thread Cert.Gru1.nD Cert.Gru1.τ).loc Cert.Gru1.main_arg7)
      ∧ r.2.mem ((c.tc : Thread Cert.Gru1.nD Cert.Gru1.τ).loc Cert.Gru1.main_arg8) = m ((c.tc : Thread Cert.Gru1.nD Cert.Gru1.τ).loc Cert.Gru1.main_arg8)
      ∧ r.2.mem ((c.tc : Thread Cert.Gru1.nD Cert.Gru1.τ).loc Cert.Gru1.main_arg9) = m ((c.tc : Thread Cert.Gru1.nD Cert.Gru1.τ).loc Cert.Gru1.main_arg9)
      ∧ r.2.mem ((c.tc : Thread Cert.Gru1.nD Cert.Gru1.τ).loc Cert.Gru1.main_arg10) = m ((c.tc : Thread Cert.Gru1.nD Cert.Gru1.τ).loc Cert.Gru1.main_arg10))
      ∧ r.2.sem = fun _ => 0)

def quiescent_Gru1Ideal [hGru1Ideal : Cert.Gru1Ideal.Facts] : Prop :=
  ∀ (m : (ℓ : Loc Cert.Gru1Ideal.nD Cert.Gru1Ideal.τ Cert.Gru1Ideal.sig) → Buf (Elt Ideal) ℓ) (g : Dev Cert.Gru1Ideal.nD → PrngReg), Pre_Gru1Ideal m →
    θ_run (Cert.Gru1Ideal.defs (F := Ideal)) (onTc (τ := Cert.Gru1Ideal.τ) (Cert.Gru1Ideal.main (F := Ideal))) ⟨m, fun _ => 0, g⟩ (fun r => (∀ c : Dev Cert.Gru1Ideal.nD,
      r.2.mem ((c.tc : Thread Cert.Gru1Ideal.nD Cert.Gru1Ideal.τ).loc Cert.Gru1Ideal.main_arg0) = m ((c.tc : Thread Cert.Gru1Ideal.nD Cert.Gru1Ideal.τ).loc Cert.Gru1Ideal.main_arg0)
      ∧ r.2.mem ((c.tc : Thread Cert.Gru1Ideal.nD Cert.Gru1Ideal.τ).loc Cert.Gru1Ideal.main_arg1) = m ((c.tc : Thread Cert.Gru1Ideal.nD Cert.Gru1Ideal.τ).loc Cert.Gru1Ideal.main_arg1)
      ∧ r.2.mem ((c.tc : Thread Cert.Gru1Ideal.nD Cert.Gru1Ideal.τ).loc Cert.Gru1Ideal.main_arg2) = m ((c.tc : Thread Cert.Gru1Ideal.nD Cert.Gru1Ideal.τ).loc Cert.Gru1Ideal.main_arg2)
      ∧ r.2.mem ((c.tc : Thread Cert.Gru1Ideal.nD Cert.Gru1Ideal.τ).loc Cert.Gru1Ideal.main_arg3) = m ((c.tc : Thread Cert.Gru1Ideal.nD Cert.Gru1Ideal.τ).loc Cert.Gru1Ideal.main_arg3)
      ∧ r.2.mem ((c.tc : Thread Cert.Gru1Ideal.nD Cert.Gru1Ideal.τ).loc Cert.Gru1Ideal.main_arg4) = m ((c.tc : Thread Cert.Gru1Ideal.nD Cert.Gru1Ideal.τ).loc Cert.Gru1Ideal.main_arg4)
      ∧ r.2.mem ((c.tc : Thread Cert.Gru1Ideal.nD Cert.Gru1Ideal.τ).loc Cert.Gru1Ideal.main_arg5) = m ((c.tc : Thread Cert.Gru1Ideal.nD Cert.Gru1Ideal.τ).loc Cert.Gru1Ideal.main_arg5)
      ∧ r.2.mem ((c.tc : Thread Cert.Gru1Ideal.nD Cert.Gru1Ideal.τ).loc Cert.Gru1Ideal.main_arg6) = m ((c.tc : Thread Cert.Gru1Ideal.nD Cert.Gru1Ideal.τ).loc Cert.Gru1Ideal.main_arg6)
      ∧ r.2.mem ((c.tc : Thread Cert.Gru1Ideal.nD Cert.Gru1Ideal.τ).loc Cert.Gru1Ideal.main_arg7) = m ((c.tc : Thread Cert.Gru1Ideal.nD Cert.Gru1Ideal.τ).loc Cert.Gru1Ideal.main_arg7)
      ∧ r.2.mem ((c.tc : Thread Cert.Gru1Ideal.nD Cert.Gru1Ideal.τ).loc Cert.Gru1Ideal.main_arg8) = m ((c.tc : Thread Cert.Gru1Ideal.nD Cert.Gru1Ideal.τ).loc Cert.Gru1Ideal.main_arg8)
      ∧ r.2.mem ((c.tc : Thread Cert.Gru1Ideal.nD Cert.Gru1Ideal.τ).loc Cert.Gru1Ideal.main_arg9) = m ((c.tc : Thread Cert.Gru1Ideal.nD Cert.Gru1Ideal.τ).loc Cert.Gru1Ideal.main_arg9)
      ∧ r.2.mem ((c.tc : Thread Cert.Gru1Ideal.nD Cert.Gru1Ideal.τ).loc Cert.Gru1Ideal.main_arg10) = m ((c.tc : Thread Cert.Gru1Ideal.nD Cert.Gru1Ideal.τ).loc Cert.Gru1Ideal.main_arg10))
      ∧ r.2.sem = fun _ => 0)

def quiescent_Gru1Ideal_pre_finite1 [hGru1Ideal : Cert.Gru1Ideal.Facts] [hPre_finite1 : Cert.Pre_finite1.Facts] : Prop :=
  ∀ (m : (ℓ : Loc Cert.Gru1Ideal.nD Cert.Gru1Ideal.τ Cert.Gru1Ideal.sig) → Buf (Elt Ideal) ℓ) (g : Dev Cert.Gru1Ideal.nD → PrngReg), Pre_Gru1Ideal_finite1 m →
    θ_run (Cert.Gru1Ideal.defs (F := Ideal)) (onTc (τ := Cert.Gru1Ideal.τ) (Cert.Gru1Ideal.main (F := Ideal))) ⟨m, fun _ => 0, g⟩ (fun r => (∀ c : Dev Cert.Gru1Ideal.nD,
      r.2.mem ((c.tc : Thread Cert.Gru1Ideal.nD Cert.Gru1Ideal.τ).loc Cert.Gru1Ideal.main_arg0) = m ((c.tc : Thread Cert.Gru1Ideal.nD Cert.Gru1Ideal.τ).loc Cert.Gru1Ideal.main_arg0)
      ∧ r.2.mem ((c.tc : Thread Cert.Gru1Ideal.nD Cert.Gru1Ideal.τ).loc Cert.Gru1Ideal.main_arg1) = m ((c.tc : Thread Cert.Gru1Ideal.nD Cert.Gru1Ideal.τ).loc Cert.Gru1Ideal.main_arg1)
      ∧ r.2.mem ((c.tc : Thread Cert.Gru1Ideal.nD Cert.Gru1Ideal.τ).loc Cert.Gru1Ideal.main_arg2) = m ((c.tc : Thread Cert.Gru1Ideal.nD Cert.Gru1Ideal.τ).loc Cert.Gru1Ideal.main_arg2)
      ∧ r.2.mem ((c.tc : Thread Cert.Gru1Ideal.nD Cert.Gru1Ideal.τ).loc Cert.Gru1Ideal.main_arg3) = m ((c.tc : Thread Cert.Gru1Ideal.nD Cert.Gru1Ideal.τ).loc Cert.Gru1Ideal.main_arg3)
      ∧ r.2.mem ((c.tc : Thread Cert.Gru1Ideal.nD Cert.Gru1Ideal.τ).loc Cert.Gru1Ideal.main_arg4) = m ((c.tc : Thread Cert.Gru1Ideal.nD Cert.Gru1Ideal.τ).loc Cert.Gru1Ideal.main_arg4)
      ∧ r.2.mem ((c.tc : Thread Cert.Gru1Ideal.nD Cert.Gru1Ideal.τ).loc Cert.Gru1Ideal.main_arg5) = m ((c.tc : Thread Cert.Gru1Ideal.nD Cert.Gru1Ideal.τ).loc Cert.Gru1Ideal.main_arg5)
      ∧ r.2.mem ((c.tc : Thread Cert.Gru1Ideal.nD Cert.Gru1Ideal.τ).loc Cert.Gru1Ideal.main_arg6) = m ((c.tc : Thread Cert.Gru1Ideal.nD Cert.Gru1Ideal.τ).loc Cert.Gru1Ideal.main_arg6)
      ∧ r.2.mem ((c.tc : Thread Cert.Gru1Ideal.nD Cert.Gru1Ideal.τ).loc Cert.Gru1Ideal.main_arg7) = m ((c.tc : Thread Cert.Gru1Ideal.nD Cert.Gru1Ideal.τ).loc Cert.Gru1Ideal.main_arg7)
      ∧ r.2.mem ((c.tc : Thread Cert.Gru1Ideal.nD Cert.Gru1Ideal.τ).loc Cert.Gru1Ideal.main_arg8) = m ((c.tc : Thread Cert.Gru1Ideal.nD Cert.Gru1Ideal.τ).loc Cert.Gru1Ideal.main_arg8)
      ∧ r.2.mem ((c.tc : Thread Cert.Gru1Ideal.nD Cert.Gru1Ideal.τ).loc Cert.Gru1Ideal.main_arg9) = m ((c.tc : Thread Cert.Gru1Ideal.nD Cert.Gru1Ideal.τ).loc Cert.Gru1Ideal.main_arg9)
      ∧ r.2.mem ((c.tc : Thread Cert.Gru1Ideal.nD Cert.Gru1Ideal.τ).loc Cert.Gru1Ideal.main_arg10) = m ((c.tc : Thread Cert.Gru1Ideal.nD Cert.Gru1Ideal.τ).loc Cert.Gru1Ideal.main_arg10))
      ∧ r.2.sem = fun _ => 0)

def quiescent_Gru1ReferenceIdeal [hGru1ReferenceIdeal : Cert.Gru1ReferenceIdeal.Facts] : Prop :=
  ∀ (m : (ℓ : Loc Cert.Gru1ReferenceIdeal.nD Cert.Gru1ReferenceIdeal.τ Cert.Gru1ReferenceIdeal.sig) → Buf (Elt Ideal) ℓ) (g : Dev Cert.Gru1ReferenceIdeal.nD → PrngReg), Pre_Gru1ReferenceIdeal m →
    θ_run (Cert.Gru1ReferenceIdeal.defs (F := Ideal)) (onTc (τ := Cert.Gru1ReferenceIdeal.τ) (Cert.Gru1ReferenceIdeal.main (F := Ideal))) ⟨m, fun _ => 0, g⟩ (fun r => (∀ c : Dev Cert.Gru1ReferenceIdeal.nD,
      r.2.mem ((c.tc : Thread Cert.Gru1ReferenceIdeal.nD Cert.Gru1ReferenceIdeal.τ).loc Cert.Gru1ReferenceIdeal.main_arg0) = m ((c.tc : Thread Cert.Gru1ReferenceIdeal.nD Cert.Gru1ReferenceIdeal.τ).loc Cert.Gru1ReferenceIdeal.main_arg0)
      ∧ r.2.mem ((c.tc : Thread Cert.Gru1ReferenceIdeal.nD Cert.Gru1ReferenceIdeal.τ).loc Cert.Gru1ReferenceIdeal.main_arg1) = m ((c.tc : Thread Cert.Gru1ReferenceIdeal.nD Cert.Gru1ReferenceIdeal.τ).loc Cert.Gru1ReferenceIdeal.main_arg1)
      ∧ r.2.mem ((c.tc : Thread Cert.Gru1ReferenceIdeal.nD Cert.Gru1ReferenceIdeal.τ).loc Cert.Gru1ReferenceIdeal.main_arg2) = m ((c.tc : Thread Cert.Gru1ReferenceIdeal.nD Cert.Gru1ReferenceIdeal.τ).loc Cert.Gru1ReferenceIdeal.main_arg2)
      ∧ r.2.mem ((c.tc : Thread Cert.Gru1ReferenceIdeal.nD Cert.Gru1ReferenceIdeal.τ).loc Cert.Gru1ReferenceIdeal.main_arg3) = m ((c.tc : Thread Cert.Gru1ReferenceIdeal.nD Cert.Gru1ReferenceIdeal.τ).loc Cert.Gru1ReferenceIdeal.main_arg3)
      ∧ r.2.mem ((c.tc : Thread Cert.Gru1ReferenceIdeal.nD Cert.Gru1ReferenceIdeal.τ).loc Cert.Gru1ReferenceIdeal.main_arg4) = m ((c.tc : Thread Cert.Gru1ReferenceIdeal.nD Cert.Gru1ReferenceIdeal.τ).loc Cert.Gru1ReferenceIdeal.main_arg4)
      ∧ r.2.mem ((c.tc : Thread Cert.Gru1ReferenceIdeal.nD Cert.Gru1ReferenceIdeal.τ).loc Cert.Gru1ReferenceIdeal.main_arg5) = m ((c.tc : Thread Cert.Gru1ReferenceIdeal.nD Cert.Gru1ReferenceIdeal.τ).loc Cert.Gru1ReferenceIdeal.main_arg5)
      ∧ r.2.mem ((c.tc : Thread Cert.Gru1ReferenceIdeal.nD Cert.Gru1ReferenceIdeal.τ).loc Cert.Gru1ReferenceIdeal.main_arg6) = m ((c.tc : Thread Cert.Gru1ReferenceIdeal.nD Cert.Gru1ReferenceIdeal.τ).loc Cert.Gru1ReferenceIdeal.main_arg6)
      ∧ r.2.mem ((c.tc : Thread Cert.Gru1ReferenceIdeal.nD Cert.Gru1ReferenceIdeal.τ).loc Cert.Gru1ReferenceIdeal.main_arg7) = m ((c.tc : Thread Cert.Gru1ReferenceIdeal.nD Cert.Gru1ReferenceIdeal.τ).loc Cert.Gru1ReferenceIdeal.main_arg7)
      ∧ r.2.mem ((c.tc : Thread Cert.Gru1ReferenceIdeal.nD Cert.Gru1ReferenceIdeal.τ).loc Cert.Gru1ReferenceIdeal.main_arg8) = m ((c.tc : Thread Cert.Gru1ReferenceIdeal.nD Cert.Gru1ReferenceIdeal.τ).loc Cert.Gru1ReferenceIdeal.main_arg8)
      ∧ r.2.mem ((c.tc : Thread Cert.Gru1ReferenceIdeal.nD Cert.Gru1ReferenceIdeal.τ).loc Cert.Gru1ReferenceIdeal.main_arg9) = m ((c.tc : Thread Cert.Gru1ReferenceIdeal.nD Cert.Gru1ReferenceIdeal.τ).loc Cert.Gru1ReferenceIdeal.main_arg9)
      ∧ r.2.mem ((c.tc : Thread Cert.Gru1ReferenceIdeal.nD Cert.Gru1ReferenceIdeal.τ).loc Cert.Gru1ReferenceIdeal.main_arg10) = m ((c.tc : Thread Cert.Gru1ReferenceIdeal.nD Cert.Gru1ReferenceIdeal.τ).loc Cert.Gru1ReferenceIdeal.main_arg10))
      ∧ r.2.sem = fun _ => 0)

def quiescent_Gru1ReferenceIdeal_pre_finite1 [hGru1ReferenceIdeal : Cert.Gru1ReferenceIdeal.Facts] [hPre_finite1 : Cert.Pre_finite1.Facts] : Prop :=
  ∀ (m : (ℓ : Loc Cert.Gru1ReferenceIdeal.nD Cert.Gru1ReferenceIdeal.τ Cert.Gru1ReferenceIdeal.sig) → Buf (Elt Ideal) ℓ) (g : Dev Cert.Gru1ReferenceIdeal.nD → PrngReg), Pre_Gru1ReferenceIdeal_finite1 m →
    θ_run (Cert.Gru1ReferenceIdeal.defs (F := Ideal)) (onTc (τ := Cert.Gru1ReferenceIdeal.τ) (Cert.Gru1ReferenceIdeal.main (F := Ideal))) ⟨m, fun _ => 0, g⟩ (fun r => (∀ c : Dev Cert.Gru1ReferenceIdeal.nD,
      r.2.mem ((c.tc : Thread Cert.Gru1ReferenceIdeal.nD Cert.Gru1ReferenceIdeal.τ).loc Cert.Gru1ReferenceIdeal.main_arg0) = m ((c.tc : Thread Cert.Gru1ReferenceIdeal.nD Cert.Gru1ReferenceIdeal.τ).loc Cert.Gru1ReferenceIdeal.main_arg0)
      ∧ r.2.mem ((c.tc : Thread Cert.Gru1ReferenceIdeal.nD Cert.Gru1ReferenceIdeal.τ).loc Cert.Gru1ReferenceIdeal.main_arg1) = m ((c.tc : Thread Cert.Gru1ReferenceIdeal.nD Cert.Gru1ReferenceIdeal.τ).loc Cert.Gru1ReferenceIdeal.main_arg1)
      ∧ r.2.mem ((c.tc : Thread Cert.Gru1ReferenceIdeal.nD Cert.Gru1ReferenceIdeal.τ).loc Cert.Gru1ReferenceIdeal.main_arg2) = m ((c.tc : Thread Cert.Gru1ReferenceIdeal.nD Cert.Gru1ReferenceIdeal.τ).loc Cert.Gru1ReferenceIdeal.main_arg2)
      ∧ r.2.mem ((c.tc : Thread Cert.Gru1ReferenceIdeal.nD Cert.Gru1ReferenceIdeal.τ).loc Cert.Gru1ReferenceIdeal.main_arg3) = m ((c.tc : Thread Cert.Gru1ReferenceIdeal.nD Cert.Gru1ReferenceIdeal.τ).loc Cert.Gru1ReferenceIdeal.main_arg3)
      ∧ r.2.mem ((c.tc : Thread Cert.Gru1ReferenceIdeal.nD Cert.Gru1ReferenceIdeal.τ).loc Cert.Gru1ReferenceIdeal.main_arg4) = m ((c.tc : Thread Cert.Gru1ReferenceIdeal.nD Cert.Gru1ReferenceIdeal.τ).loc Cert.Gru1ReferenceIdeal.main_arg4)
      ∧ r.2.mem ((c.tc : Thread Cert.Gru1ReferenceIdeal.nD Cert.Gru1ReferenceIdeal.τ).loc Cert.Gru1ReferenceIdeal.main_arg5) = m ((c.tc : Thread Cert.Gru1ReferenceIdeal.nD Cert.Gru1ReferenceIdeal.τ).loc Cert.Gru1ReferenceIdeal.main_arg5)
      ∧ r.2.mem ((c.tc : Thread Cert.Gru1ReferenceIdeal.nD Cert.Gru1ReferenceIdeal.τ).loc Cert.Gru1ReferenceIdeal.main_arg6) = m ((c.tc : Thread Cert.Gru1ReferenceIdeal.nD Cert.Gru1ReferenceIdeal.τ).loc Cert.Gru1ReferenceIdeal.main_arg6)
      ∧ r.2.mem ((c.tc : Thread Cert.Gru1ReferenceIdeal.nD Cert.Gru1ReferenceIdeal.τ).loc Cert.Gru1ReferenceIdeal.main_arg7) = m ((c.tc : Thread Cert.Gru1ReferenceIdeal.nD Cert.Gru1ReferenceIdeal.τ).loc Cert.Gru1ReferenceIdeal.main_arg7)
      ∧ r.2.mem ((c.tc : Thread Cert.Gru1ReferenceIdeal.nD Cert.Gru1ReferenceIdeal.τ).loc Cert.Gru1ReferenceIdeal.main_arg8) = m ((c.tc : Thread Cert.Gru1ReferenceIdeal.nD Cert.Gru1ReferenceIdeal.τ).loc Cert.Gru1ReferenceIdeal.main_arg8)
      ∧ r.2.mem ((c.tc : Thread Cert.Gru1ReferenceIdeal.nD Cert.Gru1ReferenceIdeal.τ).loc Cert.Gru1ReferenceIdeal.main_arg9) = m ((c.tc : Thread Cert.Gru1ReferenceIdeal.nD Cert.Gru1ReferenceIdeal.τ).loc Cert.Gru1ReferenceIdeal.main_arg9)
      ∧ r.2.mem ((c.tc : Thread Cert.Gru1ReferenceIdeal.nD Cert.Gru1ReferenceIdeal.τ).loc Cert.Gru1ReferenceIdeal.main_arg10) = m ((c.tc : Thread Cert.Gru1ReferenceIdeal.nD Cert.Gru1ReferenceIdeal.τ).loc Cert.Gru1ReferenceIdeal.main_arg10))
      ∧ r.2.sem = fun _ => 0)

def preserves_Augru_AugruIdeal : Prop :=
  True

def algebraic_AugruIdeal_AugruReferenceIdeal_pre_finite [hAugruIdeal : Cert.AugruIdeal.Facts] [hAugruReferenceIdeal : Cert.AugruReferenceIdeal.Facts] [hPre_finite : Cert.Pre_finite.Facts] : Prop :=
  ∀ (m : (ℓ : Loc Cert.AugruIdeal.nD Cert.AugruIdeal.τ Cert.AugruIdeal.sig) → Buf (Elt Ideal) ℓ) (g : Dev Cert.AugruIdeal.nD → PrngReg)
    (m' : (ℓ : Loc Cert.AugruReferenceIdeal.nD Cert.AugruReferenceIdeal.τ Cert.AugruReferenceIdeal.sig) → Buf (Elt Ideal) ℓ) (g' : Dev Cert.AugruReferenceIdeal.nD → PrngReg), Pre_AugruIdeal_finite m →
    (∀ c : Dev Cert.AugruIdeal.nD,
      m' ((c.tc : Thread Cert.AugruReferenceIdeal.nD Cert.AugruReferenceIdeal.τ).loc Cert.AugruReferenceIdeal.main_arg0) = m ((c.tc : Thread Cert.AugruIdeal.nD Cert.AugruIdeal.τ).loc Cert.AugruIdeal.main_arg0)
      ∧ m' ((c.tc : Thread Cert.AugruReferenceIdeal.nD Cert.AugruReferenceIdeal.τ).loc Cert.AugruReferenceIdeal.main_arg1) = m ((c.tc : Thread Cert.AugruIdeal.nD Cert.AugruIdeal.τ).loc Cert.AugruIdeal.main_arg1)
      ∧ m' ((c.tc : Thread Cert.AugruReferenceIdeal.nD Cert.AugruReferenceIdeal.τ).loc Cert.AugruReferenceIdeal.main_arg2) = m ((c.tc : Thread Cert.AugruIdeal.nD Cert.AugruIdeal.τ).loc Cert.AugruIdeal.main_arg2)
      ∧ m' ((c.tc : Thread Cert.AugruReferenceIdeal.nD Cert.AugruReferenceIdeal.τ).loc Cert.AugruReferenceIdeal.main_arg3) = m ((c.tc : Thread Cert.AugruIdeal.nD Cert.AugruIdeal.τ).loc Cert.AugruIdeal.main_arg3)
      ∧ m' ((c.tc : Thread Cert.AugruReferenceIdeal.nD Cert.AugruReferenceIdeal.τ).loc Cert.AugruReferenceIdeal.main_arg4) = m ((c.tc : Thread Cert.AugruIdeal.nD Cert.AugruIdeal.τ).loc Cert.AugruIdeal.main_arg4)
      ∧ m' ((c.tc : Thread Cert.AugruReferenceIdeal.nD Cert.AugruReferenceIdeal.τ).loc Cert.AugruReferenceIdeal.main_arg5) = m ((c.tc : Thread Cert.AugruIdeal.nD Cert.AugruIdeal.τ).loc Cert.AugruIdeal.main_arg5)
      ∧ m' ((c.tc : Thread Cert.AugruReferenceIdeal.nD Cert.AugruReferenceIdeal.τ).loc Cert.AugruReferenceIdeal.main_arg6) = m ((c.tc : Thread Cert.AugruIdeal.nD Cert.AugruIdeal.τ).loc Cert.AugruIdeal.main_arg6)
      ∧ m' ((c.tc : Thread Cert.AugruReferenceIdeal.nD Cert.AugruReferenceIdeal.τ).loc Cert.AugruReferenceIdeal.main_arg7) = m ((c.tc : Thread Cert.AugruIdeal.nD Cert.AugruIdeal.τ).loc Cert.AugruIdeal.main_arg7)
      ∧ m' ((c.tc : Thread Cert.AugruReferenceIdeal.nD Cert.AugruReferenceIdeal.τ).loc Cert.AugruReferenceIdeal.main_arg8) = m ((c.tc : Thread Cert.AugruIdeal.nD Cert.AugruIdeal.τ).loc Cert.AugruIdeal.main_arg8)) →
    ∃ (v0 : (c : Dev Cert.AugruIdeal.nD) → Buf (Elt Ideal) ((c.tc : Thread Cert.AugruIdeal.nD Cert.AugruIdeal.τ).loc Cert.AugruIdeal.main_v26_0)) (v1 : (c : Dev Cert.AugruIdeal.nD) → Buf (Elt Ideal) ((c.tc : Thread Cert.AugruIdeal.nD Cert.AugruIdeal.τ).loc Cert.AugruIdeal.main_v26_1)),
      θ_run (Cert.AugruIdeal.defs (F := Ideal)) (onTc (τ := Cert.AugruIdeal.τ) (Cert.AugruIdeal.main (F := Ideal))) ⟨m, fun _ => 0, g⟩ (fun r => ∀ c : Dev Cert.AugruIdeal.nD,
          r.2.mem ((c.tc : Thread Cert.AugruIdeal.nD Cert.AugruIdeal.τ).loc Cert.AugruIdeal.main_v26_0) = v0 c
          ∧ r.2.mem ((c.tc : Thread Cert.AugruIdeal.nD Cert.AugruIdeal.τ).loc Cert.AugruIdeal.main_v26_1) = v1 c
          ∧ r.2.mem ((c.tc : Thread Cert.AugruIdeal.nD Cert.AugruIdeal.τ).loc Cert.AugruIdeal.main_arg0) = m ((c.tc : Thread Cert.AugruIdeal.nD Cert.AugruIdeal.τ).loc Cert.AugruIdeal.main_arg0)
          ∧ r.2.mem ((c.tc : Thread Cert.AugruIdeal.nD Cert.AugruIdeal.τ).loc Cert.AugruIdeal.main_arg1) = m ((c.tc : Thread Cert.AugruIdeal.nD Cert.AugruIdeal.τ).loc Cert.AugruIdeal.main_arg1)
          ∧ r.2.mem ((c.tc : Thread Cert.AugruIdeal.nD Cert.AugruIdeal.τ).loc Cert.AugruIdeal.main_arg2) = m ((c.tc : Thread Cert.AugruIdeal.nD Cert.AugruIdeal.τ).loc Cert.AugruIdeal.main_arg2)
          ∧ r.2.mem ((c.tc : Thread Cert.AugruIdeal.nD Cert.AugruIdeal.τ).loc Cert.AugruIdeal.main_arg3) = m ((c.tc : Thread Cert.AugruIdeal.nD Cert.AugruIdeal.τ).loc Cert.AugruIdeal.main_arg3)
          ∧ r.2.mem ((c.tc : Thread Cert.AugruIdeal.nD Cert.AugruIdeal.τ).loc Cert.AugruIdeal.main_arg4) = m ((c.tc : Thread Cert.AugruIdeal.nD Cert.AugruIdeal.τ).loc Cert.AugruIdeal.main_arg4)
          ∧ r.2.mem ((c.tc : Thread Cert.AugruIdeal.nD Cert.AugruIdeal.τ).loc Cert.AugruIdeal.main_arg5) = m ((c.tc : Thread Cert.AugruIdeal.nD Cert.AugruIdeal.τ).loc Cert.AugruIdeal.main_arg5)
          ∧ r.2.mem ((c.tc : Thread Cert.AugruIdeal.nD Cert.AugruIdeal.τ).loc Cert.AugruIdeal.main_arg6) = m ((c.tc : Thread Cert.AugruIdeal.nD Cert.AugruIdeal.τ).loc Cert.AugruIdeal.main_arg6)
          ∧ r.2.mem ((c.tc : Thread Cert.AugruIdeal.nD Cert.AugruIdeal.τ).loc Cert.AugruIdeal.main_arg7) = m ((c.tc : Thread Cert.AugruIdeal.nD Cert.AugruIdeal.τ).loc Cert.AugruIdeal.main_arg7)
          ∧ r.2.mem ((c.tc : Thread Cert.AugruIdeal.nD Cert.AugruIdeal.τ).loc Cert.AugruIdeal.main_arg8) = m ((c.tc : Thread Cert.AugruIdeal.nD Cert.AugruIdeal.τ).loc Cert.AugruIdeal.main_arg8))
      ∧ θ_run (Cert.AugruReferenceIdeal.defs (F := Ideal)) (onTc (τ := Cert.AugruReferenceIdeal.τ) (Cert.AugruReferenceIdeal.main (F := Ideal))) ⟨m', fun _ => 0, g'⟩ (fun r => ∀ c : Dev Cert.AugruReferenceIdeal.nD,
          r.2.mem ((c.tc : Thread Cert.AugruReferenceIdeal.nD Cert.AugruReferenceIdeal.τ).loc Cert.AugruReferenceIdeal.main_v5_0) = v0 c
          ∧ r.2.mem ((c.tc : Thread Cert.AugruReferenceIdeal.nD Cert.AugruReferenceIdeal.τ).loc Cert.AugruReferenceIdeal.main_v5_1) = v1 c
          ∧ r.2.mem ((c.tc : Thread Cert.AugruReferenceIdeal.nD Cert.AugruReferenceIdeal.τ).loc Cert.AugruReferenceIdeal.main_arg0) = m' ((c.tc : Thread Cert.AugruReferenceIdeal.nD Cert.AugruReferenceIdeal.τ).loc Cert.AugruReferenceIdeal.main_arg0)
          ∧ r.2.mem ((c.tc : Thread Cert.AugruReferenceIdeal.nD Cert.AugruReferenceIdeal.τ).loc Cert.AugruReferenceIdeal.main_arg1) = m' ((c.tc : Thread Cert.AugruReferenceIdeal.nD Cert.AugruReferenceIdeal.τ).loc Cert.AugruReferenceIdeal.main_arg1)
          ∧ r.2.mem ((c.tc : Thread Cert.AugruReferenceIdeal.nD Cert.AugruReferenceIdeal.τ).loc Cert.AugruReferenceIdeal.main_arg2) = m' ((c.tc : Thread Cert.AugruReferenceIdeal.nD Cert.AugruReferenceIdeal.τ).loc Cert.AugruReferenceIdeal.main_arg2)
          ∧ r.2.mem ((c.tc : Thread Cert.AugruReferenceIdeal.nD Cert.AugruReferenceIdeal.τ).loc Cert.AugruReferenceIdeal.main_arg3) = m' ((c.tc : Thread Cert.AugruReferenceIdeal.nD Cert.AugruReferenceIdeal.τ).loc Cert.AugruReferenceIdeal.main_arg3)
          ∧ r.2.mem ((c.tc : Thread Cert.AugruReferenceIdeal.nD Cert.AugruReferenceIdeal.τ).loc Cert.AugruReferenceIdeal.main_arg4) = m' ((c.tc : Thread Cert.AugruReferenceIdeal.nD Cert.AugruReferenceIdeal.τ).loc Cert.AugruReferenceIdeal.main_arg4)
          ∧ r.2.mem ((c.tc : Thread Cert.AugruReferenceIdeal.nD Cert.AugruReferenceIdeal.τ).loc Cert.AugruReferenceIdeal.main_arg5) = m' ((c.tc : Thread Cert.AugruReferenceIdeal.nD Cert.AugruReferenceIdeal.τ).loc Cert.AugruReferenceIdeal.main_arg5)
          ∧ r.2.mem ((c.tc : Thread Cert.AugruReferenceIdeal.nD Cert.AugruReferenceIdeal.τ).loc Cert.AugruReferenceIdeal.main_arg6) = m' ((c.tc : Thread Cert.AugruReferenceIdeal.nD Cert.AugruReferenceIdeal.τ).loc Cert.AugruReferenceIdeal.main_arg6)
          ∧ r.2.mem ((c.tc : Thread Cert.AugruReferenceIdeal.nD Cert.AugruReferenceIdeal.τ).loc Cert.AugruReferenceIdeal.main_arg7) = m' ((c.tc : Thread Cert.AugruReferenceIdeal.nD Cert.AugruReferenceIdeal.τ).loc Cert.AugruReferenceIdeal.main_arg7)
          ∧ r.2.mem ((c.tc : Thread Cert.AugruReferenceIdeal.nD Cert.AugruReferenceIdeal.τ).loc Cert.AugruReferenceIdeal.main_arg8) = m' ((c.tc : Thread Cert.AugruReferenceIdeal.nD Cert.AugruReferenceIdeal.τ).loc Cert.AugruReferenceIdeal.main_arg8))

def preserves_Gru1_Gru1Ideal : Prop :=
  True

def algebraic_Gru1Ideal_Gru1ReferenceIdeal_pre_finite1 [hGru1Ideal : Cert.Gru1Ideal.Facts] [hGru1ReferenceIdeal : Cert.Gru1ReferenceIdeal.Facts] [hPre_finite1 : Cert.Pre_finite1.Facts] : Prop :=
  ∀ (m : (ℓ : Loc Cert.Gru1Ideal.nD Cert.Gru1Ideal.τ Cert.Gru1Ideal.sig) → Buf (Elt Ideal) ℓ) (g : Dev Cert.Gru1Ideal.nD → PrngReg)
    (m' : (ℓ : Loc Cert.Gru1ReferenceIdeal.nD Cert.Gru1ReferenceIdeal.τ Cert.Gru1ReferenceIdeal.sig) → Buf (Elt Ideal) ℓ) (g' : Dev Cert.Gru1ReferenceIdeal.nD → PrngReg), Pre_Gru1Ideal_finite1 m →
    (∀ c : Dev Cert.Gru1Ideal.nD,
      m' ((c.tc : Thread Cert.Gru1ReferenceIdeal.nD Cert.Gru1ReferenceIdeal.τ).loc Cert.Gru1ReferenceIdeal.main_arg0) = m ((c.tc : Thread Cert.Gru1Ideal.nD Cert.Gru1Ideal.τ).loc Cert.Gru1Ideal.main_arg0)
      ∧ m' ((c.tc : Thread Cert.Gru1ReferenceIdeal.nD Cert.Gru1ReferenceIdeal.τ).loc Cert.Gru1ReferenceIdeal.main_arg1) = m ((c.tc : Thread Cert.Gru1Ideal.nD Cert.Gru1Ideal.τ).loc Cert.Gru1Ideal.main_arg1)
      ∧ m' ((c.tc : Thread Cert.Gru1ReferenceIdeal.nD Cert.Gru1ReferenceIdeal.τ).loc Cert.Gru1ReferenceIdeal.main_arg2) = m ((c.tc : Thread Cert.Gru1Ideal.nD Cert.Gru1Ideal.τ).loc Cert.Gru1Ideal.main_arg2)
      ∧ m' ((c.tc : Thread Cert.Gru1ReferenceIdeal.nD Cert.Gru1ReferenceIdeal.τ).loc Cert.Gru1ReferenceIdeal.main_arg3) = m ((c.tc : Thread Cert.Gru1Ideal.nD Cert.Gru1Ideal.τ).loc Cert.Gru1Ideal.main_arg3)
      ∧ m' ((c.tc : Thread Cert.Gru1ReferenceIdeal.nD Cert.Gru1ReferenceIdeal.τ).loc Cert.Gru1ReferenceIdeal.main_arg4) = m ((c.tc : Thread Cert.Gru1Ideal.nD Cert.Gru1Ideal.τ).loc Cert.Gru1Ideal.main_arg4)
      ∧ m' ((c.tc : Thread Cert.Gru1ReferenceIdeal.nD Cert.Gru1ReferenceIdeal.τ).loc Cert.Gru1ReferenceIdeal.main_arg5) = m ((c.tc : Thread Cert.Gru1Ideal.nD Cert.Gru1Ideal.τ).loc Cert.Gru1Ideal.main_arg5)
      ∧ m' ((c.tc : Thread Cert.Gru1ReferenceIdeal.nD Cert.Gru1ReferenceIdeal.τ).loc Cert.Gru1ReferenceIdeal.main_arg6) = m ((c.tc : Thread Cert.Gru1Ideal.nD Cert.Gru1Ideal.τ).loc Cert.Gru1Ideal.main_arg6)
      ∧ m' ((c.tc : Thread Cert.Gru1ReferenceIdeal.nD Cert.Gru1ReferenceIdeal.τ).loc Cert.Gru1ReferenceIdeal.main_arg7) = m ((c.tc : Thread Cert.Gru1Ideal.nD Cert.Gru1Ideal.τ).loc Cert.Gru1Ideal.main_arg7)
      ∧ m' ((c.tc : Thread Cert.Gru1ReferenceIdeal.nD Cert.Gru1ReferenceIdeal.τ).loc Cert.Gru1ReferenceIdeal.main_arg8) = m ((c.tc : Thread Cert.Gru1Ideal.nD Cert.Gru1Ideal.τ).loc Cert.Gru1Ideal.main_arg8)
      ∧ m' ((c.tc : Thread Cert.Gru1ReferenceIdeal.nD Cert.Gru1ReferenceIdeal.τ).loc Cert.Gru1ReferenceIdeal.main_arg9) = m ((c.tc : Thread Cert.Gru1Ideal.nD Cert.Gru1Ideal.τ).loc Cert.Gru1Ideal.main_arg9)
      ∧ m' ((c.tc : Thread Cert.Gru1ReferenceIdeal.nD Cert.Gru1ReferenceIdeal.τ).loc Cert.Gru1ReferenceIdeal.main_arg10) = m ((c.tc : Thread Cert.Gru1Ideal.nD Cert.Gru1Ideal.τ).loc Cert.Gru1Ideal.main_arg10)) →
    ∃ (v0 : (c : Dev Cert.Gru1Ideal.nD) → Buf (Elt Ideal) ((c.tc : Thread Cert.Gru1Ideal.nD Cert.Gru1Ideal.τ).loc Cert.Gru1Ideal.main_v46_2)),
      θ_run (Cert.Gru1Ideal.defs (F := Ideal)) (onTc (τ := Cert.Gru1Ideal.τ) (Cert.Gru1Ideal.main (F := Ideal))) ⟨m, fun _ => 0, g⟩ (fun r => ∀ c : Dev Cert.Gru1Ideal.nD,
          r.2.mem ((c.tc : Thread Cert.Gru1Ideal.nD Cert.Gru1Ideal.τ).loc Cert.Gru1Ideal.main_v46_2) = v0 c
          ∧ r.2.mem ((c.tc : Thread Cert.Gru1Ideal.nD Cert.Gru1Ideal.τ).loc Cert.Gru1Ideal.main_arg0) = m ((c.tc : Thread Cert.Gru1Ideal.nD Cert.Gru1Ideal.τ).loc Cert.Gru1Ideal.main_arg0)
          ∧ r.2.mem ((c.tc : Thread Cert.Gru1Ideal.nD Cert.Gru1Ideal.τ).loc Cert.Gru1Ideal.main_arg1) = m ((c.tc : Thread Cert.Gru1Ideal.nD Cert.Gru1Ideal.τ).loc Cert.Gru1Ideal.main_arg1)
          ∧ r.2.mem ((c.tc : Thread Cert.Gru1Ideal.nD Cert.Gru1Ideal.τ).loc Cert.Gru1Ideal.main_arg2) = m ((c.tc : Thread Cert.Gru1Ideal.nD Cert.Gru1Ideal.τ).loc Cert.Gru1Ideal.main_arg2)
          ∧ r.2.mem ((c.tc : Thread Cert.Gru1Ideal.nD Cert.Gru1Ideal.τ).loc Cert.Gru1Ideal.main_arg3) = m ((c.tc : Thread Cert.Gru1Ideal.nD Cert.Gru1Ideal.τ).loc Cert.Gru1Ideal.main_arg3)
          ∧ r.2.mem ((c.tc : Thread Cert.Gru1Ideal.nD Cert.Gru1Ideal.τ).loc Cert.Gru1Ideal.main_arg4) = m ((c.tc : Thread Cert.Gru1Ideal.nD Cert.Gru1Ideal.τ).loc Cert.Gru1Ideal.main_arg4)
          ∧ r.2.mem ((c.tc : Thread Cert.Gru1Ideal.nD Cert.Gru1Ideal.τ).loc Cert.Gru1Ideal.main_arg5) = m ((c.tc : Thread Cert.Gru1Ideal.nD Cert.Gru1Ideal.τ).loc Cert.Gru1Ideal.main_arg5)
          ∧ r.2.mem ((c.tc : Thread Cert.Gru1Ideal.nD Cert.Gru1Ideal.τ).loc Cert.Gru1Ideal.main_arg6) = m ((c.tc : Thread Cert.Gru1Ideal.nD Cert.Gru1Ideal.τ).loc Cert.Gru1Ideal.main_arg6)
          ∧ r.2.mem ((c.tc : Thread Cert.Gru1Ideal.nD Cert.Gru1Ideal.τ).loc Cert.Gru1Ideal.main_arg7) = m ((c.tc : Thread Cert.Gru1Ideal.nD Cert.Gru1Ideal.τ).loc Cert.Gru1Ideal.main_arg7)
          ∧ r.2.mem ((c.tc : Thread Cert.Gru1Ideal.nD Cert.Gru1Ideal.τ).loc Cert.Gru1Ideal.main_arg8) = m ((c.tc : Thread Cert.Gru1Ideal.nD Cert.Gru1Ideal.τ).loc Cert.Gru1Ideal.main_arg8)
          ∧ r.2.mem ((c.tc : Thread Cert.Gru1Ideal.nD Cert.Gru1Ideal.τ).loc Cert.Gru1Ideal.main_arg9) = m ((c.tc : Thread Cert.Gru1Ideal.nD Cert.Gru1Ideal.τ).loc Cert.Gru1Ideal.main_arg9)
          ∧ r.2.mem ((c.tc : Thread Cert.Gru1Ideal.nD Cert.Gru1Ideal.τ).loc Cert.Gru1Ideal.main_arg10) = m ((c.tc : Thread Cert.Gru1Ideal.nD Cert.Gru1Ideal.τ).loc Cert.Gru1Ideal.main_arg10))
      ∧ θ_run (Cert.Gru1ReferenceIdeal.defs (F := Ideal)) (onTc (τ := Cert.Gru1ReferenceIdeal.τ) (Cert.Gru1ReferenceIdeal.main (F := Ideal))) ⟨m', fun _ => 0, g'⟩ (fun r => ∀ c : Dev Cert.Gru1ReferenceIdeal.nD,
          r.2.mem ((c.tc : Thread Cert.Gru1ReferenceIdeal.nD Cert.Gru1ReferenceIdeal.τ).loc Cert.Gru1ReferenceIdeal.main_v10) = v0 c
          ∧ r.2.mem ((c.tc : Thread Cert.Gru1ReferenceIdeal.nD Cert.Gru1ReferenceIdeal.τ).loc Cert.Gru1ReferenceIdeal.main_arg0) = m' ((c.tc : Thread Cert.Gru1ReferenceIdeal.nD Cert.Gru1ReferenceIdeal.τ).loc Cert.Gru1ReferenceIdeal.main_arg0)
          ∧ r.2.mem ((c.tc : Thread Cert.Gru1ReferenceIdeal.nD Cert.Gru1ReferenceIdeal.τ).loc Cert.Gru1ReferenceIdeal.main_arg1) = m' ((c.tc : Thread Cert.Gru1ReferenceIdeal.nD Cert.Gru1ReferenceIdeal.τ).loc Cert.Gru1ReferenceIdeal.main_arg1)
          ∧ r.2.mem ((c.tc : Thread Cert.Gru1ReferenceIdeal.nD Cert.Gru1ReferenceIdeal.τ).loc Cert.Gru1ReferenceIdeal.main_arg2) = m' ((c.tc : Thread Cert.Gru1ReferenceIdeal.nD Cert.Gru1ReferenceIdeal.τ).loc Cert.Gru1ReferenceIdeal.main_arg2)
          ∧ r.2.mem ((c.tc : Thread Cert.Gru1ReferenceIdeal.nD Cert.Gru1ReferenceIdeal.τ).loc Cert.Gru1ReferenceIdeal.main_arg3) = m' ((c.tc : Thread Cert.Gru1ReferenceIdeal.nD Cert.Gru1ReferenceIdeal.τ).loc Cert.Gru1ReferenceIdeal.main_arg3)
          ∧ r.2.mem ((c.tc : Thread Cert.Gru1ReferenceIdeal.nD Cert.Gru1ReferenceIdeal.τ).loc Cert.Gru1ReferenceIdeal.main_arg4) = m' ((c.tc : Thread Cert.Gru1ReferenceIdeal.nD Cert.Gru1ReferenceIdeal.τ).loc Cert.Gru1ReferenceIdeal.main_arg4)
          ∧ r.2.mem ((c.tc : Thread Cert.Gru1ReferenceIdeal.nD Cert.Gru1ReferenceIdeal.τ).loc Cert.Gru1ReferenceIdeal.main_arg5) = m' ((c.tc : Thread Cert.Gru1ReferenceIdeal.nD Cert.Gru1ReferenceIdeal.τ).loc Cert.Gru1ReferenceIdeal.main_arg5)
          ∧ r.2.mem ((c.tc : Thread Cert.Gru1ReferenceIdeal.nD Cert.Gru1ReferenceIdeal.τ).loc Cert.Gru1ReferenceIdeal.main_arg6) = m' ((c.tc : Thread Cert.Gru1ReferenceIdeal.nD Cert.Gru1ReferenceIdeal.τ).loc Cert.Gru1ReferenceIdeal.main_arg6)
          ∧ r.2.mem ((c.tc : Thread Cert.Gru1ReferenceIdeal.nD Cert.Gru1ReferenceIdeal.τ).loc Cert.Gru1ReferenceIdeal.main_arg7) = m' ((c.tc : Thread Cert.Gru1ReferenceIdeal.nD Cert.Gru1ReferenceIdeal.τ).loc Cert.Gru1ReferenceIdeal.main_arg7)
          ∧ r.2.mem ((c.tc : Thread Cert.Gru1ReferenceIdeal.nD Cert.Gru1ReferenceIdeal.τ).loc Cert.Gru1ReferenceIdeal.main_arg8) = m' ((c.tc : Thread Cert.Gru1ReferenceIdeal.nD Cert.Gru1ReferenceIdeal.τ).loc Cert.Gru1ReferenceIdeal.main_arg8)
          ∧ r.2.mem ((c.tc : Thread Cert.Gru1ReferenceIdeal.nD Cert.Gru1ReferenceIdeal.τ).loc Cert.Gru1ReferenceIdeal.main_arg9) = m' ((c.tc : Thread Cert.Gru1ReferenceIdeal.nD Cert.Gru1ReferenceIdeal.τ).loc Cert.Gru1ReferenceIdeal.main_arg9)
          ∧ r.2.mem ((c.tc : Thread Cert.Gru1ReferenceIdeal.nD Cert.Gru1ReferenceIdeal.τ).loc Cert.Gru1ReferenceIdeal.main_arg10) = m' ((c.tc : Thread Cert.Gru1ReferenceIdeal.nD Cert.Gru1ReferenceIdeal.τ).loc Cert.Gru1ReferenceIdeal.main_arg10))

def Claim : Prop :=
  ∃ (hAugru : Cert.Augru.Facts) (hAugruIdeal : Cert.AugruIdeal.Facts) (hAugruReferenceIdeal : Cert.AugruReferenceIdeal.Facts) (hGru1 : Cert.Gru1.Facts) (hGru1Ideal : Cert.Gru1Ideal.Facts) (hGru1ReferenceIdeal : Cert.Gru1ReferenceIdeal.Facts) (hPre_finite : Cert.Pre_finite.Facts) (hPre_finite1 : Cert.Pre_finite1.Facts),
    quiescent_Augru (hAugru := hAugru)
    ∧ quiescent_AugruIdeal (hAugruIdeal := hAugruIdeal)
    ∧ quiescent_AugruIdeal_pre_finite (hAugruIdeal := hAugruIdeal) (hPre_finite := hPre_finite)
    ∧ quiescent_AugruReferenceIdeal (hAugruReferenceIdeal := hAugruReferenceIdeal)
    ∧ quiescent_AugruReferenceIdeal_pre_finite (hAugruReferenceIdeal := hAugruReferenceIdeal) (hPre_finite := hPre_finite)
    ∧ quiescent_Gru1 (hGru1 := hGru1)
    ∧ quiescent_Gru1Ideal (hGru1Ideal := hGru1Ideal)
    ∧ quiescent_Gru1Ideal_pre_finite1 (hGru1Ideal := hGru1Ideal) (hPre_finite1 := hPre_finite1)
    ∧ quiescent_Gru1ReferenceIdeal (hGru1ReferenceIdeal := hGru1ReferenceIdeal)
    ∧ quiescent_Gru1ReferenceIdeal_pre_finite1 (hGru1ReferenceIdeal := hGru1ReferenceIdeal) (hPre_finite1 := hPre_finite1)
    ∧ preserves_Augru_AugruIdeal
    ∧ algebraic_AugruIdeal_AugruReferenceIdeal_pre_finite (hAugruIdeal := hAugruIdeal) (hAugruReferenceIdeal := hAugruReferenceIdeal) (hPre_finite := hPre_finite)
    ∧ preserves_Gru1_Gru1Ideal
    ∧ algebraic_Gru1Ideal_Gru1ReferenceIdeal_pre_finite1 (hGru1Ideal := hGru1Ideal) (hGru1ReferenceIdeal := hGru1ReferenceIdeal) (hPre_finite1 := hPre_finite1)
-- ==== Pre_finite.lean ====
abbrev S512x240x128 : Shape := ⟨3, ![512, 240, 128]⟩
abbrev S240x512 : Shape := ⟨2, ![240, 512]⟩
abbrev S240 : Shape := ⟨1, ![240]⟩
abbrev S96x3x96 : Shape := ⟨3, ![96, 3, 96]⟩
abbrev S3x96 : Shape := ⟨2, ![3, 96]⟩
abbrev S_ : Shape := ⟨0, ![]⟩
abbrev S96x1x96 : Shape := ⟨3, ![96, 1, 96]⟩
abbrev S96x96 : Shape := ⟨2, ![96, 96]⟩
abbrev S1x96 : Shape := ⟨2, ![1, 96]⟩
abbrev S96 : Shape := ⟨1, ![96]⟩

class Facts : Prop where
  bcast_S_S240x512 : S_.BroadcastsInDim S240x512 (![] : Fin 0 → Fin S240x512.rank)
  bcast_S_S240 : S_.BroadcastsInDim S240 (![] : Fin 0 → Fin S240.rank)
  slices_S96x3x96_S96x1x96_0_2_0 : S96x3x96.Slices ![0, 2, 0] S96x1x96
  shapeCasts_S96x1x96_S96x96 : S96x1x96.ShapeCasts S96x96
  bcast_S_S96x96 : S_.BroadcastsInDim S96x96 (![] : Fin 0 → Fin S96x96.rank)
  slices_S3x96_S1x96_2_0 : S3x96.Slices ![2, 0] S1x96
  shapeCasts_S1x96_S96 : S1x96.ShapeCasts S96
  bcast_S_S96 : S_.BroadcastsInDim S96 (![] : Fin 0 → Fin S96.rank)

variable [Facts]

def fn_part1 {F : FTy → Type} [FloatOps F] (main_arg8 : FVec F S3x96 .f32) (main_v4 : IVec S240x512 1) (main_v6 : IVec S240 1) (main_v13 : IVec S96x96 1) (main_v15 : FVec F S96 .f32) (main_v17 : IVec S96 1) : IVec S240x512 1 × IVec S240 1 × IVec S96x96 1 × IVec S96 1 × IVec S96 1 :=
  let main_cst_4 : FVec F S_ .f32 := constant S_ .f32 0x7F800000#32
  let main_v18 : FVec F S96 .f32 := broadcastInDim S96 ![] bcast_S_S96 main_cst_4
  let main_v19 : IVec S96 1 := cmpf .olt main_v15 main_v18
  let main_v20 : IVec S96 1 := andi main_v17 main_v19
  let main_v21 : FVec F S1x96 .f32 := (extractStridedSlice S1x96 ![2, 0] · slices_S3x96_S1x96_2_0) main_arg8
  let main_v22 : FVec F S96 .f32 := shapeCast S96 main_v21 shapeCasts_S1x96_S96
  let main_cst_5 : FVec F S_ .f32 := constant S_ .f32 0xFF800000#32
  let main_v23 : FVec F S96 .f32 := broadcastInDim S96 ![] bcast_S_S96 main_cst_5
  let main_v24 : IVec S96 1 := cmpf .ogt main_v22 main_v23
  let main_cst_6 : FVec F S_ .f32 := constant S_ .f32 0x7F800000#32
  let main_v25 : FVec F S96 .f32 := broadcastInDim S96 ![] bcast_S_S96 main_cst_6
  let main_v26 : IVec S96 1 := cmpf .olt main_v22 main_v25
  let main_v27 : IVec S96 1 := andi main_v24 main_v26
  (main_v4, main_v6, main_v13, main_v20, main_v27)

def fn {F : FTy → Type} [FloatOps F] (main_arg0 : FVec F S512x240x128 .bf16) (main_arg1 : FVec F S240x512 .f32) (main_arg2 : IVec S240 32) (main_arg3 : FVec F S96x3x96 .fp8e4m3) (main_arg4 : FVec F S3x96 .f32) (main_arg5 : FVec F S96x3x96 .f32) (main_arg6 : FVec F S3x96 .f32) (main_arg7 : FVec F S3x96 .f32) (main_arg8 : FVec F S3x96 .f32) : IVec S240x512 1 × IVec S240 1 × IVec S96x96 1 × IVec S96 1 × IVec S96 1 :=
  let main_cst : FVec F S_ .f32 := constant S_ .f32 0xFF800000#32
  let main_v0 : FVec F S240x512 .f32 := broadcastInDim S240x512 ![] bcast_S_S240x512 main_cst
  let main_v1 : IVec S240x512 1 := cmpf .ogt main_arg1 main_v0
  let main_cst_0 : FVec F S_ .f32 := constant S_ .f32 0x7F800000#32
  let main_v2 : FVec F S240x512 .f32 := broadcastInDim S240x512 ![] bcast_S_S240x512 main_cst_0
  let main_v3 : IVec S240x512 1 := cmpf .olt main_arg1 main_v2
  let main_v4 : IVec S240x512 1 := andi main_v1 main_v3
  let main_c : IVec S_ 32 := constantI S_ 32 1#32
  let main_v5 : IVec S240 32 := broadcastInDim S240 ![] bcast_S_S240 main_c
  let main_v6 : IVec S240 1 := cmpi .sge main_arg2 main_v5
  let main_v7 : FVec F S96x1x96 .f32 := (extractStridedSlice S96x1x96 ![0, 2, 0] · slices_S96x3x96_S96x1x96_0_2_0) main_arg5
  let main_v8 : FVec F S96x96 .f32 := shapeCast S96x96 main_v7 shapeCasts_S96x1x96_S96x96
  let main_cst_1 : FVec F S_ .f32 := constant S_ .f32 0xFF800000#32
  let main_v9 : FVec F S96x96 .f32 := broadcastInDim S96x96 ![] bcast_S_S96x96 main_cst_1
  let main_v10 : IVec S96x96 1 := cmpf .ogt main_v8 main_v9
  let main_cst_2 : FVec F S_ .f32 := constant S_ .f32 0x7F800000#32
  let main_v11 : FVec F S96x96 .f32 := broadcastInDim S96x96 ![] bcast_S_S96x96 main_cst_2
  let main_v12 : IVec S96x96 1 := cmpf .olt main_v8 main_v11
  let main_v13 : IVec S96x96 1 := andi main_v10 main_v12
  let main_v14 : FVec F S1x96 .f32 := (extractStridedSlice S1x96 ![2, 0] · slices_S3x96_S1x96_2_0) main_arg6
  let main_v15 : FVec F S96 .f32 := shapeCast S96 main_v14 shapeCasts_S1x96_S96
  let main_cst_3 : FVec F S_ .f32 := constant S_ .f32 0xFF800000#32
  let main_v16 : FVec F S96 .f32 := broadcastInDim S96 ![] bcast_S_S96 main_cst_3
  let main_v17 : IVec S96 1 := cmpf .ogt main_v15 main_v16
  fn_part1 (F := F) main_arg8 main_v4 main_v6 main_v13 main_v15 main_v17
-- ==== Pre_finite1.lean ====
abbrev S512x4x120x128 : Shape := ⟨4, ![512, 4, 120, 128]⟩
abbrev S240 : Shape := ⟨1, ![240]⟩
abbrev S2x240x128 : Shape := ⟨3, ![2, 240, 128]⟩
abbrev S480 : Shape := ⟨1, ![480]⟩
abbrev S2x224x3x96 : Shape := ⟨4, ![2, 224, 3, 96]⟩
abbrev S3x96 : Shape := ⟨2, ![3, 96]⟩
abbrev S96x3x96 : Shape := ⟨3, ![96, 3, 96]⟩
abbrev S96x2x224 : Shape := ⟨3, ![96, 2, 224]⟩
abbrev S96x1x96 : Shape := ⟨3, ![96, 1, 96]⟩
abbrev S96x96 : Shape := ⟨2, ![96, 96]⟩
abbrev S_ : Shape := ⟨0, ![]⟩
abbrev S1x96 : Shape := ⟨2, ![1, 96]⟩
abbrev S96 : Shape := ⟨1, ![96]⟩

class Facts : Prop where
  slices_S96x3x96_S96x1x96_0_2_0 : S96x3x96.Slices ![0, 2, 0] S96x1x96
  shapeCasts_S96x1x96_S96x96 : S96x1x96.ShapeCasts S96x96
  bcast_S_S96x96 : S_.BroadcastsInDim S96x96 (![] : Fin 0 → Fin S96x96.rank)
  slices_S3x96_S1x96_2_0 : S3x96.Slices ![2, 0] S1x96
  shapeCasts_S1x96_S96 : S1x96.ShapeCasts S96
  bcast_S_S96 : S_.BroadcastsInDim S96 (![] : Fin 0 → Fin S96.rank)

variable [Facts]

def fn_part1 {F : FTy → Type} [FloatOps F] (main_v6 : IVec S96x96 1) (main_v13 : IVec S96 1) (main_v15 : FVec F S96 .f32) (main_v17 : IVec S96 1) (main_cst_4 : FVec F S_ .f32) : IVec S96x96 1 × IVec S96 1 × IVec S96 1 :=
  let main_v18 : FVec F S96 .f32 := broadcastInDim S96 ![] bcast_S_S96 main_cst_4
  let main_v19 : IVec S96 1 := cmpf .olt main_v15 main_v18
  let main_v20 : IVec S96 1 := andi main_v17 main_v19
  (main_v6, main_v13, main_v20)

def fn {F : FTy → Type} [FloatOps F] (main_arg0 : IVec S512x4x120x128 32) (main_arg1 : IVec S240 32) (main_arg2 : IVec S2x240x128 32) (main_arg3 : FVec F S480 .f32) (main_arg4 : FVec F S2x224x3x96 .fp8e4m3) (main_arg5 : FVec F S3x96 .f32) (main_arg6 : FVec F S96x3x96 .f32) (main_arg7 : FVec F S3x96 .f32) (main_arg8 : FVec F S3x96 .f32) (main_arg9 : FVec F S3x96 .f32) (main_arg10 : FVec F S96x2x224 .f32) : IVec S96x96 1 × IVec S96 1 × IVec S96 1 :=
  let main_v0 : FVec F S96x1x96 .f32 := (extractStridedSlice S96x1x96 ![0, 2, 0] · slices_S96x3x96_S96x1x96_0_2_0) main_arg6
  let main_v1 : FVec F S96x96 .f32 := shapeCast S96x96 main_v0 shapeCasts_S96x1x96_S96x96
  let main_cst : FVec F S_ .f32 := constant S_ .f32 0xFF800000#32
  let main_v2 : FVec F S96x96 .f32 := broadcastInDim S96x96 ![] bcast_S_S96x96 main_cst
  let main_v3 : IVec S96x96 1 := cmpf .ogt main_v1 main_v2
  let main_cst_0 : FVec F S_ .f32 := constant S_ .f32 0x7F800000#32
  let main_v4 : FVec F S96x96 .f32 := broadcastInDim S96x96 ![] bcast_S_S96x96 main_cst_0
  let main_v5 : IVec S96x96 1 := cmpf .olt main_v1 main_v4
  let main_v6 : IVec S96x96 1 := andi main_v3 main_v5
  let main_v7 : FVec F S1x96 .f32 := (extractStridedSlice S1x96 ![2, 0] · slices_S3x96_S1x96_2_0) main_arg7
  let main_v8 : FVec F S96 .f32 := shapeCast S96 main_v7 shapeCasts_S1x96_S96
  let main_cst_1 : FVec F S_ .f32 := constant S_ .f32 0xFF800000#32
  let main_v9 : FVec F S96 .f32 := broadcastInDim S96 ![] bcast_S_S96 main_cst_1
  let main_v10 : IVec S96 1 := cmpf .ogt main_v8 main_v9
  let main_cst_2 : FVec F S_ .f32 := constant S_ .f32 0x7F800000#32
  let main_v11 : FVec F S96 .f32 := broadcastInDim S96 ![] bcast_S_S96 main_cst_2
  let main_v12 : IVec S96 1 := cmpf .olt main_v8 main_v11
  let main_v13 : IVec S96 1 := andi main_v10 main_v12
  let main_v14 : FVec F S1x96 .f32 := (extractStridedSlice S1x96 ![2, 0] · slices_S3x96_S1x96_2_0) main_arg9
  let main_v15 : FVec F S96 .f32 := shapeCast S96 main_v14 shapeCasts_S1x96_S96
  let main_cst_3 : FVec F S_ .f32 := constant S_ .f32 0xFF800000#32
  let main_v16 : FVec F S96 .f32 := broadcastInDim S96 ![] bcast_S_S96 main_cst_3
  let main_v17 : IVec S96 1 := cmpf .ogt main_v15 main_v16
  let main_cst_4 : FVec F S_ .f32 := constant S_ .f32 0x7F800000#32
  fn_part1 (F := F) main_v6 main_v13 main_v15 main_v17 main_cst_4
-- ==== Augru.lean ====
abbrev S512x240x128 : Shape := ⟨3, ![512, 240, 128]⟩
abbrev S240x512 : Shape := ⟨2, ![240, 512]⟩
abbrev S240 : Shape := ⟨1, ![240]⟩
abbrev S96x3x96 : Shape := ⟨3, ![96, 3, 96]⟩
abbrev S3x96 : Shape := ⟨2, ![3, 96]⟩
abbrev S3 : Shape := ⟨1, ![3]⟩
abbrev S240x1 : Shape := ⟨2, ![240, 1]⟩
abbrev S240x128 : Shape := ⟨2, ![240, 128]⟩
abbrev S3x1 : Shape := ⟨2, ![3, 1]⟩
abbrev S1x3x96 : Shape := ⟨3, ![1, 3, 96]⟩
abbrev S_ : Shape := ⟨0, ![]⟩
abbrev S1x3x128 : Shape := ⟨3, ![1, 3, 128]⟩
abbrev S1x384 : Shape := ⟨2, ![1, 384]⟩
abbrev S3x128 : Shape := ⟨2, ![3, 128]⟩
abbrev S96x288 : Shape := ⟨2, ![96, 288]⟩
abbrev S240x96 : Shape := ⟨2, ![240, 96]⟩
abbrev S8x240x128 : Shape := ⟨3, ![8, 240, 128]⟩
abbrev S8x240x384 : Shape := ⟨3, ![8, 240, 384]⟩
abbrev S128x384 : Shape := ⟨2, ![128, 384]⟩
abbrev S96x96 : Shape := ⟨2, ![96, 96]⟩
abbrev S32x96 : Shape := ⟨2, ![32, 96]⟩
abbrev S128x96 : Shape := ⟨2, ![128, 96]⟩
abbrev S128x32 : Shape := ⟨2, ![128, 32]⟩
abbrev S128x128 : Shape := ⟨2, ![128, 128]⟩
abbrev S1x240x384 : Shape := ⟨3, ![1, 240, 384]⟩
abbrev S240x384 : Shape := ⟨2, ![240, 384]⟩
abbrev S1x128 : Shape := ⟨2, ![1, 128]⟩
abbrev S1x240x128 : Shape := ⟨3, ![1, 240, 128]⟩

abbrev nBuf : Space → Nat
  | .hbm => 49
  | .vmem => 16
  | .smem => 0
  | _ => 0

abbrev bufTy : (tb : Table) → Fin (tcTables nBuf tb) → BufTy
  | .hbm, ⟨0, _⟩ => ⟨S512x240x128, .bf16⟩
  | .hbm, ⟨1, _⟩ => ⟨S240x512, .f32⟩
  | .hbm, ⟨2, _⟩ => ⟨S240, .i32⟩
  | .hbm, ⟨3, _⟩ => ⟨S96x3x96, .fp8e4m3⟩
  | .hbm, ⟨4, _⟩ => ⟨S3x96, .f32⟩
  | .hbm, ⟨5, _⟩ => ⟨S96x3x96, .f32⟩
  | .hbm, ⟨6, _⟩ => ⟨S3x96, .f32⟩
  | .hbm, ⟨7, _⟩ => ⟨S3x96, .f32⟩
  | .hbm, ⟨8, _⟩ => ⟨S3x96, .f32⟩
  | .hbm, ⟨9, _⟩ => ⟨S3, .f32⟩
  | .hbm, ⟨10, _⟩ => ⟨S3, .f32⟩
  | .hbm, ⟨11, _⟩ => ⟨S240x1, .i32⟩
  | .hbm, ⟨12, _⟩ => ⟨S240x128, .i32⟩
  | .hbm, ⟨13, _⟩ => ⟨S3x1, .f32⟩
  | .hbm, ⟨14, _⟩ => ⟨S3x1, .f32⟩
  | .hbm, ⟨15, _⟩ => ⟨S3x96, .f32⟩
  | .hbm, ⟨16, _⟩ => ⟨S3x96, .f32⟩
  | .hbm, ⟨17, _⟩ => ⟨S1x3x96, .f32⟩
  | .hbm, ⟨18, _⟩ => ⟨S_, .i32⟩
  | .hbm, ⟨19, _⟩ => ⟨S_, .f32⟩
  | .hbm, ⟨20, _⟩ => ⟨S1x3x128, .f32⟩
  | .hbm, ⟨21, _⟩ => ⟨S1x384, .f32⟩
  | .hbm, ⟨22, _⟩ => ⟨S3x96, .f32⟩
  | .hbm, ⟨23, _⟩ => ⟨S3x96, .f32⟩
  | .hbm, ⟨24, _⟩ => ⟨S3x96, .f32⟩
  | .hbm, ⟨25, _⟩ => ⟨S3x96, .f32⟩
  | .hbm, ⟨26, _⟩ => ⟨S3x96, .f32⟩
  | .hbm, ⟨27, _⟩ => ⟨S1x3x96, .f32⟩
  | .hbm, ⟨28, _⟩ => ⟨S_, .i32⟩
  | .hbm, ⟨29, _⟩ => ⟨S_, .f32⟩
  | .hbm, ⟨30, _⟩ => ⟨S1x3x128, .f32⟩
  | .hbm, ⟨31, _⟩ => ⟨S1x384, .f32⟩
  | .hbm, ⟨32, _⟩ => ⟨S_, .f32⟩
  | .hbm, ⟨33, _⟩ => ⟨S3x96, .f32⟩
  | .hbm, ⟨34, _⟩ => ⟨S3x96, .f32⟩
  | .hbm, ⟨35, _⟩ => ⟨S_, .i32⟩
  | .hbm, ⟨36, _⟩ => ⟨S_, .f32⟩
  | .hbm, ⟨37, _⟩ => ⟨S3x128, .f32⟩
  | .hbm, ⟨38, _⟩ => ⟨S_, .f32⟩
  | .hbm, ⟨39, _⟩ => ⟨S3x96, .f32⟩
  | .hbm, ⟨40, _⟩ => ⟨S3x96, .f32⟩
  | .hbm, ⟨41, _⟩ => ⟨S_, .i32⟩
  | .hbm, ⟨42, _⟩ => ⟨S_, .f32⟩
  | .hbm, ⟨43, _⟩ => ⟨S3x128, .f32⟩
  | .hbm, ⟨44, _⟩ => ⟨S96x3x96, .fp8e4m3⟩
  | .hbm, ⟨45, _⟩ => ⟨S96x288, .fp8e4m3⟩
  | .hbm, ⟨46, _⟩ => ⟨S96x288, .fp8e4m3⟩
  | .hbm, ⟨47, _⟩ => ⟨S240x96, .bf16⟩
  | .hbm, ⟨48, _⟩ => ⟨S240x512, .f32⟩
  | .local _ .vmem, ⟨0, _⟩ => ⟨S8x240x128, .bf16⟩
  | .local _ .vmem, ⟨1, _⟩ => ⟨S8x240x128, .bf16⟩
  | .local _ .vmem, ⟨2, _⟩ => ⟨S240x512, .f32⟩
  | .local _ .vmem, ⟨3, _⟩ => ⟨S240x128, .i32⟩
  | .local _ .vmem, ⟨4, _⟩ => ⟨S96x288, .fp8e4m3⟩
  | .local _ .vmem, ⟨5, _⟩ => ⟨S1x384, .f32⟩
  | .local _ .vmem, ⟨6, _⟩ => ⟨S1x384, .f32⟩
  | .local _ .vmem, ⟨7, _⟩ => ⟨S96x288, .fp8e4m3⟩
  | .local _ .vmem, ⟨8, _⟩ => ⟨S3x128, .f32⟩
  | .local _ .vmem, ⟨9, _⟩ => ⟨S3x128, .f32⟩
  | .local _ .vmem, ⟨10, _⟩ => ⟨S240x96, .bf16⟩
  | .local _ .vmem, ⟨11, _⟩ => ⟨S240x512, .f32⟩
  | .local _ .vmem, ⟨12, _⟩ => ⟨S8x240x384, .f32⟩
  | .local _ .vmem, ⟨13, _⟩ => ⟨S128x384, .bf16⟩
  | .local _ .vmem, ⟨14, _⟩ => ⟨S128x384, .bf16⟩
  | .local _ .vmem, ⟨15, _⟩ => ⟨S240x128, .f32⟩
  | _, _ => ⟨S512x240x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_call2_v0 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_call3_v0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![65], ![false]⟩

def k0_mult1 (i : grid0.Coords) : BitVec 32 :=
  let arg0 : BitVec 32 := BitVec.ofNat 32 (i 0).val
  let c1_i32 : BitVec 32 := 1#32
  let v3 : BitVec 32 := Scalar.subi arg0 c1_i32
  let c8_i32 : BitVec 32 := 8#32
  let v4 : BitVec 32 := Scalar.muli v3 c8_i32
  let c0_i32_1 : BitVec 32 := 0#32
  let v5 : BitVec 32 := Scalar.maxsi v4 c0_i32_1
  let c0_i32_2 : BitVec 32 := 0#32
  let v8 : BitVec 1 := Scalar.cmpi .sgt v5 c0_i32_2
  let v9 : BitVec 32 := Scalar.extui v8
  let c0_i32_3 : BitVec 32 := 0#32
  let v10 : BitVec 1 := Scalar.cmpi .slt v5 c0_i32_3
  let v11 : BitVec 32 := Scalar.extui v10
  let v12 : BitVec 32 := Scalar.subi v9 v11
  let c128_i32 : BitVec 32 := 128#32
  let c0_i32_4 : BitVec 32 := 0#32
  let v13 : BitVec 1 := Scalar.cmpi .sgt c128_i32 c0_i32_4
  let v14 : BitVec 32 := Scalar.extui v13
  let c0_i32_5 : BitVec 32 := 0#32
  let v15 : BitVec 1 := Scalar.cmpi .slt c128_i32 c0_i32_5
  let v16 : BitVec 32 := Scalar.extui v15
  let v17 : BitVec 32 := Scalar.subi v14 v16
  let v18 : BitVec 1 := Scalar.cmpi .ne v12 v17
  let v19 : BitVec 32 := Scalar.remsi v5 c128_i32
  let c0_i32_6 : BitVec 32 := 0#32
  let v20 : BitVec 1 := Scalar.cmpi .ne v19 c0_i32_6
  let v21 : BitVec 1 := Scalar.andi v18 v20
  let v7 : BitVec 32 := Scalar.divsi v5 c128_i32
  let c1_i32_7 : BitVec 32 := 1#32
  let v22 : BitVec 32 := Scalar.subi v7 c1_i32_7
  let v23 : BitVec 32 := Scalar.select v21 v22 v7
  let c128_i32_8 : BitVec 32 := 128#32
  let v24 : BitVec 32 := Scalar.muli v23 c128_i32_8
  v24
def k0_off1 (i : grid0.Coords) : Fin 2 → Nat :=
  let c0 : Index := 0#32
  let arg0 : BitVec 32 := BitVec.ofNat 32 (i 0).val
  let c1_i32 : BitVec 32 := 1#32
  let v3 : BitVec 32 := Scalar.subi arg0 c1_i32
  let c8_i32 : BitVec 32 := 8#32
  let v4 : BitVec 32 := Scalar.muli v3 c8_i32
  let c0_i32_1 : BitVec 32 := 0#32
  let v5 : BitVec 32 := Scalar.maxsi v4 c0_i32_1
  let c0_i32_2 : BitVec 32 := 0#32
  let v8 : BitVec 1 := Scalar.cmpi .sgt v5 c0_i32_2
  let v9 : BitVec 32 := Scalar.extui v8
  let c0_i32_3 : BitVec 32 := 0#32
  let v10 : BitVec 1 := Scalar.cmpi .slt v5 c0_i32_3
  let v11 : BitVec 32 := Scalar.extui v10
  let v12 : BitVec 32 := Scalar.subi v9 v11
  let c128_i32 : BitVec 32 := 128#32
  let c0_i32_4 : BitVec 32 := 0#32
  let v13 : BitVec 1 := Scalar.cmpi .sgt c128_i32 c0_i32_4
  let v14 : BitVec 32 := Scalar.extui v13
  let c0_i32_5 : BitVec 32 := 0#32
  let v15 : BitVec 1 := Scalar.cmpi .slt c128_i32 c0_i32_5
  let v16 : BitVec 32 := Scalar.extui v15
  let v17 : BitVec 32 := Scalar.subi v14 v16
  let v18 : BitVec 1 := Scalar.cmpi .ne v12 v17
  let v19 : BitVec 32 := Scalar.remsi v5 c128_i32
  let c0_i32_6 : BitVec 32 := 0#32
  let v20 : BitVec 1 := Scalar.cmpi .ne v19 c0_i32_6
  let v21 : BitVec 1 := Scalar.andi v18 v20
  let v7 : BitVec 32 := Scalar.divsi v5 c128_i32
  let c1_i32_7 : BitVec 32 := 1#32
  let v22 : BitVec 32 := Scalar.subi v7 c1_i32_7
  let v23 : BitVec 32 := Scalar.select v21 v22 v7
  let c128_i32_8 : BitVec 32 := 128#32
  let v24 : BitVec 32 := Scalar.muli v23 c128_i32_8
  let v25 : BitVec 32 := v24
  let v26 : Index := Scalar.indexCast v25
  ![0, v26.toNat]
def k0_cond2 (i : grid0.Coords) : BitVec 1 :=
  let arg0 : BitVec 32 := BitVec.ofNat 32 (i 0).val
  let c64_i32 : BitVec 32 := 64#32
  let v674 : BitVec 1 := Scalar.cmpi .eq arg0 c64_i32
  let v675 : BitVec 32 := Scalar.extui v674
  let c0_i32_305 : BitVec 32 := 0#32
  let v676 : BitVec 1 := Scalar.cmpi .ne v675 c0_i32_305
  v676

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x240x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S240x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S240x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S240x96 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S240x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AugruReferenceIdeal.lean ====
abbrev S512x240x128 : Shape := ⟨3, ![512, 240, 128]⟩
abbrev S240x512 : Shape := ⟨2, ![240, 512]⟩
abbrev S240 : Shape := ⟨1, ![240]⟩
abbrev S96x3x96 : Shape := ⟨3, ![96, 3, 96]⟩
abbrev S3x96 : Shape := ⟨2, ![3, 96]⟩
abbrev S512x240x96 : Shape := ⟨3, ![512, 240, 96]⟩
abbrev S240x1 : Shape := ⟨2, ![240, 1]⟩
abbrev S96x288 : Shape := ⟨2, ![96, 288]⟩
abbrev S240x96 : Shape := ⟨2, ![240, 96]⟩
abbrev S96x96 : Shape := ⟨2, ![96, 96]⟩
abbrev S1x240x96 : Shape := ⟨3, ![1, 240, 96]⟩
abbrev S1x96 : Shape := ⟨2, ![1, 96]⟩

abbrev nBuf : Space → Nat
  | .hbm => 16
  | .vmem => 11
  | .smem => 0
  | _ => 0

abbrev bufTy : (tb : Table) → Fin (tcTables nBuf tb) → BufTy
  | .hbm, ⟨0, _⟩ => ⟨S512x240x128, .bf16⟩
  | .hbm, ⟨1, _⟩ => ⟨S240x512, .f32⟩
  | .hbm, ⟨2, _⟩ => ⟨S240, .i32⟩
  | .hbm, ⟨3, _⟩ => ⟨S96x3x96, .fp8e4m3⟩
  | .hbm, ⟨4, _⟩ => ⟨S3x96, .f32⟩
  | .hbm, ⟨5, _⟩ => ⟨S96x3x96, .f32⟩
  | .hbm, ⟨6, _⟩ => ⟨S3x96, .f32⟩
  | .hbm, ⟨7, _⟩ => ⟨S3x96, .f32⟩
  | .hbm, ⟨8, _⟩ => ⟨S3x96, .f32⟩
  | .hbm, ⟨9, _⟩ => ⟨S512x240x96, .bf16⟩
  | .hbm, ⟨10, _⟩ => ⟨S240x1, .i32⟩
  | .hbm, ⟨11, _⟩ => ⟨S96x288, .fp8e4m3⟩
  | .hbm, ⟨12, _⟩ => ⟨S96x3x96, .fp8e4m3⟩
  | .hbm, ⟨13, _⟩ => ⟨S96x288, .fp8e4m3⟩
  | .hbm, ⟨14, _⟩ => ⟨S240x96, .bf16⟩
  | .hbm, ⟨15, _⟩ => ⟨S240x512, .f32⟩
  | .local _ .vmem, ⟨0, _⟩ => ⟨S512x240x96, .bf16⟩
  | .local _ .vmem, ⟨1, _⟩ => ⟨S240x512, .f32⟩
  | .local _ .vmem, ⟨2, _⟩ => ⟨S240x1, .i32⟩
  | .local _ .vmem, ⟨3, _⟩ => ⟨S96x288, .fp8e4m3⟩
  | .local _ .vmem, ⟨4, _⟩ => ⟨S3x96, .f32⟩
  | .local _ .vmem, ⟨5, _⟩ => ⟨S3x96, .f32⟩
  | .local _ .vmem, ⟨6, _⟩ => ⟨S96x288, .fp8e4m3⟩
  | .local _ .vmem, ⟨7, _⟩ => ⟨S3x96, .f32⟩
  | .local _ .vmem, ⟨8, _⟩ => ⟨S3x96, .f32⟩
  | .local _ .vmem, ⟨9, _⟩ => ⟨S240x96, .bf16⟩
  | .local _ .vmem, ⟨10, _⟩ => ⟨S240x512, .f32⟩
  | _, _ => ⟨S512x240x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v45 : BitVec 32 := Scalar.addi c0_i32 c512_i32
  let c1_i32 : BitVec 32 := 1#32
  ⟨c0_i32, v45, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v49 : Index := Scalar.indexCast arg11
  let c0_22 : Index := 0#32
  let c0_23 : Index := 0#32
  ![v49.toNat, 0, 0]
def k0_off2 (k0_t1 : Fin k0_t1_loop.trips) : Fin 2 → Nat :=
  let c0_52 : Index := 0#32
  let c0_i32 : BitVec 32 := 0#32
  let c1_i32 : BitVec 32 := 1#32
  let arg11 : BitVec 32 := Scf.iv c0_i32 c1_i32 k0_t1
  let v104 : Index := Scalar.indexCast arg11
  ![0, v104.toNat]
abbrev stage0_0 : Fin 1 → Memref sig .tc .vmem S512x240x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S240x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96x288 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S240x96 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S240x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Gru1.lean ====
abbrev S512x4x120x128 : Shape := ⟨4, ![512, 4, 120, 128]⟩
abbrev S240 : Shape := ⟨1, ![240]⟩
abbrev S2x240x128 : Shape := ⟨3, ![2, 240, 128]⟩
abbrev S480 : Shape := ⟨1, ![480]⟩
abbrev S2x224x3x96 : Shape := ⟨4, ![2, 224, 3, 96]⟩
abbrev S3x96 : Shape := ⟨2, ![3, 96]⟩
abbrev S96x3x96 : Shape := ⟨3, ![96, 3, 96]⟩
abbrev S96x2x224 : Shape := ⟨3, ![96, 2, 224]⟩
abbrev S3 : Shape := ⟨1, ![3]⟩
abbrev S240x1 : Shape := ⟨2, ![240, 1]⟩
abbrev S240x128 : Shape := ⟨2, ![240, 128]⟩
abbrev S2x240x1 : Shape := ⟨3, ![2, 240, 1]⟩
abbrev S96x1x224 : Shape := ⟨3, ![96, 1, 224]⟩
abbrev S96x224 : Shape := ⟨2, ![96, 224]⟩
abbrev S224x96 : Shape := ⟨2, ![224, 96]⟩
abbrev S56x4x96 : Shape := ⟨3, ![56, 4, 96]⟩
abbrev S4x56x96 : Shape := ⟨3, ![4, 56, 96]⟩
abbrev S_ : Shape := ⟨0, ![]⟩
abbrev S4x64x96 : Shape := ⟨3, ![4, 64, 96]⟩
abbrev S1x4x64x96 : Shape := ⟨4, ![1, 4, 64, 96]⟩
abbrev S2x4x64x96 : Shape := ⟨4, ![2, 4, 64, 96]⟩
abbrev S2x4x128x128 : Shape := ⟨4, ![2, 4, 128, 128]⟩
abbrev S2x56x4x288 : Shape := ⟨4, ![2, 56, 4, 288]⟩
abbrev S2x4x56x288 : Shape := ⟨4, ![2, 4, 56, 288]⟩
abbrev S8x56x288 : Shape := ⟨3, ![8, 56, 288]⟩
abbrev S3x1 : Shape := ⟨2, ![3, 1]⟩
abbrev S1x3x96 : Shape := ⟨3, ![1, 3, 96]⟩
abbrev S1x3x128 : Shape := ⟨3, ![1, 3, 128]⟩
abbrev S1x384 : Shape := ⟨2, ![1, 384]⟩
abbrev S3x128 : Shape := ⟨2, ![3, 128]⟩
abbrev S96x288 : Shape := ⟨2, ![96, 288]⟩
abbrev S512x240x128 : Shape := ⟨3, ![512, 240, 128]⟩
abbrev S240x512 : Shape := ⟨2, ![240, 512]⟩
abbrev S240x96 : Shape := ⟨2, ![240, 96]⟩
abbrev S8x4x120x128 : Shape := ⟨4, ![8, 4, 120, 128]⟩
abbrev S8x240x128 : Shape := ⟨3, ![8, 240, 128]⟩
abbrev S8x240x384 : Shape := ⟨3, ![8, 240, 384]⟩
abbrev S512x384 : Shape := ⟨2, ![512, 384]⟩
abbrev S128x384 : Shape := ⟨2, ![128, 384]⟩
abbrev S1x56x288 : Shape := ⟨3, ![1, 56, 288]⟩
abbrev S56x288 : Shape := ⟨2, ![56, 288]⟩
abbrev S8x288 : Shape := ⟨2, ![8, 288]⟩
abbrev S64x288 : Shape := ⟨2, ![64, 288]⟩
abbrev S512x288 : Shape := ⟨2, ![512, 288]⟩
abbrev S512x96 : Shape := ⟨2, ![512, 96]⟩
abbrev S512x32 : Shape := ⟨2, ![512, 32]⟩
abbrev S512x128 : Shape := ⟨2, ![512, 128]⟩
abbrev S96x96 : Shape := ⟨2, ![96, 96]⟩
abbrev S32x96 : Shape := ⟨2, ![32, 96]⟩
abbrev S128x96 : Shape := ⟨2, ![128, 96]⟩
abbrev S128x32 : Shape := ⟨2, ![128, 32]⟩
abbrev S128x128 : Shape := ⟨2, ![128, 128]⟩
abbrev S1x240x128 : Shape := ⟨3, ![1, 240, 128]⟩
abbrev S1x1x128x128 : Shape := ⟨4, ![1, 1, 128, 128]⟩
abbrev S1x240x384 : Shape := ⟨3, ![1, 240, 384]⟩
abbrev S240x384 : Shape := ⟨2, ![240, 384]⟩
abbrev S1x128 : Shape := ⟨2, ![1, 128]⟩
abbrev S1x1x120x128 : Shape := ⟨4, ![1, 1, 120, 128]⟩
abbrev S120x128 : Shape := ⟨2, ![120, 128]⟩

abbrev nBuf : Space → Nat
  | .hbm => 78
  | .vmem => 22
  | .smem => 0
  | _ => 0

abbrev bufTy : (tb : Table) → Fin (tcTables nBuf tb) → BufTy
  | .hbm, ⟨0, _⟩ => ⟨S512x4x120x128, .i32⟩
  | .hbm, ⟨1, _⟩ => ⟨S240, .i32⟩
  | .hbm, ⟨2, _⟩ => ⟨S2x240x128, .i32⟩
  | .hbm, ⟨3, _⟩ => ⟨S480, .f32⟩
  | .hbm, ⟨4, _⟩ => ⟨S2x224x3x96, .fp8e4m3⟩
  | .hbm, ⟨5, _⟩ => ⟨S3x96, .f32⟩
  | .hbm, ⟨6, _⟩ => ⟨S96x3x96, .f32⟩
  | .hbm, ⟨7, _⟩ => ⟨S3x96, .f32⟩
  | .hbm, ⟨8, _⟩ => ⟨S3x96, .f32⟩
  | .hbm, ⟨9, _⟩ => ⟨S3x96, .f32⟩
  | .hbm, ⟨10, _⟩ => ⟨S96x2x224, .f32⟩
  | .hbm, ⟨11, _⟩ => ⟨S3, .f32⟩
  | .hbm, ⟨12, _⟩ => ⟨S3, .f32⟩
  | .hbm, ⟨13, _⟩ => ⟨S240x1, .i32⟩
  | .hbm, ⟨14, _⟩ => ⟨S240x128, .i32⟩
  | .hbm, ⟨15, _⟩ => ⟨S2x240x1, .f32⟩
  | .hbm, ⟨16, _⟩ => ⟨S2x240x128, .f32⟩
  | .hbm, ⟨17, _⟩ => ⟨S96x1x224, .f32⟩
  | .hbm, ⟨18, _⟩ => ⟨S96x224, .f32⟩
  | .hbm, ⟨19, _⟩ => ⟨S224x96, .f32⟩
  | .hbm, ⟨20, _⟩ => ⟨S56x4x96, .f32⟩
  | .hbm, ⟨21, _⟩ => ⟨S4x56x96, .f32⟩
  | .hbm, ⟨22, _⟩ => ⟨S_, .i32⟩
  | .hbm, ⟨23, _⟩ => ⟨S_, .f32⟩
  | .hbm, ⟨24, _⟩ => ⟨S4x64x96, .f32⟩
  | .hbm, ⟨25, _⟩ => ⟨S96x1x224, .f32⟩
  | .hbm, ⟨26, _⟩ => ⟨S96x224, .f32⟩
  | .hbm, ⟨27, _⟩ => ⟨S224x96, .f32⟩
  | .hbm, ⟨28, _⟩ => ⟨S56x4x96, .f32⟩
  | .hbm, ⟨29, _⟩ => ⟨S4x56x96, .f32⟩
  | .hbm, ⟨30, _⟩ => ⟨S_, .i32⟩
  | .hbm, ⟨31, _⟩ => ⟨S_, .f32⟩
  | .hbm, ⟨32, _⟩ => ⟨S4x64x96, .f32⟩
  | .hbm, ⟨33, _⟩ => ⟨S1x4x64x96, .f32⟩
  | .hbm, ⟨34, _⟩ => ⟨S1x4x64x96, .f32⟩
  | .hbm, ⟨35, _⟩ => ⟨S2x4x64x96, .f32⟩
  | .hbm, ⟨36, _⟩ => ⟨S_, .i32⟩
  | .hbm, ⟨37, _⟩ => ⟨S_, .f32⟩
  | .hbm, ⟨38, _⟩ => ⟨S2x4x128x128, .f32⟩
  | .hbm, ⟨39, _⟩ => ⟨S2x56x4x288, .fp8e4m3⟩
  | .hbm, ⟨40, _⟩ => ⟨S2x4x56x288, .fp8e4m3⟩
  | .hbm, ⟨41, _⟩ => ⟨S8x56x288, .fp8e4m3⟩
  | .hbm, ⟨42, _⟩ => ⟨S3x1, .f32⟩
  | .hbm, ⟨43, _⟩ => ⟨S3x1, .f32⟩
  | .hbm, ⟨44, _⟩ => ⟨S3x96, .f32⟩
  | .hbm, ⟨45, _⟩ => ⟨S3x96, .f32⟩
  | .hbm, ⟨46, _⟩ => ⟨S1x3x96, .f32⟩
  | .hbm, ⟨47, _⟩ => ⟨S_, .i32⟩
  | .hbm, ⟨48, _⟩ => ⟨S_, .f32⟩
  | .hbm, ⟨49, _⟩ => ⟨S1x3x128, .f32⟩
  | .hbm, ⟨50, _⟩ => ⟨S1x384, .f32⟩
  | .hbm, ⟨51, _⟩ => ⟨S3x96, .f32⟩
  | .hbm, ⟨52, _⟩ => ⟨S3x96, .f32⟩
  | .hbm, ⟨53, _⟩ => ⟨S3x96, .f32⟩
  | .hbm, ⟨54, _⟩ => ⟨S3x96, .f32⟩
  | .hbm, ⟨55, _⟩ => ⟨S3x96, .f32⟩
  | .hbm, ⟨56, _⟩ => ⟨S1x3x96, .f32⟩
  | .hbm, ⟨57, _⟩ => ⟨S_, .i32⟩
  | .hbm, ⟨58, _⟩ => ⟨S_, .f32⟩
  | .hbm, ⟨59, _⟩ => ⟨S1x3x128, .f32⟩
  | .hbm, ⟨60, _⟩ => ⟨S1x384, .f32⟩
  | .hbm, ⟨61, _⟩ => ⟨S_, .f32⟩
  | .hbm, ⟨62, _⟩ => ⟨S3x96, .f32⟩
  | .hbm, ⟨63, _⟩ => ⟨S3x96, .f32⟩
  | .hbm, ⟨64, _⟩ => ⟨S_, .i32⟩
  | .hbm, ⟨65, _⟩ => ⟨S_, .f32⟩
  | .hbm, ⟨66, _⟩ => ⟨S3x128, .f32⟩
  | .hbm, ⟨67, _⟩ => ⟨S_, .f32⟩
  | .hbm, ⟨68, _⟩ => ⟨S3x96, .f32⟩
  | .hbm, ⟨69, _⟩ => ⟨S3x96, .f32⟩
  | .hbm, ⟨70, _⟩ => ⟨S_, .i32⟩
  | .hbm, ⟨71, _⟩ => ⟨S_, .f32⟩
  | .hbm, ⟨72, _⟩ => ⟨S3x128, .f32⟩
  | .hbm, ⟨73, _⟩ => ⟨S96x3x96, .fp8e4m3⟩
  | .hbm, ⟨74, _⟩ => ⟨S96x288, .fp8e4m3⟩
  | .hbm, ⟨75, _⟩ => ⟨S512x240x128, .bf16⟩
  | .hbm, ⟨76, _⟩ => ⟨S240x512, .f32⟩
  | .hbm, ⟨77, _⟩ => ⟨S240x96, .f32⟩
  | .local _ .vmem, ⟨0, _⟩ => ⟨S8x4x120x128, .i32⟩
  | .local _ .vmem, ⟨1, _⟩ => ⟨S8x4x120x128, .i32⟩
  | .local _ .vmem, ⟨2, _⟩ => ⟨S8x56x288, .fp8e4m3⟩
  | .local _ .vmem, ⟨3, _⟩ => ⟨S1x384, .f32⟩
  | .local _ .vmem, ⟨4, _⟩ => ⟨S1x384, .f32⟩
  | .local _ .vmem, ⟨5, _⟩ => ⟨S96x288, .fp8e4m3⟩
  | .local _ .vmem, ⟨6, _⟩ => ⟨S3x128, .f32⟩
  | .local _ .vmem, ⟨7, _⟩ => ⟨S3x128, .f32⟩
  | .local _ .vmem, ⟨8, _⟩ => ⟨S240x128, .i32⟩
  | .local _ .vmem, ⟨9, _⟩ => ⟨S2x240x128, .i32⟩
  | .local _ .vmem, ⟨10, _⟩ => ⟨S2x240x128, .f32⟩
  | .local _ .vmem, ⟨11, _⟩ => ⟨S2x4x128x128, .f32⟩
  | .local _ .vmem, ⟨12, _⟩ => ⟨S8x240x128, .bf16⟩
  | .local _ .vmem, ⟨13, _⟩ => ⟨S8x240x128, .bf16⟩
  | .local _ .vmem, ⟨14, _⟩ => ⟨S240x128, .f32⟩
  | .local _ .vmem, ⟨15, _⟩ => ⟨S240x128, .f32⟩
  | .local _ .vmem, ⟨16, _⟩ => ⟨S240x96, .f32⟩
  | .local _ .vmem, ⟨17, _⟩ => ⟨S8x240x384, .f32⟩
  | .local _ .vmem, ⟨18, _⟩ => ⟨S512x384, .bf16⟩
  | .local _ .vmem, ⟨19, _⟩ => ⟨S128x384, .bf16⟩
  | .local _ .vmem, ⟨20, _⟩ => ⟨S240x128, .f32⟩
  | .local _ .vmem, ⟨21, _⟩ => ⟨S240x128, .f32⟩
  | _, _ => ⟨S512x4x120x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_call3_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_call4_v0 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_call5_v0 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_call6_v0 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46_0 : Ref sig .tc := ⟨.hbm, 75, rfl⟩
abbrev main_v46_1 : Ref sig .tc := ⟨.hbm, 76, rfl⟩
abbrev main_v46_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v830 : BitVec 1 := Scalar.cmpi .eq arg0 c64_i32
  let v831 : BitVec 32 := Scalar.extui v830
  let c0_i32_459 : BitVec 32 := 0#32
  let v832 : BitVec 1 := Scalar.cmpi .ne v831 c0_i32_459
  v832

def cc0_transform_0 (i : grid0.Coords) : Fin 4 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c8_i32 : BitVec 32 := 8#32
  let v2 : BitVec 32 := Scalar.muli v1 c8_i32
  let c128_i32 : BitVec 32 := 128#32
  let v3 : BitVec 32 := Scalar.divsi v2 c128_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  ![c0_i32_6.toNat, v19.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x4x120x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x56x288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S240x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x240x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x240x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x240x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S240x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S240x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Gru1ReferenceIdeal.lean ====
abbrev S512x4x120x128 : Shape := ⟨4, ![512, 4, 120, 128]⟩
abbrev S240 : Shape := ⟨1, ![240]⟩
abbrev S2x240x128 : Shape := ⟨3, ![2, 240, 128]⟩
abbrev S480 : Shape := ⟨1, ![480]⟩
abbrev S2x224x3x96 : Shape := ⟨4, ![2, 224, 3, 96]⟩
abbrev S3x96 : Shape := ⟨2, ![3, 96]⟩
abbrev S96x3x96 : Shape := ⟨3, ![96, 3, 96]⟩
abbrev S96x2x224 : Shape := ⟨3, ![96, 2, 224]⟩
abbrev S512x4x120x128x2 : Shape := ⟨5, ![512, 4, 120, 128, 2]⟩
abbrev S512x120x2x4x128 : Shape := ⟨5, ![512, 120, 2, 4, 128]⟩
abbrev S512x240x2x4x64 : Shape := ⟨5, ![512, 240, 2, 4, 64]⟩
abbrev S512x240x2x4x56 : Shape := ⟨5, ![512, 240, 2, 4, 56]⟩
abbrev S512x240x2x56x4 : Shape := ⟨5, ![512, 240, 2, 56, 4]⟩
abbrev S512x240x448 : Shape := ⟨3, ![512, 240, 448]⟩
abbrev S240x1 : Shape := ⟨2, ![240, 1]⟩
abbrev S448x288 : Shape := ⟨2, ![448, 288]⟩
abbrev S96x288 : Shape := ⟨2, ![96, 288]⟩
abbrev S240x96 : Shape := ⟨2, ![240, 96]⟩
abbrev S448x96 : Shape := ⟨2, ![448, 96]⟩
abbrev S96x96 : Shape := ⟨2, ![96, 96]⟩
abbrev S1x240x448 : Shape := ⟨3, ![1, 240, 448]⟩
abbrev S240x448 : Shape := ⟨2, ![240, 448]⟩
abbrev S1x96 : Shape := ⟨2, ![1, 96]⟩

abbrev nBuf : Space → Nat
  | .hbm => 22
  | .vmem => 9
  | .smem => 0
  | _ => 0

abbrev bufTy : (tb : Table) → Fin (tcTables nBuf tb) → BufTy
  | .hbm, ⟨0, _⟩ => ⟨S512x4x120x128, .i32⟩
  | .hbm, ⟨1, _⟩ => ⟨S240, .i32⟩
  | .hbm, ⟨2, _⟩ => ⟨S2x240x128, .i32⟩
  | .hbm, ⟨3, _⟩ => ⟨S480, .f32⟩
  | .hbm, ⟨4, _⟩ => ⟨S2x224x3x96, .fp8e4m3⟩
  | .hbm, ⟨5, _⟩ => ⟨S3x96, .f32⟩
  | .hbm, ⟨6, _⟩ => ⟨S96x3x96, .f32⟩
  | .hbm, ⟨7, _⟩ => ⟨S3x96, .f32⟩
  | .hbm, ⟨8, _⟩ => ⟨S3x96, .f32⟩
  | .hbm, ⟨9, _⟩ => ⟨S3x96, .f32⟩
  | .hbm, ⟨10, _⟩ => ⟨S96x2x224, .f32⟩
  | .hbm, ⟨11, _⟩ => ⟨S512x4x120x128x2, .bf16⟩
  | .hbm, ⟨12, _⟩ => ⟨S512x120x2x4x128, .bf16⟩
  | .hbm, ⟨13, _⟩ => ⟨S512x240x2x4x64, .bf16⟩
  | .hbm, ⟨14, _⟩ => ⟨S512x240x2x4x56, .bf16⟩
  | .hbm, ⟨15, _⟩ => ⟨S512x240x2x56x4, .bf16⟩
  | .hbm, ⟨16, _⟩ => ⟨S512x240x448, .bf16⟩
  | .hbm, ⟨17, _⟩ => ⟨S240x1, .i32⟩
  | .hbm, ⟨18, _⟩ => ⟨S448x288, .fp8e4m3⟩
  | .hbm, ⟨19, _⟩ => ⟨S96x3x96, .fp8e4m3⟩
  | .hbm, ⟨20, _⟩ => ⟨S96x288, .fp8e4m3⟩
  | .hbm, ⟨21, _⟩ => ⟨S240x96, .f32⟩
  | .local _ .vmem, ⟨0, _⟩ => ⟨S512x240x448, .bf16⟩
  | .local _ .vmem, ⟨1, _⟩ => ⟨S240x1, .i32⟩
  | .local _ .vmem, ⟨2, _⟩ => ⟨S448x288, .fp8e4m3⟩
  | .local _ .vmem, ⟨3, _⟩ => ⟨S3x96, .f32⟩
  | .local _ .vmem, ⟨4, _⟩ => ⟨S3x96, .f32⟩
  | .local _ .vmem, ⟨5, _⟩ => ⟨S96x288, .fp8e4m3⟩
  | .local _ .vmem, ⟨6, _⟩ => ⟨S3x96, .f32⟩
  | .local _ .vmem, ⟨7, _⟩ => ⟨S3x96, .f32⟩
  | .local _ .vmem, ⟨8, _⟩ => ⟨S240x96, .f32⟩
  | _, _ => ⟨S512x4x120x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v25 : BitVec 32 := Scalar.addi c0_i32 c512_i32
  let c1_i32 : BitVec 32 := 1#32
  ⟨c0_i32, v25, c1_i32⟩
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let v28 : Index := Scalar.indexCast arg9
  let c0_12 : Index := 0#32
  let c0_13 : Index := 0#32
  ![v28.toNat, 0, 0]
abbrev stage0_0 : Fin 1 → Memref sig .tc .vmem S512x240x448 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S448x288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96x288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S240x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.AugruIdeal.Runs.lean ====
module

public import proofs.«01_k».proof.Proof.Gen.AugruIdeal.Frame
public import proofs.«01_k».proof.Proof.Gen.AugruIdeal.Launch
public import proofs.«01_k».proof.Proof.Gen.AugruIdeal.Skeleton
public import proofs.«01_k».proof.Proof.Gen.AugruIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AugruIdeal.Body

open Cert.AugruIdeal Cert.AugruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offset of the block of attention lanes a point reads, in closed form. -/
theorem k0_off1_eq : ∀ i : grid0.Coords, k0_off1 i = ![0, ((i 0).val - 1) / 16 * 128] := by decide +kernel
instance closedOff_k0_off1 (i : grid0.Coords) : ClosedOff (k0_off1 i) := ⟨![0, ((i 0).val - 1) / 16 * 128], k0_off1_eq i⟩

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- Whether output 10's buffer is FRESH at each position `1 ‥ N` — holds nothing the body stored since the region's entry or the
    last write-back (written back at the point before, or idle there and fresh before it) —, as a bitmask the classifier
    computed, bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x10000000000000000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → ¬cond0_1 (grid0.coords t) → cfg0.idle 10 (grid0.coords t) = false := by decide +kernel
/-- At the points of case B the configuration calls output 10 idle: the case reads it and stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case B, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_B : ∀ t : Fin cfg0.N, ¬cond0_0 (grid0.coords t) → ¬cond0_1 (grid0.coords t) → cfg0.fresh 10 t.val = false := by
  intro t; rw [fresh0_10_eq t]; revert t; decide +kernel
/-- At the points of case C the configuration calls output 10 idle too, -/
theorem idleAt0_10_C : ∀ t : Fin cfg0.N, ¬cond0_0 (grid0.coords t) → cond0_1 (grid0.coords t) → cfg0.idle 10 (grid0.coords t) = true := by decide +kernel
/-- and the pipeline writes its block back. -/
theorem flush0_10_C : ∀ t : Fin cfg0.N, ¬cond0_0 (grid0.coords t) → cond0_1 (grid0.coords t) → (cfg0.win 10).flush t = true := by decide +kernel
/-- At the points of case C, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_C : ∀ t : Fin cfg0.N, ¬cond0_0 (grid0.coords t) → cond0_1 (grid0.coords t) → cfg0.fresh 10 t.val = false := by
  intro t; rw [fresh0_10_eq t]; revert t; decide +kernel

/-! ## The kernel body on any staging memrefs: a subtype the run finds -/

/-- One staging buffer of output window 9, through which its contents are stated (`View.read_writes_of_cover`: the
    choice does not matter). -/
abbrev VO0_9 : View sig .tc .vmem S240x96 .bf16 := (Memref.whole cc0_stg9_0 : Memref sig .tc .vmem S240x96 .bf16).view
/-- One staging buffer of output window 10, through which its contents are stated (`View.read_writes_of_cover`: the
    choice does not matter). -/
abbrev VO0_10 : View sig .tc .vmem S240x512 .f32 := (Memref.whole cc0_stg10_0 : Memref sig .tc .vmem S240x512 .f32).view
/-- Each window's current staging memref at point `t`, spelled as the pipeline passes it (`bodyAt0`), and its wholeness. -/
abbrev ms0_0 (t : Fin cfg0.N) : Memref sig .tc .vmem S8x240x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S240x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S240x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x288 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x384 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x288 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S3x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S3x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S240x96 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S240x512 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S8x240x384 .f32 := Memref.whole cc0_scratch0
abbrev scM0_1 : Memref sig .tc .vmem S128x384 .bf16 := Memref.whole cc0_scratch1
abbrev scM0_2 : Memref sig .tc .vmem S128x384 .bf16 := Memref.whole cc0_scratch2
abbrev scM0_3 : Memref sig .tc .vmem S240x128 .f32 := Memref.whole cc0_scratch3
/-- The scratch `arg12` the kernel carries between points, as a view: what it holds is stated through it. -/
abbrev VS0_0 : View sig .tc .vmem S8x240x384 .f32 := scM0_0.view
/-- The scratch `arg13` the kernel carries between points, as a view: what it holds is stated through it. -/
abbrev VS0_1 : View sig .tc .vmem S128x384 .bf16 := scM0_1.view
/-- The scratch `arg14` the kernel carries between points, as a view: what it holds is stated through it. -/
abbrev VS0_2 : View sig .tc .vmem S128x384 .bf16 := scM0_2.view
/-- The scratch `arg15` the kernel carries between points, as a view: what it holds is stated through it. -/
abbrev VS0_3 : View sig .tc .vmem S240x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.AugruIdeal.Body

end
-- ==== Proof.AugruIdeal.RunA.lean ====
module

public import proofs.«01_k».proof.Proof.AugruIdeal.Runs

@[expose] public section

-- membership in a rectangle of production extents (`View.cover_of_tiled`): the elaborator's structural look
-- recurses once per coordinate of the long axes
set_option maxRecDepth 16384

noncomputable section

namespace Cert.AugruIdeal.Body

open Cert.AugruIdeal Cert.AugruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) :
    Σ' (L9 : List (View.Piece (Elt F) S240x96 .bf16)), Σ' (L10 : List (View.Piece (Elt F) S240x512 .f32)), Σ' (LS0 : List (View.Piece (Elt F) S8x240x384 .f32)), Σ' (LS1 : List (View.Piece (Elt F) S128x384 .bf16)), Σ' (LS2 : List (View.Piece (Elt F) S128x384 .bf16)), { LS3 : List (View.Piece (Elt F) S240x128 .f32) //
      ∀ (xi9 : Vec F S240x96 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LS3)) -∗ K ⟨⟩))
          ⊢ wp frame (wpE (defs₀ (F := F)) Variants.none c none) E (cc0_augru i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], ?_, ?_, ?_, ?_, ?_, fun xi9 E K => ?run⟩
  case run =>
    simp only [cc0_augru_eq_skeleton]; unfold cc0_augru_skel
    simp only [k0_part18_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [HS0]; · iexists _; iexact HS0
    isplitl [HS1]; · iexists _; iexact HS1
    isplitl [HS2]; · iexists _; iexact HS2
    iexists _; iexact HS3

end Cert.AugruIdeal.Body

end
-- ==== Proof.AugruIdeal.RunB.lean ====
module

public import proofs.«01_k».proof.Proof.AugruIdeal.RunA

@[expose] public section

-- membership in a rectangle of production extents (`View.cover_of_tiled`): the elaborator's structural look
-- recurses once per coordinate of the long axes
set_option maxRecDepth 16384

noncomputable section

namespace Cert.AugruIdeal.Body

open Cert.AugruIdeal Cert.AugruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 63: 63 of 65), WITH the
    proof that on whole staging memrefs — the inputs' at their contents, the outputs it reads before covering (10) at their running contents `xo·`, the outputs it leaves idle (9: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) :
    Σ' (L9 : List (View.Piece (Elt F) S240x96 .bf16)), Σ' (L10 : List (View.Piece (Elt F) S240x512 .f32)), Σ' (LS0 : List (View.Piece (Elt F) S8x240x384 .f32)), Σ' (LS1 : List (View.Piece (Elt F) S128x384 .bf16)), Σ' (LS2 : List (View.Piece (Elt F) S128x384 .bf16)), { LS3 : List (View.Piece (Elt F) S240x128 .f32) //
      ∀ (xi9 : Vec F S240x96 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xo10 ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xo10 ∗ (∃ f, arg12.view.loc (c : Thread nD τ) ↦[arg12.view.set]{fullShare} arg12.view.writes (Elt F) f LS0) ∗ owns (c : Thread nD τ) arg13 fullShare xs1 ∗ owns (c : Thread nD τ) arg14 fullShare xs2 ∗ (∃ f, arg15.view.loc (c : Thread nD τ) ↦[arg15.view.set]{fullShare} arg15.view.writes (Elt F) f LS3)) -∗ K ⟨⟩))
          ⊢ wp frame (wpE (defs₀ (F := F)) Variants.none c none) E (cc0_augru i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, [], [], ?_, fun xi9 E K => ?run⟩
  case run =>
    simp only [cc0_augru_eq_skeleton]; unfold cc0_augru_skel
    simp only [k0_part18_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [HS0]; · iexists _; iexact HS0
    isplitl [HS1]
    · iexists _; isplitr; · ipureintro; exact harg13.read_unread _
      iexact HS1
    isplitl [HS2]
    · iexists _; isplitr; · ipureintro; exact harg14.read_unread _
      iexact HS2
    iexists _; iexact HS3

end Cert.AugruIdeal.Body

end
-- ==== Proof.AugruIdeal.RunC.lean ====
module

public import proofs.«01_k».proof.Proof.AugruIdeal.RunB

@[expose] public section

-- membership in a rectangle of production extents (`View.cover_of_tiled`): the elaborator's structural look
-- recurses once per coordinate of the long axes
set_option maxRecDepth 16384

noncomputable section

namespace Cert.AugruIdeal.Body

open Cert.AugruIdeal Cert.AugruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 64), WITH the
    proof that on whole staging memrefs — the inputs' at their contents, the outputs it reads before covering (10) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) :
    Σ' (L9 : List (View.Piece (Elt F) S240x96 .bf16)), Σ' (L10 : List (View.Piece (Elt F) S240x512 .f32)), Σ' (LS0 : List (View.Piece (Elt F) S8x240x384 .f32)), Σ' (LS1 : List (View.Piece (Elt F) S128x384 .bf16)), Σ' (LS2 : List (View.Piece (Elt F) S128x384 .bf16)), { LS3 : List (View.Piece (Elt F) S240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xo10 ∗ owns (c : Thread nD τ) arg12 fullShare xs0 ∗ owns (c : Thread nD τ) arg13 fullShare xs1 ∗ owns (c : Thread nD τ) arg14 fullShare xs2 ∗ owns (c : Thread nD τ) arg15 fullShare xs3
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ owns (c : Thread nD τ) arg11 fullShare xo10 ∗ (∃ f, arg12.view.loc (c : Thread nD τ) ↦[arg12.view.set]{fullShare} arg12.view.writes (Elt F) f LS0) ∗ owns (c : Thread nD τ) arg13 fullShare xs1 ∗ owns (c : Thread nD τ) arg14 fullShare xs2 ∗ (∃ f, arg15.view.loc (c : Thread nD τ) ↦[arg15.view.set]{fullShare} arg15.view.writes (Elt F) f LS3)) -∗ K ⟨⟩))
          ⊢ wp frame (wpE (defs₀ (F := F)) Variants.none c none) E (cc0_augru i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], ?_, [], [], ?_, fun E K => ?run⟩
  case run =>
    simp only [cc0_augru_eq_skeleton]; unfold cc0_augru_skel
    simp only [k0_part18_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%fs0, %hfs0, HS0⟩, ⟨%fs1, %hfs1, HS1⟩, ⟨%fs2, %hfs2, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hfs0; obtain rfl := harg13.eq_unread hfs1; obtain rfl := harg14.eq_unread hfs2; obtain rfl := harg15.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]
    · iexists _; isplitr; · ipureintro; exact harg11.read_unread _
      iexact H10
    isplitl [HS0]; · iexists _; iexact HS0
    isplitl [HS1]
    · iexists _; isplitr; · ipureintro; exact harg13.read_unread _
      iexact HS1
    isplitl [HS2]
    · iexists _; isplitr; · ipureintro; exact harg14.read_unread _
      iexact HS2
    iexists _; iexact HS3

end Cert.AugruIdeal.Body

end
-- ==== Proof.AugruIdeal.Frame.lean ====
module

public import proofs.«01_k».proof.Proof.AugruIdeal.RunC
public import Idealize.ShloMosaic.Lib.Claim

@[expose] public section

-- membership in a rectangle of production extents (`View.cover_of_tiled`): the elaborator's structural look
-- recurses once per coordinate of the long axes
set_option maxRecDepth 16384

noncomputable section

namespace Cert.AugruIdeal.Body

open Cert.AugruIdeal Cert.AugruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) : Vec F S240x96 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).1)

/-- Case A's pieces for output 10 tile its block (1 store of `S240x512`, checked by the kernel's evaluation: Lib/Ring.lean `Piece.tiledL`, linear in the pieces, through a loop's `@[irreducible]` trip theorem too), so they cover it. -/
theorem cover0_A_10 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (y : S240x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1 S240x512.size (by sl_kernel_rfl) y

/-- What case A leaves in output 10's staging buffer: its pieces read back over junk. -/
def out0_A_10 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) : Vec F S240x512 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.1)

/-- Case A's pieces for scratch `arg12`, which the kernel carries between points, cover it: one of them a store of the WHOLE buffer (Lib/Ring.lean `sl_whole_mem`). -/
theorem scover0_A_0 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (y : S8x240x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1 (by sl_whole_mem) y

/-- What case A leaves in scratch `arg12`: its pieces read back over junk. -/
def sout0_A_0 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) : Vec F S8x240x384 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.1)

/-- Case A's pieces for scratch `arg13`, which the kernel carries between points, cover it: 1 piece of `S128x384` tiling it (Lib/Ring.lean `Piece.tiledL`). -/
theorem scover0_A_1 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (y : S128x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1 S128x384.size (by sl_kernel_rfl) y

/-- What case A leaves in scratch `arg13`: its pieces read back over junk. -/
def sout0_A_1 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) : Vec F S128x384 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.1)

/-- Case A's pieces for scratch `arg14`, which the kernel carries between points, cover it: 1 piece of `S128x384` tiling it (Lib/Ring.lean `Piece.tiledL`). -/
theorem scover0_A_2 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (y : S128x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1 S128x384.size (by sl_kernel_rfl) y

/-- What case A leaves in scratch `arg14`: its pieces read back over junk. -/
def sout0_A_2 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) : Vec F S128x384 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.1)

/-- Case A's pieces for scratch `arg15`, which the kernel carries between points, cover it: 2 pieces of `S240x128` tiling it (Lib/Ring.lean `Piece.tiledL`). -/
theorem scover0_A_3 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (y : S240x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.2.1 S240x128.size (by sl_kernel_rfl) y

/-- What case A leaves in scratch `arg15`: its pieces read back over junk. -/
def sout0_A_3 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) : Vec F S240x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8).2.2.2.2.2.1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S240x96 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).1)

/-- Case B stores nothing into output 10, a live window: its staging buffer holds what the point before left. -/
def out0_B_10 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S240x512 .f32 := xo10

/-- Case B's pieces for scratch `arg12`, which the kernel carries between points, cover it: 8 pieces of `S1x240x384` tiling it (Lib/Ring.lean `Piece.tiledL`). -/
theorem scover0_B_0 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) (y : S8x240x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.1 S1x240x384.size (by sl_kernel_rfl) y

/-- What case B leaves in scratch `arg12`: its pieces read back over junk. -/
def sout0_B_0 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S8x240x384 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.1)

/-- Case B stores nothing into scratch `arg13`: it holds what the point before left. -/
def sout0_B_1 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S128x384 .bf16 := xs1

/-- Case B stores nothing into scratch `arg14`: it holds what the point before left. -/
def sout0_B_2 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S128x384 .bf16 := xs2

/-- Case B's pieces for scratch `arg15`, which the kernel carries between points, cover it: 1 piece of `S240x128` tiling it (Lib/Ring.lean `Piece.tiledL`). -/
theorem scover0_B_3 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) (y : S240x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.2.2.2.1 S240x128.size (by sl_kernel_rfl) y

/-- What case B leaves in scratch `arg15`: its pieces read back over junk. -/
def sout0_B_3 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : ¬cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S240x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.2.2.2.1)

/-- Case C's pieces for output 9 tile its block (1 store of `S240x96`, checked by the kernel's evaluation: Lib/Ring.lean `Piece.tiledL`, linear in the pieces, through a loop's `@[irreducible]` trip theorem too), so they cover it. -/
theorem cover0_C_9 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) (y : S240x96.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).1 S240x96.size (by sl_kernel_rfl) y

/-- What case C leaves in output 9's staging buffer: its pieces read back over junk. -/
def out0_C_9 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S240x96 .bf16 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).1)

/-- Case C stores nothing into output 10, a live window: its staging buffer holds what the point before left. -/
def out0_C_10 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S240x512 .f32 := xo10

/-- Case C's pieces for scratch `arg12`, which the kernel carries between points, cover it: 8 pieces of `S1x240x384` tiling it (Lib/Ring.lean `Piece.tiledL`). -/
theorem scover0_C_0 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) (y : S8x240x384.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.1 S1x240x384.size (by sl_kernel_rfl) y

/-- What case C leaves in scratch `arg12`: its pieces read back over junk. -/
def sout0_C_0 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S8x240x384 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.1)

/-- Case C stores nothing into scratch `arg13`: it holds what the point before left. -/
def sout0_C_1 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S128x384 .bf16 := xs1

/-- Case C stores nothing into scratch `arg14`: it holds what the point before left. -/
def sout0_C_2 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S128x384 .bf16 := xs2

/-- Case C's pieces for scratch `arg15`, which the kernel carries between points, cover it: 1 piece of `S240x128` tiling it (Lib/Ring.lean `Piece.tiledL`). -/
theorem scover0_C_3 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) (y : S240x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.2.2.2.1 S240x128.size (by sl_kernel_rfl) y

/-- What case C leaves in scratch `arg15`: its pieces read back over junk. -/
def sout0_C_3 (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole) (hc0 : ¬cond0_0 i) (hc1 : cond0_1 i)
    (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32) : Vec F S240x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3).2.2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S240x96 .bf16 × Vec F S240x512 .f32 × Vec F S8x240x384 .f32 × Vec F S128x384 .bf16 × Vec F S128x384 .bf16 × Vec F S240x128 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 65 = 0 then
      if h1 : (n + 1) % 65 = 64 then
        False.elim (by have hN : n + 1 < 65 := lt_of_lt_of_eq hn (show cfg0.N = 65 from N_0); omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 65 = 64 then
        (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

/-- `outsAt0` at a point of case A: that case's contents. -/
theorem outsAt0_A (c : Dev nD) (t : Fin cfg0.N) (h0 : t.val % 65 = 0) (h1 : ¬t.val % 65 = 64) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 65 = 0) (h1 : ¬t.val % 65 = 64) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 65 = 0) (h1 : t.val % 65 = 64) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2.1) ∗ owns (c : Thread nD τ) scM0_3 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2.1) ∗ owns (c : Thread nD τ) scM0_3 fullShare ((outsAt0 m c (n - 1) (by omega)).2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 10's contents CARRY through the points that leave it idle: at such a point, its buffer not fresh, the proof data's
    `after` is the point before's (the case there stores nothing into the window and its term says so; a case that stores
    into it is not idle there by `liveAt0_10_κ`) — the hypothesis of Lib/Pipeline/TableIdle.lean `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 65 := lt_of_lt_of_eq t.isLt (show cfg0.N = 65 from N_0)
  rw [after0_10, after0_10]
  by_cases h0 : t.val % 65 = 0
  · by_cases h1 : t.val % 65 = 64
    · exfalso; omega
    · rw [liveAt0_10_A t ((hcond0_0 t).mpr h0) (fun h => h1 ((hcond0_1 t).mp h))] at hi
      exact absurd hi Bool.false_ne_true
  · by_cases h1 : t.val % 65 = 64
    · rw [outsAt0_C m c t h0 h1]; rfl
    · rw [outsAt0_B m c t h0 h1]; rfl
/-- At a point of case B output 10's current staging buffer holds what the point before left: the buffer is not fresh
    there (`notFresh0_10_B`: stored into since the region's entry or the last write-back, carried through the points that
    leave it idle by `hcarry0_10`; Lib/Pipeline/TableIdle.lean `Dat.before_out_traj`). -/
theorem before0_10_B (c : Dev nD) (t : Fin cfg0.N) (h0 : ¬t.val % 65 = 0) (h1 : ¬t.val % 65 = 64) (d) :
    (dats m 0 c).before 10 t d = (outsAt0 m c (t.val - 1) (Nat.lt_of_le_of_lt (Nat.sub_le _ _) t.isLt)).2.1 := by
  rw [Dat.before_out_traj _ 10 rfl (fun _ _ => rfl) (hcarry0_10 m c) t.val t rfl d,
    if_neg (by rw [notFresh0_10_B t (fun h => h0 ((hcond0_0 t).mp h)) (fun h => h1 ((hcond0_1 t).mp h))]; exact Bool.false_ne_true)]
  dsimp only [dats]
/-- At a point of case C output 10's current staging buffer holds what the point before left: the buffer is not fresh
    there (`notFresh0_10_C`: stored into since the region's entry or the last write-back, carried through the points that
    leave it idle by `hcarry0_10`; Lib/Pipeline/TableIdle.lean `Dat.before_out_traj`). -/
theorem before0_10_C (c : Dev nD) (t : Fin cfg0.N) (h0 : ¬t.val % 65 = 0) (h1 : t.val % 65 = 64) (d) :
    (dats m 0 c).before 10 t d = (outsAt0 m c (t.val - 1) (Nat.lt_of_le_of_lt (Nat.sub_le _ _) t.isLt)).2.1 := by
  rw [Dat.before_out_traj _ 10 rfl (fun _ _ => rfl) (hcarry0_10 m c) t.val t rfl d,
    if_neg (by rw [notFresh0_10_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  by_cases h0 : t.val % 65 = 0
  · by_cases h1 : t.val % 65 = 64
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h))], after0_10]
      by_cases hz : t.val = 0
      · rw [PhiS_castSucc m c t, PhiS_zero m c _ _ hz, PhiA0_eq]
        rw [outsAt0_A m c t h0 h1]
        unfold out0_A_10 sout0_A_0 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [HS0]; · iexact HS0
        isplitl [HS1]; · iexact HS1
        isplitl [HS2]; · iexact HS2
        isplitl [HS3]; · iexact HS3
        iintro ⟨H0, H1, H2, H3, H4, H5, H6, H7, H8, H9, ⟨%e10, H10⟩, ⟨%es0, HS0⟩, ⟨%es1, HS1⟩, ⟨%es2, HS2⟩, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _)
      · exfalso; have hN : t.val < 65 := lt_of_lt_of_eq t.isLt (show cfg0.N = 65 from N_0); omega
  · by_cases h1 : t.val % 65 = 64
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [idleAt0_10_C t (fun h => h0 ((hcond0_0 t).mp h)) ((hcond0_1 t).mpr h1), flush0_10_C t (fun h => h0 ((hcond0_0 t).mp h)) ((hcond0_1 t).mpr h1)], after0_10]
      by_cases hz : t.val = 0
      · exfalso; have hN : t.val < 65 := lt_of_lt_of_eq t.isLt (show cfg0.N = 65 from N_0); omega
      · rw [PhiS_castSucc m c t, PhiS_pos m c _ _ hz]
        rw [outsAt0_C m c t h0 h1]
        simp only [before0_10_C m c t h0 h1]
        unfold out0_C_9 out0_C_10 sout0_C_0 sout0_C_1 sout0_C_2 sout0_C_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) _ _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, ⟨%e9, H9⟩, H10, ⟨%es0, HS0⟩, HS1, HS2, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexact HS2
            unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _)
        iexact H10
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      by_cases hz : t.val = 0
      · exfalso; have hN : t.val < 65 := lt_of_lt_of_eq t.isLt (show cfg0.N = 65 from N_0); omega
      · rw [PhiS_castSucc m c t, PhiS_pos m c _ _ hz]
        rw [outsAt0_B m c t h0 h1]
        simp only [before0_10_B m c t h0 h1]
        unfold sout0_B_0 sout0_B_1 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _ _ _ _).2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [HS0]; · iexact HS0
        isplitl [HS1]; · iexact HS1
        isplitl [HS2]; · iexact HS2
        isplitl [HS3]; · iexact HS3
        iintro ⟨H0, H1, H2, H3, H4, H5, H6, H7, H8, H9, H10, ⟨%es0, HS0⟩, HS1, HS2, ⟨%es3, HS3⟩⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexact HS2
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        iexists d10; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_AugruIdeal`'s statement (Defs.lean) at any `F` — Proof.lean cites it at `Bits`:
    `theorem Cert.Proof.claim : Cert.Claim := ⟨Cert.AugruIdeal.Gen.facts, fun m ρ _ => Cert.AugruIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.AugruIdeal.Body

end
-- ==== Proof.AugruIdeal.Step.lean ====
/- What one grid point of the kernel computes, as functions of what it reads: eight steps of the recurrence, and
   the gate inputs of the next eight. -/
module

public import proofs.«01_k».proof.Proof.AugruIdeal.Frame
public import Idealize.ShloMosaic.Lib.Pipeline.ValueKit
public import Idealize.ShloMosaic.Lib.Pipeline.ReadBack
public import Idealize.ShloMosaic.Lib.ValueIdx

@[expose] public section

noncomputable section

namespace Cert.AugruIdeal.Body

open Cert.AugruIdeal Cert.AugruIdeal.Gen Idealize.ShloMosaic Idealize.ShloMosaic.TcCoe Idealize.SL.Sem

variable {F : FTy → Type} [FloatOps F]

/-- The remainder modulo 128 with the divisor's sign, as the kernel's scalar unit computes it. -/
def lane (x : BitVec 32) : BitVec 32 :=
  Scalar.select (Scalar.andi (Scalar.xori (Scalar.cmpi .slt (Scalar.remsi x 128#32) 0#32) (Scalar.cmpi .slt 128#32 0#32))
    (Scalar.cmpi .ne (Scalar.remsi x 128#32) 0#32)) (Scalar.addi (Scalar.remsi x 128#32) 128#32) (Scalar.remsi x 128#32)

/-- The lanes that hold time `x` of the attention: one lane of 128, or none while `x` is negative. -/
def pick (x : BitVec 32) : IVec S240x128 1 :=
  andi (cmpi .eq (iota .tc S240x128 32 [1] iota_S240x128_d1_w32) (broadcast S240x128 (lane x)))
    (broadcast S240x128 (Scalar.cmpi .sge x 0#32))

/-- The attention at the picked lane, in every lane. -/
def attAt (x : BitVec 32) (att : FVec F S240x128 .f32) : FVec F S240x128 .f32 :=
  broadcastTo S240x128 (shapeCast S240x1 (multiReduction .add [1] S240
    (select (pick x) att (broadcast S240x128 (Scalar.ofBits .f32 0x00000000#32))) 0x00000000#32 reduces_S240x128_S240 (.inl rfl) rfl)
    shapeCasts_S240_S240x1) broadcasts_S240x1_S240x128

/-- The gated update `(h - (a u) h) + (a u) n` with `a` the attention at time `x`. -/
def mix (x : BitVec 32) (att h u n : FVec F S240x128 .f32) : FVec F S240x128 .f32 :=
  addf (subf h (mulf (mulf (attAt x att) u) h)) (mulf (mulf (attAt x att) u) n)

/-- One step of the recurrence at time `x`: `w` the recurrent weights, `s0`, `s1`, `s2` the gates' scales, `b2` the
    candidate's bias, `g` the gate inputs. -/
def step (x : BitVec 32) (att : FVec F S240x128 .f32) (w : Vec F S128x384 .bf16) (s0 s1 s2 b2 : Vec F S1x128 .f32)
    (g : Vec F S1x240x384 .f32) (h : FVec F S240x128 .f32) : FVec F S240x128 .f32 :=
  mix x att h (k0_pay16 (k0_pay12 g) (k0_pay13 h w) s0) (k0_pay15 (k0_pay12 g) (k0_pay13 h w) (k0_pay14 h w) s1 s2 b2)

/-- The eight steps of a grid point whose first time is `x`. -/
def eight (x : BitVec 32) (att : FVec F S240x128 .f32) (w : Vec F S128x384 .bf16) (s0 s1 s2 b2 : Vec F S1x128 .f32)
    (g0 g1 g2 g3 g4 g5 g6 g7 : Vec F S1x240x384 .f32) (h : FVec F S240x128 .f32) : FVec F S240x128 .f32 :=
  step (Scalar.addi x 7#32) att w s0 s1 s2 b2 g7 (step (Scalar.addi x 6#32) att w s0 s1 s2 b2 g6
    (step (Scalar.addi x 5#32) att w s0 s1 s2 b2 g5 (step (Scalar.addi x 4#32) att w s0 s1 s2 b2 g4
      (step (Scalar.addi x 3#32) att w s0 s1 s2 b2 g3 (step (Scalar.addi x 2#32) att w s0 s1 s2 b2 g2
        (step (Scalar.addi x 1#32) att w s0 s1 s2 b2 g1 (step (Scalar.addi x 0#32) att w s0 s1 s2 b2 g0 h)))))))

/-- The first time of grid point `i`: eight times `i - 1`. -/
def time0 (i : grid0.Coords) : BitVec 32 := Scalar.muli (Scalar.subi (BitVec.ofNat 32 (i 0).val) 1#32) 8#32

theorem hz2 : (![0, 0] : Fin 2 → ℕ) = fun _ => 0 := funext fun a => by fin_cases a <;> rfl

/-- A middle or last point's eight steps from the state `h`: the attention `A`, the recurrent weights `W`, the scales `s`,
    the biases `b` and the gate inputs `G`. -/
def point (i : grid0.Coords) (A : Vec F S240x512 .f32) (W : Vec F S128x384 .bf16) (s b : Vec F S3x128 .f32)
    (G : Vec F S8x240x384 .f32) (h : Vec F S240x128 .f32) : FVec F S240x128 .f32 :=
  eight (time0 i) (k0_pay11 (View.ld A (Rect.unit (s := S240x512) (k0_off1 i) S240x128.size (k0_off1_inb i)))) W
    (View.ld s (Rect.unit (s := S3x128) ![0, 0] S1x128.size inb_S3x128_S1x128_0_0))
    (View.ld s (Rect.unit (s := S3x128) ![1, 0] S1x128.size inb_S3x128_S1x128_1_0))
    (View.ld s (Rect.unit (s := S3x128) ![2, 0] S1x128.size inb_S3x128_S1x128_2_0))
    (View.ld b (Rect.unit (s := S3x128) ![2, 0] S1x128.size inb_S3x128_S1x128_2_0))
    (View.ld G (Rect.unit (s := S8x240x384) ![0, 0, 0] S1x240x384.size inb_S8x240x384_S1x240x384_0_0_0))
    (View.ld G (Rect.unit (s := S8x240x384) ![1, 0, 0] S1x240x384.size inb_S8x240x384_S1x240x384_1_0_0))
    (View.ld G (Rect.unit (s := S8x240x384) ![2, 0, 0] S1x240x384.size inb_S8x240x384_S1x240x384_2_0_0))
    (View.ld G (Rect.unit (s := S8x240x384) ![3, 0, 0] S1x240x384.size inb_S8x240x384_S1x240x384_3_0_0))
    (View.ld G (Rect.unit (s := S8x240x384) ![4, 0, 0] S1x240x384.size inb_S8x240x384_S1x240x384_4_0_0))
    (View.ld G (Rect.unit (s := S8x240x384) ![5, 0, 0] S1x240x384.size inb_S8x240x384_S1x240x384_5_0_0))
    (View.ld G (Rect.unit (s := S8x240x384) ![6, 0, 0] S1x240x384.size inb_S8x240x384_S1x240x384_6_0_0))
    (View.ld G (Rect.unit (s := S8x240x384) ![7, 0, 0] S1x240x384.size inb_S8x240x384_S1x240x384_7_0_0))
    h

/-- The gate inputs of a block of eight steps: plane `t` is the block's plane `t` times the input weights, scaled and
    shifted. -/
def gates (X : Vec F S8x240x128 .bf16) (W : Vec F S128x384 .bf16) (s b : Vec F S1x384 .f32) : Vec F S8x240x384 .f32 :=
  fun y => k0_pay18 (fun z : S1x240x128.Idx => X (ix3 (y 0) (z 1) (z 2))) W s b (ix3 0 (y 1) (y 2))

theorem gates_piece (X : Vec F S8x240x128 .bf16) (W : Vec F S128x384 .bf16) (s b : Vec F S1x384 .f32) (k : ℕ)
    (h : ∀ a, (![k, 0, 0] : Fin 3 → ℕ) a + S1x240x128.size a ≤ S8x240x128.size a)
    (h' : ∀ a, (![k, 0, 0] : Fin 3 → ℕ) a + S1x240x384.size a ≤ S8x240x384.size a) (x : S1x240x384.Idx) :
    k0_pay18 (View.ld X (Rect.unit (s := S8x240x128) ![k, 0, 0] S1x240x128.size h)) W s b x
      = gates X W s b ((Rect.unit (s := S8x240x384) ![k, 0, 0] S1x240x384.size h').emb x) := by
  unfold gates
  congr 1
  · congr 1
    funext z
    show X _ = X _
    congr 1
    funext a
    apply Fin.ext
    have hz : (z 0).val = 0 := by have := (z 0).isLt; change (z 0).val < 1 at this; omega
    have hx : (x 0).val = 0 := by have := (x 0).isLt; change (x 0).val < 1 at this; omega
    fin_cases a
    · show k + 1 * (z 0).val = k + 1 * (x 0).val
      omega
    · show 0 + 1 * (z 1).val = (z 1).val
      omega
    · show 0 + 1 * (z 2).val = (z 2).val
      omega
  · funext a
    apply Fin.ext
    have hx : (x 0).val = 0 := by have := (x 0).isLt; change (x 0).val < 1 at this; omega
    fin_cases a
    · exact hx
    · show (x 1).val = 0 + 1 * (x 1).val
      omega
    · show (x 2).val = 0 + 1 * (x 2).val
      omega

variable (c : Dev nD) (i : grid0.Coords) (arg1 : Memref sig .tc .vmem S8x240x128 .bf16) (harg1 : arg1.IsWhole) (arg2 : Memref sig .tc .vmem S240x512 .f32) (harg2 : arg2.IsWhole) (arg3 : Memref sig .tc .vmem S240x128 .i32) (harg3 : arg3.IsWhole) (arg4 : Memref sig .tc .vmem S96x288 .fp8e4m3) (harg4 : arg4.IsWhole) (arg5 : Memref sig .tc .vmem S1x384 .f32) (harg5 : arg5.IsWhole) (arg6 : Memref sig .tc .vmem S1x384 .f32) (harg6 : arg6.IsWhole) (arg7 : Memref sig .tc .vmem S96x288 .fp8e4m3) (harg7 : arg7.IsWhole) (arg8 : Memref sig .tc .vmem S3x128 .f32) (harg8 : arg8.IsWhole) (arg9 : Memref sig .tc .vmem S3x128 .f32) (harg9 : arg9.IsWhole) (arg10 : Memref sig .tc .vmem S240x96 .bf16) (harg10 : arg10.IsWhole) (arg11 : Memref sig .tc .vmem S240x512 .f32) (harg11 : arg11.IsWhole) (arg12 : Memref sig .tc .vmem S8x240x384 .f32) (harg12 : arg12.IsWhole) (arg13 : Memref sig .tc .vmem S128x384 .bf16) (harg13 : arg13.IsWhole) (arg14 : Memref sig .tc .vmem S128x384 .bf16) (harg14 : arg14.IsWhole) (arg15 : Memref sig .tc .vmem S240x128 .f32) (harg15 : arg15.IsWhole)
  (x0 : Vec F S8x240x128 .bf16) (x1 : Vec F S240x512 .f32) (x2 : Vec F S240x128 .i32) (x3 : Vec F S96x288 .fp8e4m3) (x4 : Vec F S1x384 .f32) (x5 : Vec F S1x384 .f32) (x6 : Vec F S96x288 .fp8e4m3) (x7 : Vec F S3x128 .f32) (x8 : Vec F S3x128 .f32) (xo10 : Vec F S240x512 .f32) (xs0 : Vec F S8x240x384 .f32) (xs1 : Vec F S128x384 .bf16) (xs2 : Vec F S128x384 .bf16) (xs3 : Vec F S240x128 .f32)

theorem hz3 : (![0, 0, 0] : Fin 3 → ℕ) = fun _ => 0 := funext fun a => by fin_cases a <;> rfl

set_option maxHeartbeats 2000000 in
/-- A middle point leaves the eight steps' result in the state. -/
theorem state_B (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3
      = point i xo10 xs2 x7 x8 xs0 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3)]
  delta kernelRun0_B
  dsimp only
  rw [View.canon_unit_zero hz2]
  unfold k0_pay1
  rw [shapeCast_self]
  refine (show _ = eight (time0 i) (k0_pay11 (View.readAt (Elt F) arg11.view (Rect.unit (s := S240x512) (k0_off1 i) S240x128.size (k0_off1_inb i)).toLoadRect (harg11.unread xo10)))
      (View.readAt (Elt F) arg14.view (Rect.unit (s := S128x384) ![0, 0] S128x384.size inb_S128x384_S128x384_0_0).toLoadRect (harg14.unread xs2))
      (View.readAt (Elt F) arg8.view (Rect.unit (s := S3x128) ![0, 0] S1x128.size inb_S3x128_S1x128_0_0).toLoadRect (harg8.unread x7)) (View.readAt (Elt F) arg8.view (Rect.unit (s := S3x128) ![1, 0] S1x128.size inb_S3x128_S1x128_1_0).toLoadRect (harg8.unread x7)) (View.readAt (Elt F) arg8.view (Rect.unit (s := S3x128) ![2, 0] S1x128.size inb_S3x128_S1x128_2_0).toLoadRect (harg8.unread x7)) (View.readAt (Elt F) arg9.view (Rect.unit (s := S3x128) ![2, 0] S1x128.size inb_S3x128_S1x128_2_0).toLoadRect (harg9.unread x8))
      (View.readAt (Elt F) arg12.view (Rect.unit (s := S8x240x384) ![0, 0, 0] S1x240x384.size inb_S8x240x384_S1x240x384_0_0_0).toLoadRect (harg12.unread xs0))
      (View.readAt (Elt F) arg12.view (Rect.unit (s := S8x240x384) ![1, 0, 0] S1x240x384.size inb_S8x240x384_S1x240x384_1_0_0).toLoadRect (harg12.unread xs0))
      (View.readAt (Elt F) arg12.view (Rect.unit (s := S8x240x384) ![2, 0, 0] S1x240x384.size inb_S8x240x384_S1x240x384_2_0_0).toLoadRect (harg12.unread xs0))
      (View.readAt (Elt F) arg12.view (Rect.unit (s := S8x240x384) ![3, 0, 0] S1x240x384.size inb_S8x240x384_S1x240x384_3_0_0).toLoadRect (harg12.unread xs0))
      (View.readAt (Elt F) arg12.view (Rect.unit (s := S8x240x384) ![4, 0, 0] S1x240x384.size inb_S8x240x384_S1x240x384_4_0_0).toLoadRect (harg12.unread xs0))
      (View.readAt (Elt F) arg12.view (Rect.unit (s := S8x240x384) ![5, 0, 0] S1x240x384.size inb_S8x240x384_S1x240x384_5_0_0).toLoadRect (harg12.unread xs0))
      (View.readAt (Elt F) arg12.view (Rect.unit (s := S8x240x384) ![6, 0, 0] S1x240x384.size inb_S8x240x384_S1x240x384_6_0_0).toLoadRect (harg12.unread xs0))
      (View.readAt (Elt F) arg12.view (Rect.unit (s := S8x240x384) ![7, 0, 0] S1x240x384.size inb_S8x240x384_S1x240x384_7_0_0).toLoadRect (harg12.unread xs0))
      (View.readAt (Elt F) arg15.view (Rect.unit (s := S240x128) ![0, 0] S240x128.size inb_S240x128_S240x128_0_0).toLoadRect (harg15.unread xs3)) from rfl).trans ?_
  simp only [View.readAt_eq_ld, Memref.IsWhole.read_unread]
  rw [View.ld_unit_zero (S := S128x384) hz2 _ xs2, View.ld_unit_zero (S := S240x128) hz2 _ xs3]
  rfl

set_option maxHeartbeats 2000000 in
/-- A last point leaves the eight steps' result in the state. -/
theorem state_C (hc0 : ¬cond0_0 i) (hc1 : cond0_1 i) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3
      = point i xo10 xs2 x7 x8 xs0 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3)]
  delta kernelRun0_C
  dsimp only
  rw [View.canon_unit_zero hz2]
  unfold k0_pay1
  rw [shapeCast_self]
  refine (show _ = eight (time0 i) (k0_pay11 (View.readAt (Elt F) arg11.view (Rect.unit (s := S240x512) (k0_off1 i) S240x128.size (k0_off1_inb i)).toLoadRect (harg11.unread xo10)))
      (View.readAt (Elt F) arg14.view (Rect.unit (s := S128x384) ![0, 0] S128x384.size inb_S128x384_S128x384_0_0).toLoadRect (harg14.unread xs2))
      (View.readAt (Elt F) arg8.view (Rect.unit (s := S3x128) ![0, 0] S1x128.size inb_S3x128_S1x128_0_0).toLoadRect (harg8.unread x7)) (View.readAt (Elt F) arg8.view (Rect.unit (s := S3x128) ![1, 0] S1x128.size inb_S3x128_S1x128_1_0).toLoadRect (harg8.unread x7)) (View.readAt (Elt F) arg8.view (Rect.unit (s := S3x128) ![2, 0] S1x128.size inb_S3x128_S1x128_2_0).toLoadRect (harg8.unread x7)) (View.readAt (Elt F) arg9.view (Rect.unit (s := S3x128) ![2, 0] S1x128.size inb_S3x128_S1x128_2_0).toLoadRect (harg9.unread x8))
      (View.readAt (Elt F) arg12.view (Rect.unit (s := S8x240x384) ![0, 0, 0] S1x240x384.size inb_S8x240x384_S1x240x384_0_0_0).toLoadRect (harg12.unread xs0))
      (View.readAt (Elt F) arg12.view (Rect.unit (s := S8x240x384) ![1, 0, 0] S1x240x384.size inb_S8x240x384_S1x240x384_1_0_0).toLoadRect (harg12.unread xs0))
      (View.readAt (Elt F) arg12.view (Rect.unit (s := S8x240x384) ![2, 0, 0] S1x240x384.size inb_S8x240x384_S1x240x384_2_0_0).toLoadRect (harg12.unread xs0))
      (View.readAt (Elt F) arg12.view (Rect.unit (s := S8x240x384) ![3, 0, 0] S1x240x384.size inb_S8x240x384_S1x240x384_3_0_0).toLoadRect (harg12.unread xs0))
      (View.readAt (Elt F) arg12.view (Rect.unit (s := S8x240x384) ![4, 0, 0] S1x240x384.size inb_S8x240x384_S1x240x384_4_0_0).toLoadRect (harg12.unread xs0))
      (View.readAt (Elt F) arg12.view (Rect.unit (s := S8x240x384) ![5, 0, 0] S1x240x384.size inb_S8x240x384_S1x240x384_5_0_0).toLoadRect (harg12.unread xs0))
      (View.readAt (Elt F) arg12.view (Rect.unit (s := S8x240x384) ![6, 0, 0] S1x240x384.size inb_S8x240x384_S1x240x384_6_0_0).toLoadRect (harg12.unread xs0))
      (View.readAt (Elt F) arg12.view (Rect.unit (s := S8x240x384) ![7, 0, 0] S1x240x384.size inb_S8x240x384_S1x240x384_7_0_0).toLoadRect (harg12.unread xs0))
      (View.readAt (Elt F) arg15.view (Rect.unit (s := S240x128) ![0, 0] S240x128.size inb_S240x128_S240x128_0_0).toLoadRect (harg15.unread xs3)) from rfl).trans ?_
  simp only [View.readAt_eq_ld, Memref.IsWhole.read_unread]
  rw [View.ld_unit_zero (S := S128x384) hz2 _ xs2, View.ld_unit_zero (S := S240x128) hz2 _ xs3]
  rfl

set_option maxHeartbeats 2000000 in
/-- The last point writes the state's 96 lanes out. -/
theorem interest_C (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3
      = k0_pay2 (point i xo10 xs2 x7 x8 xs0 xs3) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3)]
  delta kernelRun0_C
  dsimp only
  rw [View.canon_unit_zero hz2]
  refine (show _ = k0_pay2 (eight (time0 i) (k0_pay11 (View.readAt (Elt F) arg11.view (Rect.unit (s := S240x512) (k0_off1 i) S240x128.size (k0_off1_inb i)).toLoadRect (harg11.unread xo10)))
      (View.readAt (Elt F) arg14.view (Rect.unit (s := S128x384) ![0, 0] S128x384.size inb_S128x384_S128x384_0_0).toLoadRect (harg14.unread xs2))
      (View.readAt (Elt F) arg8.view (Rect.unit (s := S3x128) ![0, 0] S1x128.size inb_S3x128_S1x128_0_0).toLoadRect (harg8.unread x7)) (View.readAt (Elt F) arg8.view (Rect.unit (s := S3x128) ![1, 0] S1x128.size inb_S3x128_S1x128_1_0).toLoadRect (harg8.unread x7)) (View.readAt (Elt F) arg8.view (Rect.unit (s := S3x128) ![2, 0] S1x128.size inb_S3x128_S1x128_2_0).toLoadRect (harg8.unread x7)) (View.readAt (Elt F) arg9.view (Rect.unit (s := S3x128) ![2, 0] S1x128.size inb_S3x128_S1x128_2_0).toLoadRect (harg9.unread x8))
      (View.readAt (Elt F) arg12.view (Rect.unit (s := S8x240x384) ![0, 0, 0] S1x240x384.size inb_S8x240x384_S1x240x384_0_0_0).toLoadRect (harg12.unread xs0))
      (View.readAt (Elt F) arg12.view (Rect.unit (s := S8x240x384) ![1, 0, 0] S1x240x384.size inb_S8x240x384_S1x240x384_1_0_0).toLoadRect (harg12.unread xs0))
      (View.readAt (Elt F) arg12.view (Rect.unit (s := S8x240x384) ![2, 0, 0] S1x240x384.size inb_S8x240x384_S1x240x384_2_0_0).toLoadRect (harg12.unread xs0))
      (View.readAt (Elt F) arg12.view (Rect.unit (s := S8x240x384) ![3, 0, 0] S1x240x384.size inb_S8x240x384_S1x240x384_3_0_0).toLoadRect (harg12.unread xs0))
      (View.readAt (Elt F) arg12.view (Rect.unit (s := S8x240x384) ![4, 0, 0] S1x240x384.size inb_S8x240x384_S1x240x384_4_0_0).toLoadRect (harg12.unread xs0))
      (View.readAt (Elt F) arg12.view (Rect.unit (s := S8x240x384) ![5, 0, 0] S1x240x384.size inb_S8x240x384_S1x240x384_5_0_0).toLoadRect (harg12.unread xs0))
      (View.readAt (Elt F) arg12.view (Rect.unit (s := S8x240x384) ![6, 0, 0] S1x240x384.size inb_S8x240x384_S1x240x384_6_0_0).toLoadRect (harg12.unread xs0))
      (View.readAt (Elt F) arg12.view (Rect.unit (s := S8x240x384) ![7, 0, 0] S1x240x384.size inb_S8x240x384_S1x240x384_7_0_0).toLoadRect (harg12.unread xs0))
      (View.readAt (Elt F) arg15.view (Rect.unit (s := S240x128) ![0, 0] S240x128.size inb_S240x128_S240x128_0_0).toLoadRect (harg15.unread xs3))) from rfl).trans ?_
  simp only [View.readAt_eq_ld, Memref.IsWhole.read_unread]
  rw [View.ld_unit_zero (S := S128x384) hz2 _ xs2, View.ld_unit_zero (S := S240x128) hz2 _ xs3]
  rfl

set_option maxHeartbeats 2000000 in
/-- A point leaves the next block's gate inputs in the scratch. -/
theorem gates_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3
      = gates x0 xs1 x4 x5 := by
  unfold sout0_B_0
  funext y
  refine VS0_0.read_writes_apply_of_pieces _ (gates x0 xs1 x4 x5) _ ?_ y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3 y)
  delta kernelRun0_B
  dsimp only
  simp only [View.readAt_eq_ld, Memref.IsWhole.read_unread]
  rw [View.ld_unit_zero (S := S128x384) hz2 _ xs1, View.ld_unit_zero (S := S1x384) hz2 _ x4, View.ld_unit_zero (S := S1x384) hz2 _ x5]
  intro p hp
  simp only [List.mem_cons, List.not_mem_nil, or_false] at hp
  rcases hp with rfl | rfl | rfl | rfl | rfl | rfl | rfl | rfl
  · exact fun x => gates_piece x0 xs1 x4 x5 7 inb_S8x240x128_S1x240x128_7_0_0 inb_S8x240x384_S1x240x384_7_0_0 x
  · exact fun x => gates_piece x0 xs1 x4 x5 6 inb_S8x240x128_S1x240x128_6_0_0 inb_S8x240x384_S1x240x384_6_0_0 x
  · exact fun x => gates_piece x0 xs1 x4 x5 5 inb_S8x240x128_S1x240x128_5_0_0 inb_S8x240x384_S1x240x384_5_0_0 x
  · exact fun x => gates_piece x0 xs1 x4 x5 4 inb_S8x240x128_S1x240x128_4_0_0 inb_S8x240x384_S1x240x384_4_0_0 x
  · exact fun x => gates_piece x0 xs1 x4 x5 3 inb_S8x240x128_S1x240x128_3_0_0 inb_S8x240x384_S1x240x384_3_0_0 x
  · exact fun x => gates_piece x0 xs1 x4 x5 2 inb_S8x240x128_S1x240x128_2_0_0 inb_S8x240x384_S1x240x384_2_0_0 x
  · exact fun x => gates_piece x0 xs1 x4 x5 1 inb_S8x240x128_S1x240x128_1_0_0 inb_S8x240x384_S1x240x384_1_0_0 x
  · exact fun x => gates_piece x0 xs1 x4 x5 0 inb_S8x240x128_S1x240x128_0_0_0 inb_S8x240x384_S1x240x384_0_0_0 x

set_option maxHeartbeats 2000000 in
/-- A point leaves the next block's gate inputs in the scratch. -/
theorem gates_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3
      = gates x0 xs1 x4 x5 := by
  unfold sout0_C_0
  funext y
  refine VS0_0.read_writes_apply_of_pieces _ (gates x0 xs1 x4 x5) _ ?_ y (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xo10 xs0 xs1 xs2 xs3 y)
  delta kernelRun0_C
  dsimp only
  simp only [View.readAt_eq_ld, Memref.IsWhole.read_unread]
  rw [View.ld_unit_zero (S := S128x384) hz2 _ xs1, View.ld_unit_zero (S := S1x384) hz2 _ x4, View.ld_unit_zero (S := S1x384) hz2 _ x5]
  intro p hp
  simp only [List.mem_cons, List.not_mem_nil, or_false] at hp
  rcases hp with rfl | rfl | rfl | rfl | rfl | rfl | rfl | rfl
  · exact fun x => gates_piece x0 xs1 x4 x5 7 inb_S8x240x128_S1x240x128_7_0_0 inb_S8x240x384_S1x240x384_7_0_0 x
  · exact fun x => gates_piece x0 xs1 x4 x5 6 inb_S8x240x128_S1x240x128_6_0_0 inb_S8x240x384_S1x240x384_6_0_0 x
  · exact fun x => gates_piece x0 xs1 x4 x5 5 inb_S8x240x128_S1x240x128_5_0_0 inb_S8x240x384_S1x240x384_5_0_0 x
  · exact fun x => gates_piece x0 xs1 x4 x5 4 inb_S8x240x128_S1x240x128_4_0_0 inb_S8x240x384_S1x240x384_4_0_0 x
  · exact fun x => gates_piece x0 xs1 x4 x5 3 inb_S8x240x128_S1x240x128_3_0_0 inb_S8x240x384_S1x240x384_3_0_0 x
  · exact fun x => gates_piece x0 xs1 x4 x5 2 inb_S8x240x128_S1x240x128_2_0_0 inb_S8x240x384_S1x240x384_2_0_0 x
  · exact fun x => gates_piece x0 xs1 x4 x5 1 inb_S8x240x128_S1x240x128_1_0_0 inb_S8x240x384_S1x240x384_1_0_0 x
  · exact fun x => gates_piece x0 xs1 x4 x5 0 inb_S8x240x128_S1x240x128_0_0_0 inb_S8x240x384_S1x240x384_0_0_0 x

set_option maxHeartbeats 2000000 in
/-- The first point leaves the attention in its output. -/
theorem att_A (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
      = k0_pay10 (View.ld x2 (Rect.unit (s := S240x128) ![0, 0] S240x1.size inb_S240x128_S240x1_0_0)) x1 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  delta kernelRun0_A
  dsimp only
  unfold kernelRun0_A.sl.H10_1
  rw [View.canon_unit_zero hz2]

  simp only [View.readAt_eq_ld, Memref.IsWhole.read_unread]
  rw [View.ld_unit_zero (S := S240x512) hz2 _ x1]

set_option maxHeartbeats 2000000 in
/-- The first point leaves the padded input weights in their scratch. -/
theorem wih_A (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
      = k0_pay5 x3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  delta kernelRun0_A
  dsimp only
  unfold kernelRun0_A.sl.HS1_1
  rw [View.canon_unit_zero hz2]

  simp only [View.readAt_eq_ld, Memref.IsWhole.read_unread]
  rw [View.ld_unit_zero (S := S96x288) hz2 _ x3]

set_option maxHeartbeats 2000000 in
/-- The first point leaves the padded recurrent weights in their scratch. -/
theorem whh_A (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
      = k0_pay9 (k0_pay6 x6) (k0_pay7 x6) k0_pay8 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  delta kernelRun0_A
  dsimp only
  unfold kernelRun0_A.sl.HS2_1
  rw [View.canon_unit_zero hz2]
  unfold kernelRun0_A.sl.r kernelRun0_A.sl.r_1
  simp only [View.readAt_eq_ld, Memref.IsWhole.read_unread]
  rw [View.ld_unit_zero (S := S96x288) hz2 _ x6]

/-- Pieces that agree with one function decide what they cover, whatever was written before them. -/
theorem read_prefix {κ : Kind} {sp : Space} {s : Shape} {e : EltTy} (v : View sig κ sp s e) (f : v.ty.Contents (Elt F)) (G : s.Idx → Elt F e)
    (L L' : List (View.Piece (Elt F) s e)) (hG : ∀ p ∈ L, ∀ x : p.1.shape.Idx, p.2 x = G (p.1.emb x)) (y : s.Idx)
    (h : ∃ p ∈ L, y ∈ p.1.set) : v.read (Elt F) (v.writes (Elt F) f (L ++ L')) y = G y := by
  rw [View.writes_append]
  exact v.read_writes_apply_of_pieces _ G L hG y h

/-- The eight planes of gate inputs as they are stored, the last first. -/
def planes (X : Vec F S8x240x128 .bf16) (W : Vec F S128x384 .bf16) (s b : Vec F S1x384 .f32) : List (View.Piece (Elt F) S8x240x384 .f32) :=
  [
      ⟨Rect.unit (s := S8x240x384) ![7, 0, 0] S1x240x384.size inb_S8x240x384_S1x240x384_7_0_0, k0_pay76 (View.ld X (Rect.unit (s := S8x240x128) ![7, 0, 0] S1x240x128.size inb_S8x240x128_S1x240x128_7_0_0)) W s b⟩,
      ⟨Rect.unit (s := S8x240x384) ![6, 0, 0] S1x240x384.size inb_S8x240x384_S1x240x384_6_0_0, k0_pay67 (View.ld X (Rect.unit (s := S8x240x128) ![6, 0, 0] S1x240x128.size inb_S8x240x128_S1x240x128_6_0_0)) W s b⟩,
      ⟨Rect.unit (s := S8x240x384) ![5, 0, 0] S1x240x384.size inb_S8x240x384_S1x240x384_5_0_0, k0_pay59 (View.ld X (Rect.unit (s := S8x240x128) ![5, 0, 0] S1x240x128.size inb_S8x240x128_S1x240x128_5_0_0)) W s b⟩,
      ⟨Rect.unit (s := S8x240x384) ![4, 0, 0] S1x240x384.size inb_S8x240x384_S1x240x384_4_0_0, k0_pay50 (View.ld X (Rect.unit (s := S8x240x128) ![4, 0, 0] S1x240x128.size inb_S8x240x128_S1x240x128_4_0_0)) W s b⟩,
      ⟨Rect.unit (s := S8x240x384) ![3, 0, 0] S1x240x384.size inb_S8x240x384_S1x240x384_3_0_0, k0_pay41 (View.ld X (Rect.unit (s := S8x240x128) ![3, 0, 0] S1x240x128.size inb_S8x240x128_S1x240x128_3_0_0)) W s b⟩,
      ⟨Rect.unit (s := S8x240x384) ![2, 0, 0] S1x240x384.size inb_S8x240x384_S1x240x384_2_0_0, k0_pay33 (View.ld X (Rect.unit (s := S8x240x128) ![2, 0, 0] S1x240x128.size inb_S8x240x128_S1x240x128_2_0_0)) W s b⟩,
      ⟨Rect.unit (s := S8x240x384) ![1, 0, 0] S1x240x384.size inb_S8x240x384_S1x240x384_1_0_0, k0_pay25 (View.ld X (Rect.unit (s := S8x240x128) ![1, 0, 0] S1x240x128.size inb_S8x240x128_S1x240x128_1_0_0)) W s b⟩,
      ⟨Rect.unit (s := S8x240x384) ![0, 0, 0] S1x240x384.size inb_S8x240x384_S1x240x384_0_0_0, k0_pay18 (View.ld X (Rect.unit (s := S8x240x128) ![0, 0, 0] S1x240x128.size inb_S8x240x128_S1x240x128_0_0_0)) W s b⟩]

theorem planes_cover (X : Vec F S8x240x128 .bf16) (W : Vec F S128x384 .bf16) (s b : Vec F S1x384 .f32) (y : S8x240x384.Idx) :
    ∃ p ∈ planes X W s b, y ∈ p.1.set :=
  View.cover_of_tiledL (planes X W s b) S1x240x384.size (by sl_kernel_rfl) y

set_option maxHeartbeats 2000000 in
/-- The first point leaves the first block's gate inputs in the scratch. -/
theorem gates_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
      = gates x0 (k0_pay5 x3) x4 x5 := by
  have hv : kernelRun0_A.sl.v98 c arg4 harg4 arg13 x3 = k0_pay5 x3 := by
    unfold kernelRun0_A.sl.v98 kernelRun0_A.sl.HS1_1
    rw [View.readCov_cons_toLoadRect, View.readAt_eq_ld, Memref.IsWhole.read_unread, View.ld_unit_zero (S := S96x288) hz2 _ x3]
  unfold sout0_A_0
  funext y
  delta kernelRun0_A
  dsimp only
  unfold kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2
  simp only [hv, View.readAt_eq_ld, Memref.IsWhole.read_unread]
  rw [View.ld_unit_zero (S := S1x384) hz2 _ x4, View.ld_unit_zero (S := S1x384) hz2 _ x5]
  refine read_prefix VS0_0 _ (gates x0 (k0_pay5 x3) x4 x5) (planes x0 (k0_pay5 x3) x4 x5) kernelRun0_A.sl.HS0_1 ?_ y
    (planes_cover _ _ _ _ y)
  intro p hp
  simp only [planes, List.mem_cons, List.not_mem_nil, or_false] at hp
  rcases hp with rfl | rfl | rfl | rfl | rfl | rfl | rfl | rfl
  · exact fun x => gates_piece x0 (k0_pay5 x3) x4 x5 7 inb_S8x240x128_S1x240x128_7_0_0 inb_S8x240x384_S1x240x384_7_0_0 x
  · exact fun x => gates_piece x0 (k0_pay5 x3) x4 x5 6 inb_S8x240x128_S1x240x128_6_0_0 inb_S8x240x384_S1x240x384_6_0_0 x
  · exact fun x => gates_piece x0 (k0_pay5 x3) x4 x5 5 inb_S8x240x128_S1x240x128_5_0_0 inb_S8x240x384_S1x240x384_5_0_0 x
  · exact fun x => gates_piece x0 (k0_pay5 x3) x4 x5 4 inb_S8x240x128_S1x240x128_4_0_0 inb_S8x240x384_S1x240x384_4_0_0 x
  · exact fun x => gates_piece x0 (k0_pay5 x3) x4 x5 3 inb_S8x240x128_S1x240x128_3_0_0 inb_S8x240x384_S1x240x384_3_0_0 x
  · exact fun x => gates_piece x0 (k0_pay5 x3) x4 x5 2 inb_S8x240x128_S1x240x128_2_0_0 inb_S8x240x384_S1x240x384_2_0_0 x
  · exact fun x => gates_piece x0 (k0_pay5 x3) x4 x5 1 inb_S8x240x128_S1x240x128_1_0_0 inb_S8x240x384_S1x240x384_1_0_0 x
  · exact fun x => gates_piece x0 (k0_pay5 x3) x4 x5 0 inb_S8x240x128_S1x240x128_0_0_0 inb_S8x240x384_S1x240x384_0_0_0 x

set_option maxHeartbeats 2000000 in
/-- The first point's eight steps start from zero. -/
theorem state_A (hc0 : cond0_0 i) (hc1 : ¬cond0_1 i) : ∃ att w s0 s1 s2 b2 g0 g1 g2 g3 g4 g5 g6 g7,
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8
      = eight (time0 i) att w s0 s1 s2 b2 g0 g1 g2 g3 g4 g5 g6 g7 k0_pay4 := by
  have hv : kernelRun0_A.sl.v29 (F := F) c arg15 = k0_pay4 := by
    unfold kernelRun0_A.sl.v29 kernelRun0_A.sl.HS3_1
    rw [View.readCov_cons_toLoadRect]
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  delta kernelRun0_A
  dsimp only
  rw [View.canon_cons_unit_zero hz2]
  unfold k0_pay1
  rw [shapeCast_self, ← hv]
  exact ⟨_, _, _, _, _, _, _, _, _, _, _, _, _, _, rfl⟩

end Cert.AugruIdeal.Body

end
-- ==== Proof.Value.Scalar.lean ====
/- The recurrence that kernel and reference both compute, on extended reals, and the algebra of one step. -/
module

public import Idealize.ShloMosaic.Lib.Pointwise

@[expose] public section

noncomputable section

namespace Cert.Recurrence

open Idealize.ShloMosaic

/-! ## Constants and the two sigmoids -/

theorem half_f32 : Ideal.ofBits .f32 0x3F000000#32 = ((1 / 2 : ℝ) : EReal) := by
  simp [Ideal.ofBits, Ideal.ieee, -EReal.coe_mul]; norm_num

theorem real_tanh (x : EReal) : ∃ r : ℝ, Ideal.tanh x = r := by
  induction x using EReal.rec with
  | bot => exact ⟨-1, by simp⟩
  | top => exact ⟨1, by simp⟩
  | coe r => exact ⟨Real.tanh r, by simp⟩

theorem real_logistic (x : EReal) : ∃ r : ℝ, Ideal.logistic x = r := by
  induction x using EReal.rec with
  | bot => exact ⟨0, by simp⟩
  | top => exact ⟨1, by simp⟩
  | coe r => exact ⟨_, Ideal.logistic_coe r⟩

theorem tanh_half_real (r : ℝ) : 1 / 2 * Real.tanh (r * (1 / 2)) + 1 / 2 = (1 + Real.exp (-r))⁻¹ := by
  have e : Real.exp (-r) = Real.exp (-(r * (1 / 2))) * Real.exp (-(r * (1 / 2))) := by rw [← Real.exp_add]; ring_nf
  have f : Real.exp (r * (1 / 2)) * Real.exp (-(r * (1 / 2))) = 1 := by rw [← Real.exp_add]; simp
  rw [Real.tanh_eq_sinh_div_cosh, Real.sinh_eq, Real.cosh_eq, e]
  have p := Real.exp_pos (r * (1 / 2))
  have q := Real.exp_pos (-(r * (1 / 2)))
  generalize Real.exp (r * (1 / 2)) = A at *
  generalize Real.exp (-(r * (1 / 2))) = B at *
  field_simp
  nlinarith

/-- The sigmoid by the hyperbolic tangent of half the argument, at every extended real. -/
theorem tanh_half (x : EReal) :
    ((1 / 2 : ℝ) : EReal) * Ideal.tanh (x * ((1 / 2 : ℝ) : EReal)) + ((1 / 2 : ℝ) : EReal) = Ideal.logistic x := by
  induction x using EReal.rec with
  | bot =>
    rw [EReal.bot_mul_coe_of_pos (by norm_num), Ideal.tanh_bot, Ideal.logistic_bot, show (-1 : EReal) = ((-1 : ℝ) : EReal) from rfl,
      ← EReal.coe_mul, ← EReal.coe_add]
    norm_num
  | top =>
    rw [EReal.top_mul_coe_of_pos (by norm_num)]
    simp only [Ideal.tanh_top, Ideal.logistic_top]
    norm_cast
    norm_num
  | coe r =>
    rw [← EReal.coe_mul, Ideal.tanh_coe, Ideal.logistic_coe, ← EReal.coe_mul, ← EReal.coe_add, tanh_half_real]

/-- A positive real factor distributes over every sum. -/
theorem add_half (x y : EReal) :
    (x + y) * ((1 / 2 : ℝ) : EReal) = x * ((1 / 2 : ℝ) : EReal) + y * ((1 / 2 : ℝ) : EReal) := by
  rw [mul_comm, mul_comm x, mul_comm y]
  exact EReal.left_distrib_of_nonneg_of_ne_top (by exact_mod_cast (by norm_num : (0:ℝ) ≤ 1 / 2)) (EReal.coe_ne_top _) x y

/-- A sum over 128 lanes of which the last 32 contribute nothing. -/
theorem sum_lanes (f : Fin 128 → EReal) (hf : ∀ k : Fin 128, 96 ≤ k.val → f k = 0) :
    ∑ k, f k = ∑ k : Fin 96, f ⟨k.val, by omega⟩ := by
  rw [show (∑ k, f k) = ∑ k : Fin (96 + 32), f k from rfl, Fin.sum_univ_add]
  rw [Finset.sum_eq_zero (s := Finset.univ) (f := fun i : Fin 32 => f (Fin.natAdd 96 i)), add_zero]
  · rfl
  · intro i _
    exact hf _ (by simp)

theorem real_sum {n : ℕ} (f : Fin n → EReal) (hf : ∀ k, ∃ r : ℝ, f k = r) : ∃ r : ℝ, ∑ k, f k = r := by
  choose g hg using hf
  exact ⟨∑ k, g k, by simp only [hg]; exact (map_sum (⟨⟨Real.toEReal, rfl⟩, EReal.coe_add⟩ : ℝ →+ EReal) g Finset.univ).symm⟩

/-! ## The recurrence -/

/-- A gate's input: the product with column `j` of the gate's weights, scaled, with the bias added. -/
def gate (w : Fin 96 → Fin 3 → Fin 96 → EReal) (s b : Fin 3 → Fin 96 → EReal) (x : Fin 96 → EReal) (g : Fin 3) (j : Fin 96) : EReal :=
  (∑ k, x k * w k g j) * s g j + b g j

section
variable (wx wh : Fin 96 → Fin 3 → Fin 96 → EReal) (sx bx sh bh : Fin 3 → Fin 96 → EReal)

/-- One step of the GRU whose update gate is scaled by the attention `a`. -/
def next (a : EReal) (x h : Fin 96 → EReal) (j : Fin 96) : EReal :=
  (1 - a * Ideal.logistic (gate wx sx bx x 0 j + gate wh sh bh h 0 j)) * h j +
    a * Ideal.logistic (gate wx sx bx x 0 j + gate wh sh bh h 0 j) *
      Ideal.tanh (gate wx sx bx x 2 j + Ideal.logistic (gate wx sx bx x 1 j + gate wh sh bh h 1 j) * gate wh sh bh h 2 j)

/-- The state after the first `n` steps, from zero. -/
def state (x : ℕ → Fin 96 → EReal) (a : ℕ → EReal) : ℕ → Fin 96 → EReal
  | 0 => fun _ => 0
  | n + 1 => next wx wh sx bx sh bh (a n) (x n) (state x a n)

theorem real_next (a : EReal) (ha : ∃ r : ℝ, a = r) (x h : Fin 96 → EReal) (hh : ∀ j, ∃ r : ℝ, h j = r) (j : Fin 96) :
    ∃ r : ℝ, next wx wh sx bx sh bh a x h j = r := by
  unfold next
  obtain ⟨a, rfl⟩ := ha
  obtain ⟨y, hy⟩ := hh j
  obtain ⟨u, hu⟩ := real_logistic (gate wx sx bx x 0 j + gate wh sh bh h 0 j)
  obtain ⟨n, hn⟩ := real_tanh (gate wx sx bx x 2 j + Ideal.logistic (gate wx sx bx x 1 j + gate wh sh bh h 1 j) * gate wh sh bh h 2 j)
  rw [hu, hn, hy]
  exact ⟨(1 - a * u) * y + a * u * n, by norm_cast⟩

theorem real_state (x : ℕ → Fin 96 → EReal) (a : ℕ → EReal) (ha : ∀ t, ∃ r : ℝ, a t = r) (n : ℕ) (j : Fin 96) :
    ∃ r : ℝ, state wx wh sx bx sh bh x a n j = r := by
  induction n generalizing j with
  | zero => exact ⟨0, rfl⟩
  | succ n ih => exact real_next wx wh sx bx sh bh _ (ha n) _ _ ih j

/-- The step as the kernel computes it, from products with the weights, scales and biases that hold the halves of the
    two sigmoids, with the biases of these two gates added to the first product's. -/
theorem next_eq (c : EReal) (hc : c = ((1 / 2 : ℝ) : EReal)) (a : EReal) (ha : ∃ r : ℝ, a = r) (x h : Fin 96 → EReal) (hh : ∀ j, ∃ r : ℝ, h j = r) (j : Fin 96)
    (hw : ∀ k, ∃ r : ℝ, wh k 2 j = r) (hs : ∃ r : ℝ, sh 2 j = r) (hb : ∃ r : ℝ, bh 2 j = r) :
    h j - a * (c * Ideal.tanh ((∑ k, h k * wh k 0 j) * (sh 0 j * c)
            + ((∑ k, x k * wx k 0 j) * (sx 0 j * c) + (bx 0 j + bh 0 j * 1) * c)) + c) * h j
      + a * (c * Ideal.tanh ((∑ k, h k * wh k 0 j) * (sh 0 j * c)
            + ((∑ k, x k * wx k 0 j) * (sx 0 j * c) + (bx 0 j + bh 0 j * 1) * c)) + c) *
        Ideal.tanh (((∑ k, x k * wx k 2 j) * (sx 2 j * 1) + (bx 2 j + bh 2 j * 0) * 1)
          + ((∑ k, h k * wh k 2 j) * (sh 2 j * c) + bh 2 j * c)
          + Ideal.tanh ((∑ k, h k * wh k 1 j) * (sh 1 j * c)
            + ((∑ k, x k * wx k 1 j) * (sx 1 j * c) + (bx 1 j + bh 1 j * 1) * c))
            * ((∑ k, h k * wh k 2 j) * (sh 2 j * c) + bh 2 j * c))
      = next wx wh sx bx sh bh a x h j := by
  subst hc
  have arg : ∀ P Q s t b d : EReal, P * (s * ((1 / 2 : ℝ) : EReal)) + (Q * (t * ((1 / 2 : ℝ) : EReal)) + (b + d * 1) * ((1 / 2 : ℝ) : EReal))
      = ((Q * t + b) + (P * s + d)) * ((1 / 2 : ℝ) : EReal) := by
    intro P Q s t b d
    rw [mul_one, add_half b, add_half (Q * t + b), add_half (Q * t), add_half (P * s), mul_assoc Q, mul_assoc P]
    abel
  rw [arg, arg, tanh_half]
  unfold next gate
  obtain ⟨a, rfl⟩ := ha
  obtain ⟨y, hy⟩ := hh j
  obtain ⟨s, hs⟩ := hs
  obtain ⟨b, hb⟩ := hb
  obtain ⟨D, hD⟩ : ∃ r : ℝ, (∑ k, h k * wh k 2 j) = r := real_sum _ fun k => by
    obtain ⟨p, hp⟩ := hh k
    obtain ⟨q, hq⟩ := hw k
    exact ⟨p * q, by rw [hp, hq, EReal.coe_mul]⟩
  obtain ⟨u, hu⟩ := real_logistic ((∑ k, x k * wx k 0 j) * sx 0 j + bx 0 j + ((∑ k, h k * wh k 0 j) * sh 0 j + bh 0 j))
  rw [← tanh_half ((∑ k, x k * wx k 1 j) * sx 1 j + bx 1 j + ((∑ k, h k * wh k 1 j) * sh 1 j + bh 1 j))]
  obtain ⟨t, ht⟩ := real_tanh (((∑ k, x k * wx k 1 j) * sx 1 j + bx 1 j + ((∑ k, h k * wh k 1 j) * sh 1 j + bh 1 j)) * ((1 / 2 : ℝ) : EReal))
  rw [hu, ht, hD, hy, hs, hb]
  have cand : ∀ P : EReal, P * (sx 2 j * 1) + (bx 2 j + (b : EReal) * 0) * 1
        + ((D : EReal) * ((s : EReal) * ((1 / 2 : ℝ) : EReal)) + (b : EReal) * ((1 / 2 : ℝ) : EReal))
        + (t : EReal) * ((D : EReal) * ((s : EReal) * ((1 / 2 : ℝ) : EReal)) + (b : EReal) * ((1 / 2 : ℝ) : EReal))
      = P * sx 2 j + bx 2 j + (((1 / 2 : ℝ) : EReal) * (t : EReal) + ((1 / 2 : ℝ) : EReal)) * ((D : EReal) * (s : EReal) + (b : EReal)) := by
    intro P
    rw [mul_zero, add_zero, mul_one, mul_one, add_assoc (P * sx 2 j + bx 2 j)]
    congr 1
    norm_cast
    ring
  rw [cand]
  obtain ⟨n, hn⟩ := real_tanh ((∑ k, x k * wx k 2 j) * sx 2 j + bx 2 j + (((1 / 2 : ℝ) : EReal) * (t : EReal) + ((1 / 2 : ℝ) : EReal)) * ((D : EReal) * (s : EReal) + (b : EReal)))
  rw [hn]
  norm_cast
  ring

end

end Cert.Recurrence

end
-- ==== Proof.Value.Kernel.lean ====
/- The kernel's steps, gate inputs and padded weights over the extended reals, read at an index. -/
module

public import proofs.«01_k».proof.Proof.AugruIdeal.Step
public import proofs.«01_k».proof.Proof.Value.Scalar

@[expose] public section

noncomputable section

namespace Cert.AugruIdeal.Body

open Cert.AugruIdeal Cert.AugruIdeal.Gen Idealize.ShloMosaic Idealize.ShloMosaic.TcCoe Idealize.SL.Sem

/-- One half, as the kernel spells it. -/
abbrev half : EReal := Ideal.ofBits .f32 0x3F000000#32

/-! ## The attention of a step -/

theorem lane_ofNat : ∀ T : Fin 512, lane (BitVec.ofNat 32 T.val) = BitVec.ofNat 32 (T.val % 128) := by decide +kernel

theorem sge_ofNat : ∀ T : Fin 512, Scalar.cmpi .sge (BitVec.ofNat 32 T.val) 0#32 = 1#1 := by decide +kernel

theorem eq_lane (l : Fin 128) (T : Fin 512) :
    IntOp.cmpi .eq (BitVec.ofNat 32 l.val) (BitVec.ofNat 32 (T.val % 128)) = if l.val = T.val % 128 then 1#1 else 0#1 := by
  unfold IntOp.cmpi
  by_cases h : l.val = T.val % 128
  · simp [h]
  · have : BitVec.ofNat 32 l.val ≠ BitVec.ofNat 32 (T.val % 128) := by
      intro e
      have := congrArg BitVec.toNat e
      simp only [BitVec.toNat_ofNat] at this
      omega
    simp only [if_neg h, beq_eq_false_iff_ne.mpr this]; rfl

/-- At time `T` the step takes its attention from lane `T % 128` of the block. -/
theorem attAt_apply (T : Fin 512) (att : FVec Ideal S240x128 .f32) (b : Fin 240) (l : Fin 128) :
    attAt (BitVec.ofNat 32 T.val) att (ix2 b l) = att (ix2 b ⟨T.val % 128, by omega⟩) := by
  pointwise [attAt, pick]
  rw [lane_ofNat, sge_ofNat]
  rw [Finset.sum_eq_single (⟨T.val % 128, by omega⟩ : Fin 128)]
  · rw [eq_lane]; simp [IntOp.andi, Scalar.select]
  · intro k _ hk
    have : k.val ≠ T.val % 128 := fun e => hk (Fin.ext e)
    rw [eq_lane]; simp [IntOp.andi, Scalar.select, this]
  · simp

/-- Before the first time the attention is zero. -/
theorem attAt_neg (x : BitVec 32) (hx : Scalar.cmpi .sge x 0#32 = 0#1) (att : FVec Ideal S240x128 .f32) (b : Fin 240) (l : Fin 128) :
    attAt x att (ix2 b l) = 0 := by
  pointwise [attAt, pick]
  rw [hx]
  apply Finset.sum_eq_zero
  intro k _
  simp [IntOp.andi, Scalar.select]

/-! ## One step -/

theorem step_apply (x : BitVec 32) (att : FVec Ideal S240x128 .f32) (w : Vec Ideal S128x384 .bf16) (s0 s1 s2 b2 : Vec Ideal S1x128 .f32)
    (g : Vec Ideal S1x240x384 .f32) (h : FVec Ideal S240x128 .f32) (b : Fin 240) (l : Fin 128) :
    step x att w s0 s1 s2 b2 g h (ix2 b l) =
      h (ix2 b l) - attAt x att (ix2 b l) * (half * Ideal.tanh ((∑ k, h (ix2 b k) * w (ix2 k ⟨l.val, by omega⟩)) * s0 (ix2 0 l)
              + g (ix3 0 b ⟨l.val, by omega⟩)) + half) * h (ix2 b l)
        + attAt x att (ix2 b l) * (half * Ideal.tanh ((∑ k, h (ix2 b k) * w (ix2 k ⟨l.val, by omega⟩)) * s0 (ix2 0 l)
              + g (ix3 0 b ⟨l.val, by omega⟩)) + half) *
          Ideal.tanh (g (ix3 0 b ⟨256 + l.val, by omega⟩) + ((∑ k, h (ix2 b k) * w (ix2 k ⟨256 + l.val, by omega⟩)) * s2 (ix2 0 l) + b2 (ix2 0 l))
            + Ideal.tanh ((∑ k, h (ix2 b k) * w (ix2 k ⟨128 + l.val, by omega⟩)) * s1 (ix2 0 l) + g (ix3 0 b ⟨128 + l.val, by omega⟩))
              * ((∑ k, h (ix2 b k) * w (ix2 k ⟨256 + l.val, by omega⟩)) * s2 (ix2 0 l) + b2 (ix2 0 l))) := by
  unfold step mix
  generalize attAt x att = a
  pointwise [k0_pay16, k0_pay12, k0_pay13, k0_pay15, k0_pay14]

/-- While the attention is zero, a zero state stays zero. -/
theorem step_zero (x : BitVec 32) (hx : Scalar.cmpi .sge x 0#32 = 0#1) (att : FVec Ideal S240x128 .f32) (w : Vec Ideal S128x384 .bf16)
    (s0 s1 s2 b2 : Vec Ideal S1x128 .f32) (g : Vec Ideal S1x240x384 .f32) (h : FVec Ideal S240x128 .f32) (hh : ∀ (p : Fin 240) (l : Fin 128), h (ix2 p l) = 0) (p : Fin 240) (l : Fin 128) :
    step x att w s0 s1 s2 b2 g h (ix2 p l) = 0 := by
  rw [step_apply, attAt_neg x hx, hh]
  simp

/-! ## Gate inputs, weights, attention -/

theorem gates_apply (X : Vec Ideal S8x240x128 .bf16) (W : Vec Ideal S128x384 .bf16) (s b : Vec Ideal S1x384 .f32) (k : Fin 8) (p : Fin 240) (c : Fin 384) :
    gates X W s b (ix3 k p c) = (∑ x, X (ix3 k p x) * W (ix2 x c)) * s (ix2 0 c) + b (ix2 0 c) := by
  unfold gates
  pointwise [k0_pay18]

/-- One gate's weights among 128 lanes. -/
theorem cell_eq (X : Vec Ideal S96x288 .fp8e4m3) (k : Fin 128) (a b : Fin 288) (h : a.val = b.val) :
    (if hk : k.val < 96 then X (ix2 ⟨k.val, hk⟩ a) else (((0#32 : BitVec 32).toInt : ℝ) : EReal))
      = if hk : k.val < 96 then X (ix2 ⟨k.val, hk⟩ b) else 0 := by
  rw [Fin.ext h, show (((0#32 : BitVec 32).toInt : ℝ) : EReal) = 0 by simp]

theorem pay5_apply (X : Vec Ideal S96x288 .fp8e4m3) (k : Fin 128) (c : Fin 384) (g : ℕ) (hg : g < 3) (j : ℕ) (hj : j < 96) (hc : c.val = 128 * g + j)
    (d : Fin 288) (hd : d.val = 96 * g + j) :
    k0_pay5 X (ix2 k c) = if hk : k.val < 96 then X (ix2 ⟨k.val, hk⟩ d) else 0 := by
  pointwise [k0_pay5]
  by_cases h0 : c.val < 128
  · rw [dif_pos h0, dif_pos (show c.val < 96 by omega)]
    exact cell_eq X k ⟨c.val, by omega⟩ d (show c.val = d.val by omega)
  rw [dif_neg h0]
  by_cases h1 : c.val - 128 < 128
  · rw [dif_pos h1, dif_pos (show c.val - 128 < 96 by omega)]
    exact cell_eq X k ⟨96 + (c.val - 128), by omega⟩ d (show 96 + (c.val - 128) = d.val by omega)
  · rw [dif_neg h1, dif_pos (show c.val - 128 - 128 < 96 by omega)]
    exact cell_eq X k ⟨192 + (c.val - 128 - 128), by omega⟩ d (show 192 + (c.val - 128 - 128) = d.val by omega)

theorem pay9_eq (X : Vec Ideal S96x288 .fp8e4m3) : k0_pay9 (k0_pay6 X) (k0_pay7 X) k0_pay8 = k0_pay5 X := rfl

/-! ## The eight steps of a point -/

/-- Row `k` of a three-row array, as loaded. -/
theorem row_apply (s : Vec Ideal S3x128 .f32) (k : Fin 3) (h : ∀ d, ![k.val, 0] d + S1x128.size d ≤ S3x128.size d) (l : Fin 128) :
    View.ld s (Rect.unit (s := S3x128) ![k.val, 0] S1x128.size h) (ix2 0 l) = s (ix2 k l) := by
  pointwise

/-- Plane `k` of the gate inputs, as loaded. -/
theorem plane_apply (G : Vec Ideal S8x240x384 .f32) (k : Fin 8) (h : ∀ d, ![k.val, 0, 0] d + S1x240x384.size d ≤ S8x240x384.size d) (p : Fin 240) (c : Fin 384) :
    View.ld G (Rect.unit (s := S8x240x384) ![k.val, 0, 0] S1x240x384.size h) (ix3 0 p c) = G (ix3 k p c) := by
  pointwise

section
variable (wx wh : Fin 96 → Fin 3 → Fin 96 → EReal) (sx bx sh bh : Fin 3 → Fin 96 → EReal)
  (x : ℕ → Fin 240 → Fin 96 → EReal) (a : ℕ → Fin 240 → EReal)

/-- The three gates' factors and the folds of the recurrent bias. -/
def factor (g : Fin 3) : EReal := if g = 2 then 1 else half
def fold (g : Fin 3) : EReal := if g = 2 then 0 else 1

/-- `w` holds the weights `W` gate by gate in 128 lanes each, in the first 96 rows, with zeros below. -/
def Padded (w : Vec Ideal S128x384 .bf16) (W : Fin 96 → Fin 3 → Fin 96 → EReal) : Prop :=
  ∀ (k : Fin 128) (g : Fin 3) (j : Fin 96),
    w (ix2 k ⟨128 * g.val + j.val, by omega⟩) = if hk : k.val < 96 then W ⟨k.val, hk⟩ g j else 0

theorem Padded.sum {w : Vec Ideal S128x384 .bf16} {W : Fin 96 → Fin 3 → Fin 96 → EReal} (hw : Padded w W)
    (f : Fin 128 → EReal) (g : Fin 3) (j : Fin 96) (c : Fin 384) (hc : c.val = 128 * g.val + j.val) :
    ∑ k, f k * w (ix2 k c) = ∑ k : Fin 96, f ⟨k.val, by omega⟩ * W k g j := by
  rw [show c = ⟨128 * g.val + j.val, by omega⟩ from Fin.ext hc]
  rw [Recurrence.sum_lanes]
  · apply Finset.sum_congr rfl
    intro k _
    rw [hw, dif_pos k.isLt]
  · intro k hk
    rw [hw, dif_neg (by omega), mul_zero]

/-- The gate inputs at time `t`: product, scale and biases, with the factors of the gates. -/
def input (t : ℕ) (p : Fin 240) (g : Fin 3) (j : Fin 96) : EReal :=
  (∑ k, x t p k * wx k g j) * (sx g j * factor g) + (bx g j + bh g j * fold g) * factor g

/-- The state of batch row `p` after `n` steps. -/
def after (n : ℕ) (p : Fin 240) (j : Fin 96) : EReal :=
  Recurrence.state wx wh sx bx sh bh (fun t => x t p) (fun t => a t p) n j

/-- A step at time `T` takes the state after `T` steps to the state after one more. -/
theorem step_after (ha : ∀ t p, ∃ r : ℝ, a t p = r) (hr : ∀ k j, ∃ r : ℝ, wh k 2 j = r) (hs : ∀ j, ∃ r : ℝ, sh 2 j = r) (hb : ∀ j, ∃ r : ℝ, bh 2 j = r)
    (T : ℕ) (hT : T < 512) (att : FVec Ideal S240x128 .f32) (w : Vec Ideal S128x384 .bf16) (s0 s1 s2 b2 : Vec Ideal S1x128 .f32)
    (g : Vec Ideal S1x240x384 .f32) (h : FVec Ideal S240x128 .f32)
    (hatt : ∀ p, att (ix2 p ⟨T % 128, by omega⟩) = a T p) (hw : Padded w wh)
    (h0 : ∀ j : Fin 96, s0 (ix2 0 ⟨j.val, by omega⟩) = sh 0 j * half) (h1 : ∀ j : Fin 96, s1 (ix2 0 ⟨j.val, by omega⟩) = sh 1 j * half)
    (h2 : ∀ j : Fin 96, s2 (ix2 0 ⟨j.val, by omega⟩) = sh 2 j * half) (h3 : ∀ j : Fin 96, b2 (ix2 0 ⟨j.val, by omega⟩) = bh 2 j * half)
    (hg : ∀ p (q : Fin 3) (j : Fin 96), g (ix3 0 p ⟨128 * q.val + j.val, by omega⟩) = input wx sx bx bh x T p q j)
    (hh : ∀ p (j : Fin 96), h (ix2 p ⟨j.val, by omega⟩) = after wx wh sx bx sh bh x a T p j) (p : Fin 240) (j : Fin 96) :
    step (BitVec.ofNat 32 T) att w s0 s1 s2 b2 g h (ix2 p ⟨j.val, by omega⟩) = after wx wh sx bx sh bh x a (T + 1) p j := by
  rw [step_apply, attAt_apply ⟨T, hT⟩, hatt, hh, h0, h1, h2, h3]
  rw [hw.sum _ 0 j _ (by simp), hw.sum _ 2 j _ (by simp), hw.sum _ 1 j _ (by simp)]
  have g0 := hg p 0 j
  have g1 := hg p 1 j
  have g2 := hg p 2 j
  simp only [Fin.val_zero, Fin.val_one, Fin.val_two, mul_zero, zero_add, mul_one, Nat.reduceMul] at g0 g1 g2
  rw [g0, g1, g2]
  simp only [hh]
  exact Recurrence.next_eq wx wh sx bx sh bh half Recurrence.half_f32 (a T p) (ha T p) (x T p)
    (Recurrence.state wx wh sx bx sh bh (fun t => x t p) (fun t => a t p) T)
    (fun j => Recurrence.real_state wx wh sx bx sh bh (fun t => x t p) (fun t => a t p) (fun t => ha t p) T j) j (fun k => hr k j) (hs j) (hb j)

/-- The eight steps from time `T`. -/
theorem eight_after (ha : ∀ t p, ∃ r : ℝ, a t p = r) (hr : ∀ k j, ∃ r : ℝ, wh k 2 j = r) (hs : ∀ j, ∃ r : ℝ, sh 2 j = r) (hb : ∀ j, ∃ r : ℝ, bh 2 j = r)
    (T : ℕ) (hT : T + 8 ≤ 512) (att : FVec Ideal S240x128 .f32) (w : Vec Ideal S128x384 .bf16) (s0 s1 s2 b2 : Vec Ideal S1x128 .f32)
    (G : Fin 8 → Vec Ideal S1x240x384 .f32) (h : FVec Ideal S240x128 .f32)
    (hatt : ∀ (k : Fin 8) p, att (ix2 p ⟨(T + k.val) % 128, by omega⟩) = a (T + k.val) p) (hw : Padded w wh)
    (h0 : ∀ j : Fin 96, s0 (ix2 0 ⟨j.val, by omega⟩) = sh 0 j * half) (h1 : ∀ j : Fin 96, s1 (ix2 0 ⟨j.val, by omega⟩) = sh 1 j * half)
    (h2 : ∀ j : Fin 96, s2 (ix2 0 ⟨j.val, by omega⟩) = sh 2 j * half) (h3 : ∀ j : Fin 96, b2 (ix2 0 ⟨j.val, by omega⟩) = bh 2 j * half)
    (hg : ∀ (k : Fin 8) p (q : Fin 3) (j : Fin 96), G k (ix3 0 p ⟨128 * q.val + j.val, by omega⟩) = input wx sx bx bh x (T + k.val) p q j)
    (hh : ∀ p (j : Fin 96), h (ix2 p ⟨j.val, by omega⟩) = after wx wh sx bx sh bh x a T p j) (p : Fin 240) (j : Fin 96) :
    eight (BitVec.ofNat 32 T) att w s0 s1 s2 b2 (G 0) (G 1) (G 2) (G 3) (G 4) (G 5) (G 6) (G 7) h (ix2 p ⟨j.val, by omega⟩)
      = after wx wh sx bx sh bh x a (T + 8) p j := by
  have one : ∀ (k : Fin 8) (h : FVec Ideal S240x128 .f32),
      (∀ p (j : Fin 96), h (ix2 p ⟨j.val, by omega⟩) = after wx wh sx bx sh bh x a (T + k.val) p j) → ∀ p (j : Fin 96),
      step (Scalar.addi (BitVec.ofNat 32 T) (BitVec.ofNat 32 k.val)) att w s0 s1 s2 b2 (G k) h (ix2 p ⟨j.val, by omega⟩)
        = after wx wh sx bx sh bh x a (T + k.val + 1) p j := by
    intro k h hh p j
    rw [show Scalar.addi (BitVec.ofNat 32 T) (BitVec.ofNat 32 k.val) = BitVec.ofNat 32 (T + k.val) from (BitVec.ofNat_add ..).symm]
    exact step_after wx wh sx bx sh bh x a ha hr hs hb (T + k.val) (by omega) att w s0 s1 s2 b2 (G k) h (hatt k) hw h0 h1 h2 h3 (hg k) hh p j
  unfold eight
  exact one 7 _ (one 6 _ (one 5 _ (one 4 _ (one 3 _ (one 2 _ (one 1 _ (one 0 _ hh))))))) p j

/-- The eight steps before the first time leave a zero state zero. -/
theorem eight_zero (att : FVec Ideal S240x128 .f32) (w : Vec Ideal S128x384 .bf16) (s0 s1 s2 b2 : Vec Ideal S1x128 .f32)
    (g0 g1 g2 g3 g4 g5 g6 g7 : Vec Ideal S1x240x384 .f32) (i : grid0.Coords) (hi : (i 0).val = 0) (p : Fin 240) (l : Fin 128) :
    eight (time0 i) att w s0 s1 s2 b2 g0 g1 g2 g3 g4 g5 g6 g7 k0_pay4 (ix2 p l) = 0 := by
  unfold eight time0
  rw [hi]
  refine step_zero _ (by decide) _ _ _ _ _ _ _ _ ?_ p l
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  intro p l
  pointwise [k0_pay4, k0_pay3]

theorem time0_succ (i : grid0.Coords) (n : ℕ) (hi : (i 0).val = n + 1) : time0 i = BitVec.ofNat 32 (8 * n) := by
  unfold time0
  rw [hi, BitVec.ofNat_add]
  show (BitVec.ofNat 32 n + 1#32 - 1#32) * 8#32 = _
  rw [BitVec.add_sub_cancel, mul_comm 8 n, BitVec.ofNat_mul]

end

end Cert.AugruIdeal.Body

end
-- ==== Proof.Value.Blocks.lean ====
/- What the blocks of the kernel's input windows hold, in terms of the arguments. -/
module

public import proofs.«01_k».proof.Proof.Value.Kernel
public import proofs.«01_k».proof.Proof.AugruIdeal.Frame
public import Idealize.ShloMosaic.Lib.Pipeline.ValueKit.Point
public import Idealize.ShloMosaic.Lib.StableHlo.ReadAt
public import Idealize.ShloMosaic.Lib.Claim

@[expose] public section

noncomputable section

namespace Cert.AugruIdeal.Body

open Cert.AugruIdeal Cert.AugruIdeal.Gen Idealize.ShloMosaic Idealize.ShloMosaic.TcCoe Idealize.SL.Sem

variable (m : (ℓ : Loc nD τ sig) → Buf (Elt Ideal) ℓ) (c : Dev nD)

/-! ## The arguments as functions -/

/-- The hidden state of time `t`, batch row `p`, without the pad lanes. -/
def hs (t : ℕ) (p : Fin 240) (k : Fin 96) : EReal :=
  if h : t < 512 then (m ((c : Thread nD τ).loc main_arg0) : FVec Ideal S512x240x128 .bf16) (ix3 ⟨t, h⟩ p ⟨k.val, by omega⟩) else 0
def wx (k : Fin 96) (g : Fin 3) (j : Fin 96) : EReal := (m ((c : Thread nD τ).loc main_arg3) : FVec Ideal S96x3x96 .fp8e4m3) (ix3 k g j)
def sx (g : Fin 3) (j : Fin 96) : EReal := (m ((c : Thread nD τ).loc main_arg4) : FVec Ideal S3x96 .f32) (ix2 g j)
def wh (k : Fin 96) (g : Fin 3) (j : Fin 96) : EReal := (m ((c : Thread nD τ).loc main_arg5) : FVec Ideal S96x3x96 .f32) (ix3 k g j)
def sh (g : Fin 3) (j : Fin 96) : EReal := (m ((c : Thread nD τ).loc main_arg6) : FVec Ideal S3x96 .f32) (ix2 g j)
def bx (g : Fin 3) (j : Fin 96) : EReal := (m ((c : Thread nD τ).loc main_arg7) : FVec Ideal S3x96 .f32) (ix2 g j)
def bh (g : Fin 3) (j : Fin 96) : EReal := (m ((c : Thread nD τ).loc main_arg8) : FVec Ideal S3x96 .f32) (ix2 g j)

/-! ## The host prelude -/

theorem V1 (p : Fin 240) (l : Fin 128) : V m c main_v1 (ix2 p l) = m ((c : Thread nD τ).loc main_arg2) (ix1 p) := by
  unfold V
  after_reads_at

theorem lit0_factor : ∀ g : Fin 3, Ideal.ofBits .f32 (lit0 (S3.rowMajor (ix1 g))) = factor g := by
  intro g
  fin_cases g
  · rfl
  · rfl
  · exact Ideal.ofBits_one_f32

theorem lit1_fold : ∀ g : Fin 3, Ideal.ofBits .f32 (lit1 (S3.rowMajor (ix1 g))) = fold g := by
  intro g
  fin_cases g
  · exact Ideal.ofBits_one_f32
  · exact Ideal.ofBits_one_f32
  · exact Ideal.ofBits_zero_f32

theorem V8 (g : Fin 3) (j : Fin 96) :
    (V m c main_v8 : FVec Ideal S1x384 .f32) (ix2 0 ⟨128 * g.val + j.val, by omega⟩) = sx m c g j * factor g := by
  unfold V
  after_reads_at
  have e : (⟨(128 * g.val + j.val) % 128, by omega⟩ : Fin 96) = j := Fin.ext (show (128 * g.val + j.val) % 128 = j.val by omega)
  rw [dif_pos (show (128 * g.val + j.val) % 128 < 96 by omega), e, lit0_factor]
  rfl

theorem V16 (g : Fin 3) (j : Fin 96) :
    (V m c main_v16 : FVec Ideal S1x384 .f32) (ix2 0 ⟨128 * g.val + j.val, by omega⟩) = (bx m c g j + bh m c g j * fold g) * factor g := by
  unfold V
  after_reads_at
  have e : (⟨(128 * g.val + j.val) % 128, by omega⟩ : Fin 96) = j := Fin.ext (show (128 * g.val + j.val) % 128 = j.val by omega)
  rw [dif_pos (show (128 * g.val + j.val) % 128 < 96 by omega), e, lit0_factor, lit1_fold]
  rfl

theorem V19 (g : Fin 3) (j : Fin 96) :
    (V m c main_v19 : FVec Ideal S3x128 .f32) (ix2 g ⟨j.val, by omega⟩) = sh m c g j * half := by
  unfold V
  after_reads_at
  rfl

theorem V22 (g : Fin 3) (j : Fin 96) :
    (V m c main_v22 : FVec Ideal S3x128 .f32) (ix2 g ⟨j.val, by omega⟩) = bh m c g j * half := by
  unfold V
  after_reads_at
  rfl

theorem V24 (k : Fin 96) (g : Fin 3) (j : Fin 96) :
    (V m c main_v24 : FVec Ideal S96x288 .fp8e4m3) (ix2 k ⟨96 * g.val + j.val, by omega⟩) = wh m c k g j := by
  unfold V
  after_reads_at
  rfl

theorem V25 (k : Fin 96) (g : Fin 3) (j : Fin 96) :
    (V m c main_v25 : FVec Ideal S96x288 .fp8e4m3) (ix2 k ⟨96 * g.val + j.val, by omega⟩) = wx m c k g j := by
  unfold V
  after_reads_at
  rfl

/-! ## The windows -/

theorem index0_0 : ∀ t : Fin cfg0.N, win0_0.index t 0 = min t.val 63 := by decide +kernel
theorem index0_1 : ∀ t : Fin cfg0.N, win0_0.index t 1 = 0 := by decide +kernel
theorem index0_2 : ∀ t : Fin cfg0.N, win0_0.index t 2 = 0 := by decide +kernel

theorem blk0 (t : Fin cfg0.N) (k : Fin 8) (p : Fin 240) (x : Fin 128) :
    iblk m c 0 t (ix3 k p x) = m ((c : Thread nD τ).loc main_arg0) (ix3 ⟨min t.val 63 * 8 + k.val, by omega⟩ p x) := by
  blk_ext [iblk, V, index0_0 t, index0_1 t, index0_2 t]

theorem index1_0 (t : Fin cfg0.N) : win0_1.index t 0 = 0 := rfl
theorem index1_1 (t : Fin cfg0.N) : win0_1.index t 1 = 0 := rfl

theorem blk1 (t : Fin cfg0.N) (p : Fin 240) (l : Fin 512) :
    iblk m c 1 t (ix2 p l) = V m c main_arg1 (ix2 p l) := by
  blk_ext [iblk, index1_0 t, index1_1 t]

theorem index2_0 (t : Fin cfg0.N) : win0_2.index t 0 = 0 := rfl
theorem index2_1 (t : Fin cfg0.N) : win0_2.index t 1 = 0 := rfl

theorem blk2 (t : Fin cfg0.N) (p : Fin 240) (l : Fin 128) :
    iblk m c 2 t (ix2 p l) = V m c main_v1 (ix2 p l) := by
  blk_ext [iblk, index2_0 t, index2_1 t]

theorem index3_0 (t : Fin cfg0.N) : win0_3.index t 0 = 0 := rfl
theorem index3_1 (t : Fin cfg0.N) : win0_3.index t 1 = 0 := rfl

theorem blk3 (t : Fin cfg0.N) (p : Fin 96) (l : Fin 288) :
    iblk m c 3 t (ix2 p l) = V m c main_v25 (ix2 p l) := by
  blk_ext [iblk, index3_0 t, index3_1 t]

theorem index4_0 (t : Fin cfg0.N) : win0_4.index t 0 = 0 := rfl
theorem index4_1 (t : Fin cfg0.N) : win0_4.index t 1 = 0 := rfl

theorem blk4 (t : Fin cfg0.N) (p : Fin 1) (l : Fin 384) :
    iblk m c 4 t (ix2 p l) = V m c main_v8 (ix2 p l) := by
  blk_ext [iblk, index4_0 t, index4_1 t]

theorem index5_0 (t : Fin cfg0.N) : win0_5.index t 0 = 0 := rfl
theorem index5_1 (t : Fin cfg0.N) : win0_5.index t 1 = 0 := rfl

theorem blk5 (t : Fin cfg0.N) (p : Fin 1) (l : Fin 384) :
    iblk m c 5 t (ix2 p l) = V m c main_v16 (ix2 p l) := by
  blk_ext [iblk, index5_0 t, index5_1 t]

theorem index6_0 (t : Fin cfg0.N) : win0_6.index t 0 = 0 := rfl
theorem index6_1 (t : Fin cfg0.N) : win0_6.index t 1 = 0 := rfl

theorem blk6 (t : Fin cfg0.N) (p : Fin 96) (l : Fin 288) :
    iblk m c 6 t (ix2 p l) = V m c main_v24 (ix2 p l) := by
  blk_ext [iblk, index6_0 t, index6_1 t]

theorem index7_0 (t : Fin cfg0.N) : win0_7.index t 0 = 0 := rfl
theorem index7_1 (t : Fin cfg0.N) : win0_7.index t 1 = 0 := rfl

theorem blk7 (t : Fin cfg0.N) (p : Fin 3) (l : Fin 128) :
    iblk m c 7 t (ix2 p l) = V m c main_v19 (ix2 p l) := by
  blk_ext [iblk, index7_0 t, index7_1 t]

theorem index8_0 (t : Fin cfg0.N) : win0_8.index t 0 = 0 := rfl
theorem index8_1 (t : Fin cfg0.N) : win0_8.index t 1 = 0 := rfl

theorem blk8 (t : Fin cfg0.N) (p : Fin 3) (l : Fin 128) :
    iblk m c 8 t (ix2 p l) = V m c main_v22 (ix2 p l) := by
  blk_ext [iblk, index8_0 t, index8_1 t]

end Cert.AugruIdeal.Body

end
-- ==== Proof.Value.Fold.lean ====
/- What the kernel's buffers hold after each grid point. -/
module

public import proofs.«01_k».proof.Proof.Value.Blocks

@[expose] public section

noncomputable section

namespace Cert.AugruIdeal.Body

open Cert.AugruIdeal Cert.AugruIdeal.Gen Idealize.ShloMosaic Idealize.ShloMosaic.TcCoe Idealize.SL.Sem

/-! ## One point's contents from the point before -/

section
variable {F : FTy → Type} [FloatOps F]
variable (m : (ℓ : Loc nD τ sig) → Buf (Elt F) ℓ) (c : Dev nD)

theorem first : 0 < cfg0.N := by decide

/-- The attention, as the first point computes it. -/
def attn : FVec F S240x512 .f32 :=
  k0_pay10 (View.ld (iblk m c 2 ⟨0, first⟩) (Rect.unit (s := S240x128) ![0,0] S240x1.size inb_S240x128_S240x1_0_0)) (iblk m c 1 ⟨0, first⟩)

theorem att_zero : (outsAt0 m c 0 first).2.1 = attn m c := by
  have e := congrArg (fun o => o.2.1) (outsAt0_A m c ⟨0, first⟩ (by decide) (by decide))
  dsimp only at e
  rw [e]
  apply att_A

theorem wih_zero : (outsAt0 m c 0 first).2.2.2.1 = k0_pay5 (iblk m c 3 ⟨0, first⟩) := by
  have e := congrArg (fun o => o.2.2.2.1) (outsAt0_A m c ⟨0, first⟩ (by decide) (by decide))
  dsimp only at e
  rw [e]
  apply wih_A

theorem whh_zero : (outsAt0 m c 0 first).2.2.2.2.1 = k0_pay9 (k0_pay6 (iblk m c 6 ⟨0, first⟩)) (k0_pay7 (iblk m c 6 ⟨0, first⟩)) k0_pay8 := by
  have e := congrArg (fun o => o.2.2.2.2.1) (outsAt0_A m c ⟨0, first⟩ (by decide) (by decide))
  dsimp only at e
  rw [e]
  apply whh_A

theorem gi_zero : (outsAt0 m c 0 first).2.2.1 = gates (iblk m c 0 ⟨0, first⟩) (k0_pay5 (iblk m c 3 ⟨0, first⟩)) (iblk m c 4 ⟨0, first⟩) (iblk m c 5 ⟨0, first⟩) := by
  have e := congrArg (fun o => o.2.2.1) (outsAt0_A m c ⟨0, first⟩ (by decide) (by decide))
  dsimp only at e
  rw [e]
  apply gates_A

theorem h_zero : ∃ att w s0 s1 s2 b2 g0 g1 g2 g3 g4 g5 g6 g7,
    (outsAt0 m c 0 first).2.2.2.2.2 = eight (time0 (grid0.coords (⟨0, first⟩ : Fin cfg0.N))) att w s0 s1 s2 b2 g0 g1 g2 g3 g4 g5 g6 g7 k0_pay4 := by
  have e := congrArg (fun o => o.2.2.2.2.2) (outsAt0_A m c ⟨0, first⟩ (by decide) (by decide))
  dsimp only at e
  rw [e]
  apply state_A

/-- What the point before `t` leaves. -/
abbrev before (t : Fin cfg0.N) := outsAt0 m c (t.val - 1) (Nat.lt_of_le_of_lt (Nat.sub_le _ _) t.isLt)

theorem att_succ (t : Fin cfg0.N) (h : ¬ t.val % 65 = 0) : (outsAt0 m c t.val t.isLt).2.1 = (before m c t).2.1 := by
  by_cases h1 : t.val % 65 = 64
  · have e := congrArg (fun o => o.2.1) (outsAt0_C m c t h h1)
    dsimp only at e
    rw [e]
    rfl
  · have e := congrArg (fun o => o.2.1) (outsAt0_B m c t h h1)
    dsimp only at e
    rw [e]
    rfl

theorem wih_succ (t : Fin cfg0.N) (h : ¬ t.val % 65 = 0) : (outsAt0 m c t.val t.isLt).2.2.2.1 = (before m c t).2.2.2.1 := by
  by_cases h1 : t.val % 65 = 64
  · have e := congrArg (fun o => o.2.2.2.1) (outsAt0_C m c t h h1)
    dsimp only at e
    rw [e]
    rfl
  · have e := congrArg (fun o => o.2.2.2.1) (outsAt0_B m c t h h1)
    dsimp only at e
    rw [e]
    rfl

theorem whh_succ (t : Fin cfg0.N) (h : ¬ t.val % 65 = 0) : (outsAt0 m c t.val t.isLt).2.2.2.2.1 = (before m c t).2.2.2.2.1 := by
  by_cases h1 : t.val % 65 = 64
  · have e := congrArg (fun o => o.2.2.2.2.1) (outsAt0_C m c t h h1)
    dsimp only at e
    rw [e]
    rfl
  · have e := congrArg (fun o => o.2.2.2.2.1) (outsAt0_B m c t h h1)
    dsimp only at e
    rw [e]
    rfl

theorem gi_succ (t : Fin cfg0.N) (h : ¬ t.val % 65 = 0) : (outsAt0 m c t.val t.isLt).2.2.1 = gates (iblk m c 0 t) (before m c t).2.2.2.1 (iblk m c 4 t) (iblk m c 5 t) := by
  by_cases h1 : t.val % 65 = 64
  · have e := congrArg (fun o => o.2.2.1) (outsAt0_C m c t h h1)
    dsimp only at e
    rw [e]
    apply gates_C
  · have e := congrArg (fun o => o.2.2.1) (outsAt0_B m c t h h1)
    dsimp only at e
    rw [e]
    apply gates_B

theorem h_succ (t : Fin cfg0.N) (h : ¬ t.val % 65 = 0) : (outsAt0 m c t.val t.isLt).2.2.2.2.2 = point (grid0.coords t) (before m c t).2.1 (before m c t).2.2.2.2.1 (iblk m c 7 t) (iblk m c 8 t) (before m c t).2.2.1 (before m c t).2.2.2.2.2 := by
  by_cases h1 : t.val % 65 = 64
  · have e := congrArg (fun o => o.2.2.2.2.2) (outsAt0_C m c t h h1)
    dsimp only at e
    rw [e]
    apply state_C
  · have e := congrArg (fun o => o.2.2.2.2.2) (outsAt0_B m c t h h1)
    dsimp only at e
    rw [e]
    apply state_B

theorem interest_last (t : Fin cfg0.N) (h0 : ¬ t.val % 65 = 0) (h1 : t.val % 65 = 64) :
    (outsAt0 m c t.val t.isLt).1 = k0_pay2 (outsAt0 m c t.val t.isLt).2.2.2.2.2 := by
  rw [h_succ m c t h0]
  have e := congrArg (fun o => o.1) (outsAt0_C m c t h0 h1)
  dsimp only at e
  rw [e]
  apply interest_C

end

/-! ## The invariant, over the extended reals -/

theorem coords_val : ∀ t : Fin cfg0.N, (grid0.coords t 0).val = t.val := by decide +kernel
theorem off1_zero : ∀ t : Fin cfg0.N, k0_off1 (grid0.coords t) 0 = 0 := by decide +kernel
theorem off1_one : ∀ t : Fin cfg0.N, k0_off1 (grid0.coords t) 1 = (t.val - 1) / 16 * 128 := by decide +kernel

/-- The lane that a step picks from the attention's block is the column of its time. -/
theorem att_block (A : Vec Ideal S240x512 .f32) (t : Fin cfg0.N) (n : ℕ) (hn : t.val = n + 1) (k : Fin 8) (p : Fin 240) :
    k0_pay11 (View.ld A (Rect.unit (s := S240x512) (k0_off1 (grid0.coords t)) S240x128.size (k0_off1_inb (grid0.coords t))))
        (ix2 p ⟨(8 * n + k.val) % 128, by omega⟩)
      = A (ix2 p ⟨8 * n + k.val, by have := t.isLt; have : cfg0.N = 65 := N_0; omega⟩) := by
  have h0 := off1_zero t
  have h1 := off1_one t
  pointwise [k0_pay11]
  refine congrArg A (congrArg₂ ix2 (Fin.ext ?_) (Fin.ext ?_))
  · show k0_off1 (grid0.coords t) 0 + p.val = p.val
    rw [h0, Nat.zero_add]
  · show k0_off1 (grid0.coords t) 1 + (8 * n + k.val) % 128 = 8 * n + k.val
    rw [h1]
    omega

variable (m : (ℓ : Loc nD τ sig) → Buf (Elt Ideal) ℓ) (c : Dev nD)

/-- The attention of time `t`. -/
def attAtTime (t : ℕ) (p : Fin 240) : EReal := if h : t < 512 then attn m c (ix2 p ⟨t, h⟩) else 0

theorem padded_wx (t : Fin cfg0.N) : Padded (k0_pay5 (iblk m c 3 t)) (wx m c) := by
  intro k g j
  rw [pay5_apply _ k _ g.val g.isLt j.val j.isLt rfl ⟨96 * g.val + j.val, by omega⟩ rfl]
  split
  · rw [blk3]; exact V25 m c _ g j
  · rfl

theorem padded_wh (t : Fin cfg0.N) : Padded (k0_pay5 (iblk m c 6 t)) (wh m c) := by
  intro k g j
  rw [pay5_apply _ k _ g.val g.isLt j.val j.isLt rfl ⟨96 * g.val + j.val, by omega⟩ rfl]
  split
  · rw [blk6]; exact V24 m c _ g j
  · rfl

/-- The gate inputs of block `n`, at every lane of a gate. -/
theorem gates_input (t : Fin cfg0.N) (ht : t.val < 64) (W : Vec Ideal S128x384 .bf16) (hW : Padded W (wx m c)) (k : Fin 8) (p : Fin 240) (q : Fin 3) (j : Fin 96) :
    gates (iblk m c 0 t) W (iblk m c 4 t) (iblk m c 5 t) (ix3 k p ⟨128 * q.val + j.val, by omega⟩)
      = input (wx m c) (sx m c) (bx m c) (bh m c) (hs m c) (8 * t.val + k.val) p q j := by
  rw [gates_apply, hW.sum _ q j _ rfl]
  have e4 := (blk4 m c t 0 ⟨128 * q.val + j.val, by omega⟩).trans (V8 m c q j)
  have e5 := (blk5 m c t 0 ⟨128 * q.val + j.val, by omega⟩).trans (V16 m c q j)
  rw [e4, e5]
  unfold input
  congr 2
  apply Finset.sum_congr rfl
  intro x _
  rw [blk0]
  congr 1
  unfold hs
  rw [dif_pos (by omega)]
  congr 2
  apply Fin.ext
  show min t.val 63 * 8 + k.val = 8 * t.val + k.val
  omega

/-- What the buffers hold after point `n`. -/
structure Inv (n : ℕ) (att : Vec Ideal S240x512 .f32) (gi : Vec Ideal S8x240x384 .f32) (wih whh : Vec Ideal S128x384 .bf16) (h : Vec Ideal S240x128 .f32) : Prop where
  att : att = attn m c
  wih : Padded wih (wx m c)
  whh : Padded whh (wh m c)
  gi : n < 64 → ∀ (k : Fin 8) (p : Fin 240) (q : Fin 3) (j : Fin 96),
    gi (ix3 k p ⟨128 * q.val + j.val, by omega⟩) = input (wx m c) (sx m c) (bx m c) (bh m c) (hs m c) (8 * n + k.val) p q j
  h : ∀ (p : Fin 240) (j : Fin 96),
    h (ix2 p ⟨j.val, by omega⟩) = after (wx m c) (wh m c) (sx m c) (bx m c) (sh m c) (bh m c) (hs m c) (attAtTime m c) (8 * n) p j

theorem inv_zero : Inv m c 0 (outsAt0 m c 0 first).2.1 (outsAt0 m c 0 first).2.2.1 (outsAt0 m c 0 first).2.2.2.1
    (outsAt0 m c 0 first).2.2.2.2.1 (outsAt0 m c 0 first).2.2.2.2.2 where
  att := att_zero m c
  wih := by rw [wih_zero]; exact padded_wx m c _
  whh := by rw [whh_zero, pay9_eq]; exact padded_wh m c _
  gi h k p q j := by rw [gi_zero]; exact gates_input m c ⟨0, first⟩ h _ (padded_wx m c _) k p q j
  h p j := by
    obtain ⟨att, w, s0, s1, s2, b2, g0, g1, g2, g3, g4, g5, g6, g7, e⟩ := h_zero m c
    rw [e]
    exact eight_zero att w s0 s1 s2 b2 g0 g1 g2 g3 g4 g5 g6 g7 _ (coords_val _) p _

theorem inv_succ (ha : ∀ t p, ∃ r : ℝ, attAtTime m c t p = r) (hr : ∀ k j, ∃ r : ℝ, wh m c k 2 j = r) (hs' : ∀ j, ∃ r : ℝ, sh m c 2 j = r)
    (hb : ∀ j, ∃ r : ℝ, bh m c 2 j = r) (t : Fin cfg0.N) (n : ℕ) (hn : t.val = n + 1)
    (att : Vec Ideal S240x512 .f32) (gi : Vec Ideal S8x240x384 .f32) (wih whh : Vec Ideal S128x384 .bf16) (h : Vec Ideal S240x128 .f32)
    (I : Inv m c n att gi wih whh h) :
    Inv m c (n + 1) att (gates (iblk m c 0 t) wih (iblk m c 4 t) (iblk m c 5 t)) wih whh
      (point (grid0.coords t) att whh (iblk m c 7 t) (iblk m c 8 t) gi h) where
  att := I.att
  wih := I.wih
  whh := I.whh
  gi hlt k p q j := by
    rw [gates_input m c t (by omega) wih I.wih k p q j, hn]
  h p j := by
    have hN : t.val < 65 := t.isLt
    have row (s : Fin 3) (j : Fin 96) := (blk7 m c t s ⟨j.val, by omega⟩).trans (V19 m c s j)
    have bias (j : Fin 96) := (blk8 m c t 2 ⟨j.val, by omega⟩).trans (V22 m c 2 j)
    unfold point
    rw [time0_succ _ n ((coords_val t).trans hn)]
    exact eight_after (wx m c) (wh m c) (sx m c) (bx m c) (sh m c) (bh m c) (hs m c) (attAtTime m c) ha hr hs' hb (8 * n) (by omega) _ whh _ _ _ _
      (fun k => View.ld gi (Rect.unit (s := S8x240x384) ![k.val, 0, 0] S1x240x384.size (by
        intro d; fin_cases d <;> simp [S8x240x384, S1x240x384] <;> omega))) h
      (fun k p => by
        rw [att_block att t n hn k p, I.att]
        unfold attAtTime
        rw [dif_pos (by omega)]) I.whh
      (fun j => (row_apply _ 0 _ _).trans (row 0 j)) (fun j => (row_apply _ 1 _ _).trans (row 1 j)) (fun j => (row_apply _ 2 _ _).trans (row 2 j))
      (fun j => (row_apply _ 2 _ _).trans (bias j))
      (fun k p q j => (plane_apply gi k _ p _).trans (I.gi (by omega) k p q j)) I.h p j

/-- The invariant holds after every point. -/
theorem inv (ha : ∀ t p, ∃ r : ℝ, attAtTime m c t p = r) (hr : ∀ k j, ∃ r : ℝ, wh m c k 2 j = r) (hs' : ∀ j, ∃ r : ℝ, sh m c 2 j = r)
    (hb : ∀ j, ∃ r : ℝ, bh m c 2 j = r) (n : ℕ) (hn : n < cfg0.N) :
    Inv m c n (outsAt0 m c n hn).2.1 (outsAt0 m c n hn).2.2.1 (outsAt0 m c n hn).2.2.2.1 (outsAt0 m c n hn).2.2.2.2.1 (outsAt0 m c n hn).2.2.2.2.2 := by
  induction n with
  | zero => exact inv_zero m c
  | succ n ih =>
    have I := ih (Nat.lt_of_succ_lt hn)
    have hN : n + 1 < 65 := hn
    have h0 : ¬ (⟨n + 1, hn⟩ : Fin cfg0.N).val % 65 = 0 := by dsimp only; omega
    have J := inv_succ m c ha hr hs' hb ⟨n + 1, hn⟩ n rfl _ _ _ _ _ I
    have e1 := att_succ m c ⟨n + 1, hn⟩ h0
    have e2 := gi_succ m c ⟨n + 1, hn⟩ h0
    have e3 := wih_succ m c ⟨n + 1, hn⟩ h0
    have e4 := whh_succ m c ⟨n + 1, hn⟩ h0
    have e5 := h_succ m c ⟨n + 1, hn⟩ h0
    dsimp only at e1 e2 e3 e4 e5
    rw [e1, e2, e3, e4, e5]
    exact J

end Cert.AugruIdeal.Body

end
-- ==== Proof.AugruReferenceIdeal.Step.lean ====
/- One trip of the reference's loop, and what the reference leaves in its outputs. -/
module

public import proofs.«01_k».proof.Proof.Gen.AugruReferenceIdeal.Value
public import Idealize.ShloMosaic.Lib.Pointwise

@[expose] public section

noncomputable section

namespace Cert.AugruReferenceIdeal.Body

open Cert.AugruReferenceIdeal Cert.AugruReferenceIdeal.Gen Idealize.ShloMosaic Idealize.ShloMosaic.TcCoe Idealize.SL.Sem Idealize.ShloMosaic.Tactic
open Idealize.ShloMosaic.Pipeline (Dat Cfg Window BodyObligation cellOf)

variable {F : FTy → Type} [FloatOps F]

theorem hz2 : (![0, 0] : Fin 2 → ℕ) = fun _ => 0 := funext fun a => by fin_cases a <;> rfl

section
variable (c : Dev nD) (arg0 : Memref sig .tc .vmem S512x240x96 .bf16) (harg0 : arg0.IsWhole) (arg1 : Memref sig .tc .vmem S240x512 .f32) (harg1 : arg1.IsWhole) (arg2 : Memref sig .tc .vmem S240x1 .i32) (harg2 : arg2.IsWhole) (arg3 : Memref sig .tc .vmem S96x288 .fp8e4m3) (harg3 : arg3.IsWhole) (arg4 : Memref sig .tc .vmem S3x96 .f32) (harg4 : arg4.IsWhole) (arg5 : Memref sig .tc .vmem S3x96 .f32) (harg5 : arg5.IsWhole) (arg6 : Memref sig .tc .vmem S96x288 .fp8e4m3) (harg6 : arg6.IsWhole) (arg7 : Memref sig .tc .vmem S3x96 .f32) (harg7 : arg7.IsWhole) (arg8 : Memref sig .tc .vmem S3x96 .f32) (harg8 : arg8.IsWhole) (arg9 : Memref sig .tc .vmem S240x96 .bf16) (harg9 : arg9.IsWhole) (arg10 : Memref sig .tc .vmem S240x512 .f32) (harg10 : arg10.IsWhole)
    (x0 : Vec F S512x240x96 .bf16) (x1 : Vec F S240x512 .f32) (x2 : Vec F S240x1 .i32) (x3 : Vec F S96x288 .fp8e4m3) (x4 : Vec F S3x96 .f32) (x5 : Vec F S3x96 .f32) (x6 : Vec F S96x288 .fp8e4m3) (x7 : Vec F S3x96 .f32) (x8 : Vec F S3x96 .f32)

set_option maxHeartbeats 400000 in
/-- The attention that the reference leaves. -/
theorem att_eq : out0_A_10 c arg0 harg0 arg1 harg1 arg2 harg2 arg3 harg3 arg4 harg4 arg5 harg5 arg6 harg6 arg7 harg7 arg8 harg8 arg9 harg9 arg10 harg10 x0 x1 x2 x3 x4 x5 x6 x7 x8 = k0_pay11 x2 x1 := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1 x2 x3 x4 x5 x6 x7 x8)]
  delta kernelRun0_A
  dsimp only
  unfold kernelRun0_A.sl.H10_1
  rw [View.canon_unit_zero hz2]
  simp only [View.readAt_eq_ld, Memref.IsWhole.read_unread]
  rw [View.ld_unit_zero (S := S240x512) hz2 _ x1, View.ld_unit_zero (S := S240x1) hz2 _ x2]

end

/-- The attention's one store. -/
def whole (P : Vec F S240x512 .f32) : List (View.Piece (Elt F) S240x512 .f32) :=
  [⟨Rect.unit (s := S240x512) ![0, 0] S240x512.size inb_S240x512_S240x512_0_0, P⟩]

theorem whole_cover (P : Vec F S240x512 .f32) (y : S240x512.Idx) : ∃ pc ∈ whole P, y ∈ pc.1.set :=
  View.cover_of_tiledL (whole P) S240x512.size (by sl_kernel_rfl) y

/-- One trip of the loop, over the loaded arrays: weights `v23` … `v40`, the hidden states, scales, biases and attention. -/
def trip (v23 v27 v31 v35 : FVec F S96x96 .bf16) (v38 : FVec F S96x96 .f32) (v40 : Vec F S96x96 .fp8e4m3)
    (x0 : Vec F S512x240x96 .bf16) (x4 x5 x7 x8 : Vec F S3x96 .f32) (A : Vec F S240x512 .f32) (k : Fin k0_t1_loop.trips) (acc : FVec F S240x96 .f32) : FVec F S240x96 .f32 :=
  k0_pay3 v40 acc (k0_pay6 v23 (View.ld x0 (Rect.unit (s := S512x240x96) (k0_off1 k) S1x240x96.size (k0_off1_inb k))) (View.ld x4 (Rect.unit (s := S3x96) ![0, 0] S1x96.size inb_S3x96_S1x96_0_0)) (View.ld x5 (Rect.unit (s := S3x96) ![0, 0] S1x96.size inb_S3x96_S1x96_0_0)))
    (k0_pay7 v27 (View.ld x0 (Rect.unit (s := S512x240x96) (k0_off1 k) S1x240x96.size (k0_off1_inb k))) (View.ld x4 (Rect.unit (s := S3x96) ![1, 0] S1x96.size inb_S3x96_S1x96_1_0)) (View.ld x5 (Rect.unit (s := S3x96) ![1, 0] S1x96.size inb_S3x96_S1x96_1_0)))
    (k0_pay8 v31 (View.ld x0 (Rect.unit (s := S512x240x96) (k0_off1 k) S1x240x96.size (k0_off1_inb k))) (View.ld x4 (Rect.unit (s := S3x96) ![2, 0] S1x96.size inb_S3x96_S1x96_2_0)) (View.ld x5 (Rect.unit (s := S3x96) ![2, 0] S1x96.size inb_S3x96_S1x96_2_0)))
    (k0_pay9 v35 acc (View.ld x7 (Rect.unit (s := S3x96) ![0, 0] S1x96.size inb_S3x96_S1x96_0_0)) (View.ld x8 (Rect.unit (s := S3x96) ![0, 0] S1x96.size inb_S3x96_S1x96_0_0))) (k0_pay10 (k0_pay1 v38) acc)
    (View.ld x7 (Rect.unit (s := S3x96) ![1, 0] S1x96.size inb_S3x96_S1x96_1_0)) (View.ld x8 (Rect.unit (s := S3x96) ![1, 0] S1x96.size inb_S3x96_S1x96_1_0)) (View.ld x7 (Rect.unit (s := S3x96) ![2, 0] S1x96.size inb_S3x96_S1x96_2_0)) (View.ld x8 (Rect.unit (s := S3x96) ![2, 0] S1x96.size inb_S3x96_S1x96_2_0))
    (View.ld A (Rect.unit (s := S240x512) (k0_off2 k) S240x1.size (k0_off2_inb k)))

/-- The carried value after `n` trips. -/
def runs (v23 v27 v31 v35 : FVec F S96x96 .bf16) (v38 : FVec F S96x96 .f32) (v40 : Vec F S96x96 .fp8e4m3)
    (x0 : Vec F S512x240x96 .bf16) (x4 x5 x7 x8 : Vec F S3x96 .f32) (A : Vec F S240x512 .f32) : ℕ → FVec F S240x96 .f32
  | 0 => k0_pay2
  | n + 1 => if h : n < k0_t1_loop.trips then trip v23 v27 v31 v35 v38 v40 x0 x4 x5 x7 x8 A ⟨n, h⟩ (runs v23 v27 v31 v35 v38 v40 x0 x4 x5 x7 x8 A n) else k0_pay2

/-- The generated trip is `trip` over what the arrays hold. -/
theorem trip_eq (𝒱 : Variants) (c : Dev nD) (bd : Option 𝒱.V) (arg0 : Memref sig .tc .vmem S512x240x96 .bf16) (harg0 : arg0.IsWhole) (arg1 : Memref sig .tc .vmem S240x512 .f32) (harg1 : arg1.IsWhole) (arg2 : Memref sig .tc .vmem S240x1 .i32) (harg2 : arg2.IsWhole) (arg3 : Memref sig .tc .vmem S96x288 .fp8e4m3) (harg3 : arg3.IsWhole) (arg4 : Memref sig .tc .vmem S3x96 .f32) (harg4 : arg4.IsWhole) (arg5 : Memref sig .tc .vmem S3x96 .f32) (harg5 : arg5.IsWhole) (arg6 : Memref sig .tc .vmem S96x288 .fp8e4m3) (harg6 : arg6.IsWhole) (arg7 : Memref sig .tc .vmem S3x96 .f32) (harg7 : arg7.IsWhole) (arg8 : Memref sig .tc .vmem S3x96 .f32) (harg8 : arg8.IsWhole) (arg9 : Memref sig .tc .vmem S240x96 .bf16) (harg9 : arg9.IsWhole) (arg10 : Memref sig .tc .vmem S240x512 .f32) (harg10 : arg10.IsWhole) (v23 : FVec F S96x96 .bf16) (v27 : FVec F S96x96 .bf16) (v31 : FVec F S96x96 .bf16) (v35 : FVec F S96x96 .bf16) (v38 : FVec F S96x96 .f32) (v40 : Vec F S96x96 .fp8e4m3) (X_arg0 : BufTy.Contents (Elt F) arg0.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg10 : BufTy.Contents (Elt F) arg10.view.ty) (k : Fin k0_t1_loop.trips) (acc : FVec F S240x96 .f32) :
    tripR_k0_t1 𝒱 c bd arg0 harg0 arg1 harg1 arg2 harg2 arg3 harg3 arg4 harg4 arg5 harg5 arg6 harg6 arg7 harg7 arg8 harg8 arg9 harg9 arg10 harg10 v23 v27 v31 v35 v38 v40 X_arg0 X_arg4 X_arg5 X_arg7 X_arg8 X_arg10 k acc
      = trip v23 v27 v31 v35 v38 v40 (arg0.view.read (Elt F) X_arg0) (arg4.view.read (Elt F) X_arg4) (arg5.view.read (Elt F) X_arg5) (arg7.view.read (Elt F) X_arg7) (arg8.view.read (Elt F) X_arg8) (arg10.view.read (Elt F) X_arg10) k acc := by
  unfold tripR_k0_t1 trip_k0_t1 trip
  dsimp only
  unfold trip_k0_t1.sl.r trip_k0_t1.sl.r_1 trip_k0_t1.sl.r_2 trip_k0_t1.sl.r_3 trip_k0_t1.sl.r_4
  simp only [View.readAt_eq_ld]

theorem runs_eq (𝒱 : Variants) (c : Dev nD) (bd : Option 𝒱.V) (arg0 : Memref sig .tc .vmem S512x240x96 .bf16) (harg0 : arg0.IsWhole) (arg1 : Memref sig .tc .vmem S240x512 .f32) (harg1 : arg1.IsWhole) (arg2 : Memref sig .tc .vmem S240x1 .i32) (harg2 : arg2.IsWhole) (arg3 : Memref sig .tc .vmem S96x288 .fp8e4m3) (harg3 : arg3.IsWhole) (arg4 : Memref sig .tc .vmem S3x96 .f32) (harg4 : arg4.IsWhole) (arg5 : Memref sig .tc .vmem S3x96 .f32) (harg5 : arg5.IsWhole) (arg6 : Memref sig .tc .vmem S96x288 .fp8e4m3) (harg6 : arg6.IsWhole) (arg7 : Memref sig .tc .vmem S3x96 .f32) (harg7 : arg7.IsWhole) (arg8 : Memref sig .tc .vmem S3x96 .f32) (harg8 : arg8.IsWhole) (arg9 : Memref sig .tc .vmem S240x96 .bf16) (harg9 : arg9.IsWhole) (arg10 : Memref sig .tc .vmem S240x512 .f32) (harg10 : arg10.IsWhole) (v23 : FVec F S96x96 .bf16) (v27 : FVec F S96x96 .bf16) (v31 : FVec F S96x96 .bf16) (v35 : FVec F S96x96 .bf16) (v38 : FVec F S96x96 .f32) (v40 : Vec F S96x96 .fp8e4m3) (X_arg0 : BufTy.Contents (Elt F) arg0.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg10 : BufTy.Contents (Elt F) arg10.view.ty)  (n : ℕ) (hn : n ≤ k0_t1_loop.trips) :
    st_k0_t1 𝒱 c bd arg0 harg0 arg1 harg1 arg2 harg2 arg3 harg3 arg4 harg4 arg5 harg5 arg6 harg6 arg7 harg7 arg8 harg8 arg9 harg9 arg10 harg10 v23 v27 v31 v35 v38 v40 X_arg0 X_arg4 X_arg5 X_arg7 X_arg8 X_arg10 k0_pay2 n
      = runs v23 v27 v31 v35 v38 v40 (arg0.view.read (Elt F) X_arg0) (arg4.view.read (Elt F) X_arg4) (arg5.view.read (Elt F) X_arg5) (arg7.view.read (Elt F) X_arg7) (arg8.view.read (Elt F) X_arg8) (arg10.view.read (Elt F) X_arg10) n := by
  induction n with
  | zero => rfl
  | succ n ih =>
    rw [st_k0_t1_succ 𝒱 c bd arg0 harg0 arg1 harg1 arg2 harg2 arg3 harg3 arg4 harg4 arg5 harg5 arg6 harg6 arg7 harg7 arg8 harg8 arg9 harg9 arg10 harg10 v23 v27 v31 v35 v38 v40 X_arg0 X_arg4 X_arg5 X_arg7 X_arg8 X_arg10 k0_pay2 ⟨n, hn⟩, trip_eq, ih (Nat.le_of_succ_le hn)]
    conv_rhs => unfold runs
    rw [dif_pos (show n < k0_t1_loop.trips from hn)]

section
variable (c : Dev nD) (arg0 : Memref sig .tc .vmem S512x240x96 .bf16) (harg0 : arg0.IsWhole) (arg1 : Memref sig .tc .vmem S240x512 .f32) (harg1 : arg1.IsWhole) (arg2 : Memref sig .tc .vmem S240x1 .i32) (harg2 : arg2.IsWhole) (arg3 : Memref sig .tc .vmem S96x288 .fp8e4m3) (harg3 : arg3.IsWhole) (arg4 : Memref sig .tc .vmem S3x96 .f32) (harg4 : arg4.IsWhole) (arg5 : Memref sig .tc .vmem S3x96 .f32) (harg5 : arg5.IsWhole) (arg6 : Memref sig .tc .vmem S96x288 .fp8e4m3) (harg6 : arg6.IsWhole) (arg7 : Memref sig .tc .vmem S3x96 .f32) (harg7 : arg7.IsWhole) (arg8 : Memref sig .tc .vmem S3x96 .f32) (harg8 : arg8.IsWhole) (arg9 : Memref sig .tc .vmem S240x96 .bf16) (harg9 : arg9.IsWhole) (arg10 : Memref sig .tc .vmem S240x512 .f32) (harg10 : arg10.IsWhole)
    (x0 : Vec F S512x240x96 .bf16) (x1 : Vec F S240x512 .f32) (x2 : Vec F S240x1 .i32) (x3 : Vec F S96x288 .fp8e4m3) (x4 : Vec F S3x96 .f32) (x5 : Vec F S3x96 .f32) (x6 : Vec F S96x288 .fp8e4m3) (x7 : Vec F S3x96 .f32) (x8 : Vec F S3x96 .f32)

set_option maxHeartbeats 400000 in
/-- The state that the reference leaves. -/
theorem interest_eq : out0_A_9 c arg0 harg0 arg1 harg1 arg2 harg2 arg3 harg3 arg4 harg4 arg5 harg5 arg6 harg6 arg7 harg7 arg8 harg8 arg9 harg9 arg10 harg10 x0 x1 x2 x3 x4 x5 x6 x7 x8
    = k0_pay4 (runs (k0_pay12 (View.ld x3 (Rect.unit (s := S96x288) ![0, 0] S96x96.size inb_S96x288_S96x96_0_0))) (k0_pay13 (View.ld x3 (Rect.unit (s := S96x288) ![0, 96] S96x96.size inb_S96x288_S96x96_0_96))) (k0_pay14 (View.ld x3 (Rect.unit (s := S96x288) ![0, 192] S96x96.size inb_S96x288_S96x96_0_192)))
        (k0_pay15 (View.ld x6 (Rect.unit (s := S96x288) ![0, 0] S96x96.size inb_S96x288_S96x96_0_0))) (k0_pay16 (View.ld x6 (Rect.unit (s := S96x288) ![0, 96] S96x96.size inb_S96x288_S96x96_0_96))) (View.ld x6 (Rect.unit (s := S96x288) ![0, 192] S96x96.size inb_S96x288_S96x96_0_192)) x0 x4 x5 x7 x8 (k0_pay11 x2 x1) k0_t1_loop.trips) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 x0 x1 x2 x3 x4 x5 x6 x7 x8)]
  delta kernelRun0_A
  dsimp only
  rw [View.canon_unit_zero hz2]
  unfold kernelRun0_A.sl.r kernelRun0_A.sl.r_1 kernelRun0_A.sl.r_2 kernelRun0_A.sl.r_3 kernelRun0_A.sl.r_4 kernelRun0_A.sl.H10_1
  simp only [View.readAt_eq_ld, Memref.IsWhole.read_unread]
  rw [View.ld_unit_zero (S := S240x512) hz2 _ x1, View.ld_unit_zero (S := S240x1) hz2 _ x2]
  refine congrArg k0_pay4 ((runs_eq _ _ _ arg0 harg0 arg1 harg1 arg2 harg2 arg3 harg3 arg4 harg4 arg5 harg5 arg6 harg6 arg7 harg7 arg8 harg8 arg9 harg9 arg10 harg10 _ _ _ _ _ _ _ _ _ _ _ _ _ le_rfl).trans ?_)
  simp only [Memref.IsWhole.read_unread]
  congr 1
  exact (View.read_writes_eq_canon arg10.view arg10.view.junk (whole _) (whole_cover _)).trans (View.canon_unit_zero hz2 _ _)

end

end Cert.AugruReferenceIdeal.Body

end
-- ==== Proof.Value.Reference.lean ====
/- What the reference's two arrays hold, over the extended reals: the attention, and the state after 512 steps of the recurrence. -/
module

public import proofs.«01_k».proof.Proof.AugruReferenceIdeal.Step
public import proofs.«01_k».proof.Proof.Value.Scalar
public import Idealize.ShloMosaic.Lib.Pipeline.ValueKit.Point
public import Idealize.ShloMosaic.Lib.StableHlo.ReadAt
public import Idealize.ShloMosaic.Lib.Claim

@[expose] public section

noncomputable section

namespace Cert.AugruReferenceIdeal.Body

open Cert.AugruReferenceIdeal Cert.AugruReferenceIdeal.Gen Idealize.ShloMosaic Idealize.ShloMosaic.TcCoe Idealize.SL.Sem

theorem trips_eq : k0_t1_loop.trips = 512 := by decide +kernel

/-! ## The loads of a trip -/

theorem row_apply (s : Vec Ideal S3x96 .f32) (k : Fin 3) (h : ∀ d, ![k.val, 0] d + S1x96.size d ≤ S3x96.size d) (l : Fin 96) :
    View.ld s (Rect.unit (s := S3x96) ![k.val, 0] S1x96.size h) (ix2 0 l) = s (ix2 k l) := by
  pointwise

theorem plane_apply (x0 : Vec Ideal S512x240x96 .bf16) (k : Fin k0_t1_loop.trips) (K : Fin 512) (hK : K.val = k.val) (p : Fin 240) (x : Fin 96) :
    View.ld x0 (Rect.unit (s := S512x240x96) (k0_off1 k) S1x240x96.size (k0_off1_inb k)) (ix3 0 p x) = x0 (ix3 K p x) := by
  show x0 _ = x0 _
  congr 1
  have h := k0_off1_eq k
  funext d; apply Fin.ext
  match d with
  | ⟨0, _⟩ => show k0_off1 k 0 + 1 * 0 = K.val; rw [h, hK]; show k.val + 1 * 0 = k.val; omega
  | ⟨1, _⟩ => show k0_off1 k 1 + 1 * p.val = p.val; rw [h]; show 0 + 1 * p.val = p.val; omega
  | ⟨2, _⟩ => show k0_off1 k 2 + 1 * x.val = x.val; rw [h]; show 0 + 1 * x.val = x.val; omega

theorem off2_0 (k : Fin k0_t1_loop.trips) : k0_off2 k 0 = 0 := rfl
theorem off2_1 : ∀ k : Fin k0_t1_loop.trips, k0_off2 k 1 = k.val := by decide +kernel

theorem column_apply (A : Vec Ideal S240x512 .f32) (k : Fin k0_t1_loop.trips) (K : Fin 512) (hK : K.val = k.val) (p : Fin 240) :
    View.ld A (Rect.unit (s := S240x512) (k0_off2 k) S240x1.size (k0_off2_inb k)) (ix2 p 0) = A (ix2 p K) := by
  show A _ = A _
  congr 1
  funext d; apply Fin.ext
  match d with
  | ⟨0, _⟩ => show k0_off2 k 0 + 1 * p.val = p.val; rw [off2_0]; omega
  | ⟨1, _⟩ => show k0_off2 k 1 + 1 * 0 = K.val; rw [off2_1, hK]; omega

/-! ## One trip -/

section
variable (wx wh : Fin 96 → Fin 3 → Fin 96 → EReal) (sx bx sh bh : Fin 3 → Fin 96 → EReal)
    (v23 v27 v31 v35 : FVec Ideal S96x96 .bf16) (v38 : FVec Ideal S96x96 .f32) (v40 : Vec Ideal S96x96 .fp8e4m3)
    (x0 : Vec Ideal S512x240x96 .bf16) (x4 x5 x7 x8 : Vec Ideal S3x96 .f32) (A : Vec Ideal S240x512 .f32)
    (h23 : ∀ k j, v23 (ix2 k j) = wx k 0 j) (h27 : ∀ k j, v27 (ix2 k j) = wx k 1 j) (h31 : ∀ k j, v31 (ix2 k j) = wx k 2 j)
    (h35 : ∀ k j, v35 (ix2 k j) = wh k 0 j) (h38 : ∀ k j, v38 (ix2 k j) = wh k 1 j) (h40 : ∀ k j, v40 (ix2 k j) = wh k 2 j)
    (h4 : ∀ g j, x4 (ix2 g j) = sx g j) (h5 : ∀ g j, x5 (ix2 g j) = bx g j) (h7 : ∀ g j, x7 (ix2 g j) = sh g j) (h8 : ∀ g j, x8 (ix2 g j) = bh g j)

include h23 h27 h31 h35 h38 h40 h4 h5 h7 h8

/-- One trip of the reference's loop is one step of the recurrence. -/
theorem trip_apply (k : Fin k0_t1_loop.trips) (K : Fin 512) (hK : K.val = k.val) (acc : FVec Ideal S240x96 .f32) (p : Fin 240) (j : Fin 96) :
    trip v23 v27 v31 v35 v38 v40 x0 x4 x5 x7 x8 A k acc (ix2 p j)
      = Recurrence.next wx wh sx bx sh bh (A (ix2 p K)) (fun x => x0 (ix3 K p x)) (fun x => acc (ix2 p x)) j := by
  unfold trip
  have c0 := fun x => plane_apply x0 k K hK p x
  have c1 := column_apply A k K hK p
  generalize View.ld x0 (Rect.unit (s := S512x240x96) (k0_off1 k) S1x240x96.size (k0_off1_inb k)) = X at c0 ⊢
  generalize View.ld A (Rect.unit (s := S240x512) (k0_off2 k) S240x1.size (k0_off2_inb k)) = B at c1 ⊢
  pointwise [k0_pay3, k0_pay6, k0_pay7, k0_pay8, k0_pay9, k0_pay10, k0_pay1, k0_pay5]
  unfold Recurrence.next Recurrence.gate
  simp only [c0, c1, h23, h27, h31, h35, h38, h40, h4, h5, h7, h8]

/-- After `n` trips the carried value is the recurrence's state after `n` steps. -/
theorem runs_apply (x : ℕ → Fin 240 → Fin 96 → EReal) (a : ℕ → Fin 240 → EReal)
    (hx : ∀ (t : Fin 512) p k, x0 (ix3 t p k) = x t.val p k) (ha : ∀ (t : Fin 512) p, A (ix2 p t) = a t.val p)
    (n : ℕ) (hn : n ≤ 512) (p : Fin 240) (j : Fin 96) :
    runs v23 v27 v31 v35 v38 v40 x0 x4 x5 x7 x8 A n (ix2 p j)
      = Recurrence.state wx wh sx bx sh bh (fun t => x t p) (fun t => a t p) n j := by
  induction n generalizing j with
  | zero => unfold runs; pointwise [k0_pay2]; rfl
  | succ n ih =>
    unfold runs
    rw [dif_pos (show n < k0_t1_loop.trips from lt_of_lt_of_eq hn trips_eq.symm)]
    refine (trip_apply wx wh sx bx sh bh v23 v27 v31 v35 v38 v40 x0 x4 x5 x7 x8 A h23 h27 h31 h35 h38 h40 h4 h5 h7 h8 ⟨n, _⟩ ⟨n, hn⟩ rfl _ p j).trans ?_
    simp only [hx, ha, ih (Nat.le_of_succ_le hn)]
    rfl

end

/-! ## The arguments as functions -/

section
variable (m : (ℓ : Loc nD τ sig) → Buf (Elt Ideal) ℓ) (c : Dev nD)

/-- The hidden state of time `t`, batch row `p`, without the pad lanes. -/
def hs (t : ℕ) (p : Fin 240) (k : Fin 96) : EReal :=
  if h : t < 512 then (m ((c : Thread nD τ).loc main_arg0) : FVec Ideal S512x240x128 .bf16) (ix3 ⟨t, h⟩ p ⟨k.val, by omega⟩) else 0
def wx (k : Fin 96) (g : Fin 3) (j : Fin 96) : EReal := (m ((c : Thread nD τ).loc main_arg3) : FVec Ideal S96x3x96 .fp8e4m3) (ix3 k g j)
def sx (g : Fin 3) (j : Fin 96) : EReal := (m ((c : Thread nD τ).loc main_arg4) : FVec Ideal S3x96 .f32) (ix2 g j)
def wh (k : Fin 96) (g : Fin 3) (j : Fin 96) : EReal := (m ((c : Thread nD τ).loc main_arg5) : FVec Ideal S96x3x96 .f32) (ix3 k g j)
def sh (g : Fin 3) (j : Fin 96) : EReal := (m ((c : Thread nD τ).loc main_arg6) : FVec Ideal S3x96 .f32) (ix2 g j)
def bx (g : Fin 3) (j : Fin 96) : EReal := (m ((c : Thread nD τ).loc main_arg7) : FVec Ideal S3x96 .f32) (ix2 g j)
def bh (g : Fin 3) (j : Fin 96) : EReal := (m ((c : Thread nD τ).loc main_arg8) : FVec Ideal S3x96 .f32) (ix2 g j)

/-! ## The host prelude and the blocks -/

theorem V0 (t : Fin 512) (p : Fin 240) (k : Fin 96) : (V m c main_v0 : FVec Ideal S512x240x96 .bf16) (ix3 t p k) = hs m c t.val p k := by
  unfold V
  after_reads_at
  unfold hs
  rw [dif_pos t.isLt]

theorem V1 (p : Fin 240) : V m c main_v1 (ix2 p 0) = m ((c : Thread nD τ).loc main_arg2) (ix1 p) := by
  unfold V
  after_reads_at

theorem V2 (k : Fin 96) (g : Fin 3) (j : Fin 96) :
    (V m c main_v2 : FVec Ideal S96x288 .fp8e4m3) (ix2 k ⟨96 * g.val + j.val, by omega⟩) = wx m c k g j := by
  unfold V
  after_reads_at
  rfl

theorem V4 (k : Fin 96) (g : Fin 3) (j : Fin 96) :
    (V m c main_v4 : FVec Ideal S96x288 .fp8e4m3) (ix2 k ⟨96 * g.val + j.val, by omega⟩) = wh m c k g j := by
  unfold V
  after_reads_at
  rfl

/-- The one point of the grid. -/
abbrev pt : Fin cfg0.N := ⟨0, lt_of_lt_of_eq (by decide) N_0.symm⟩

theorem eq_pt (t : Fin cfg0.N) : t = pt := by
  have ht : t.val < 1 := Nat.lt_of_lt_of_eq t.isLt N_0
  exact Fin.ext (by show t.val = 0; omega)

theorem index0_0 : win0_0.index pt 0 = 0 := rfl
theorem index0_1 : win0_0.index pt 1 = 0 := rfl
theorem index0_2 : win0_0.index pt 2 = 0 := rfl
theorem blk0 (p : Fin 512) (k : Fin 240) (l : Fin 96) : iblk m c 0 pt (ix3 p k l) = V m c main_v0 (ix3 p k l) := by
  blk_ext [iblk, index0_0, index0_1, index0_2]

theorem index1_0 : win0_1.index pt 0 = 0 := rfl
theorem index1_1 : win0_1.index pt 1 = 0 := rfl
theorem blk1 (p : Fin 240) (k : Fin 512) : iblk m c 1 pt (ix2 p k) = V m c main_arg1 (ix2 p k) := by
  blk_ext [iblk, index1_0, index1_1]

theorem index2_0 : win0_2.index pt 0 = 0 := rfl
theorem index2_1 : win0_2.index pt 1 = 0 := rfl
theorem blk2 (p : Fin 240) (k : Fin 1) : iblk m c 2 pt (ix2 p k) = V m c main_v1 (ix2 p k) := by
  blk_ext [iblk, index2_0, index2_1]

theorem index3_0 : win0_3.index pt 0 = 0 := rfl
theorem index3_1 : win0_3.index pt 1 = 0 := rfl
theorem blk3 (p : Fin 96) (k : Fin 288) : iblk m c 3 pt (ix2 p k) = V m c main_v2 (ix2 p k) := by
  blk_ext [iblk, index3_0, index3_1]

theorem index4_0 : win0_4.index pt 0 = 0 := rfl
theorem index4_1 : win0_4.index pt 1 = 0 := rfl
theorem blk4 (p : Fin 3) (k : Fin 96) : iblk m c 4 pt (ix2 p k) = V m c main_arg4 (ix2 p k) := by
  blk_ext [iblk, index4_0, index4_1]

theorem index5_0 : win0_5.index pt 0 = 0 := rfl
theorem index5_1 : win0_5.index pt 1 = 0 := rfl
theorem blk5 (p : Fin 3) (k : Fin 96) : iblk m c 5 pt (ix2 p k) = V m c main_arg7 (ix2 p k) := by
  blk_ext [iblk, index5_0, index5_1]

theorem index6_0 : win0_6.index pt 0 = 0 := rfl
theorem index6_1 : win0_6.index pt 1 = 0 := rfl
theorem blk6 (p : Fin 96) (k : Fin 288) : iblk m c 6 pt (ix2 p k) = V m c main_v4 (ix2 p k) := by
  blk_ext [iblk, index6_0, index6_1]

theorem index7_0 : win0_7.index pt 0 = 0 := rfl
theorem index7_1 : win0_7.index pt 1 = 0 := rfl
theorem blk7 (p : Fin 3) (k : Fin 96) : iblk m c 7 pt (ix2 p k) = V m c main_arg6 (ix2 p k) := by
  blk_ext [iblk, index7_0, index7_1]

theorem index8_0 : win0_8.index pt 0 = 0 := rfl
theorem index8_1 : win0_8.index pt 1 = 0 := rfl
theorem blk8 (p : Fin 3) (k : Fin 96) : iblk m c 8 pt (ix2 p k) = V m c main_arg8 (ix2 p k) := by
  blk_ext [iblk, index8_0, index8_1]

/-! ## The two arrays -/

/-- The attention that the reference computes. -/
def att : FVec Ideal S240x512 .f32 := k0_pay11 (iblk m c 2 pt) (iblk m c 1 pt)

/-- The attention of time `t`. -/
def attAtTime (t : ℕ) (p : Fin 240) : EReal := if h : t < 512 then att m c (ix2 p ⟨t, h⟩) else 0

/-- The last state that the reference computes. -/
def interest : FVec Ideal S240x96 .bf16 :=
  k0_pay4 (runs (k0_pay12 (View.ld (iblk m c 3 pt) (Rect.unit (s := S96x288) ![0, 0] S96x96.size inb_S96x288_S96x96_0_0))) (k0_pay13 (View.ld (iblk m c 3 pt) (Rect.unit (s := S96x288) ![0, 96] S96x96.size inb_S96x288_S96x96_0_96))) (k0_pay14 (View.ld (iblk m c 3 pt) (Rect.unit (s := S96x288) ![0, 192] S96x96.size inb_S96x288_S96x96_0_192)))
        (k0_pay15 (View.ld (iblk m c 6 pt) (Rect.unit (s := S96x288) ![0, 0] S96x96.size inb_S96x288_S96x96_0_0))) (k0_pay16 (View.ld (iblk m c 6 pt) (Rect.unit (s := S96x288) ![0, 96] S96x96.size inb_S96x288_S96x96_0_96))) (View.ld (iblk m c 6 pt) (Rect.unit (s := S96x288) ![0, 192] S96x96.size inb_S96x288_S96x96_0_192))
        (iblk m c 0 pt) (iblk m c 4 pt) (iblk m c 5 pt) (iblk m c 7 pt) (iblk m c 8 pt) (k0_pay11 (iblk m c 2 pt) (iblk m c 1 pt)) k0_t1_loop.trips)

/-- One gate's columns of a weight array, as loaded. -/
theorem columns_apply (X : Vec Ideal S96x288 .fp8e4m3) (g : Fin 3) (o : ℕ) (ho : o = 96 * g.val) (h : ∀ d, ![0, o] d + S96x96.size d ≤ S96x288.size d) (k j : Fin 96) :
    View.ld X (Rect.unit (s := S96x288) ![0, o] S96x96.size h) (ix2 k j) = X (ix2 k ⟨96 * g.val + j.val, by omega⟩) := by
  subst ho
  show X _ = X _
  congr 1
  funext d; apply Fin.ext
  match d with
  | ⟨0, _⟩ => show 0 + 1 * k.val = k.val; omega
  | ⟨1, _⟩ => show 96 * g.val + 1 * j.val = 96 * g.val + j.val; omega

theorem pay4_apply (v : FVec Ideal S240x96 .f32) (p : Fin 240) (j : Fin 96) : k0_pay4 v (ix2 p j) = v (ix2 p j) := by
  pointwise [k0_pay4]

theorem pay12_apply (v : Vec Ideal S96x96 .fp8e4m3) (k j : Fin 96) : k0_pay12 v (ix2 k j) = v (ix2 k j) := by
  pointwise [k0_pay12]

theorem pay13_apply (v : Vec Ideal S96x96 .fp8e4m3) (k j : Fin 96) : k0_pay13 v (ix2 k j) = v (ix2 k j) := by
  pointwise [k0_pay13]

theorem pay14_apply (v : Vec Ideal S96x96 .fp8e4m3) (k j : Fin 96) : k0_pay14 v (ix2 k j) = v (ix2 k j) := by
  pointwise [k0_pay14]

theorem pay15_apply (v : Vec Ideal S96x96 .fp8e4m3) (k j : Fin 96) : k0_pay15 v (ix2 k j) = v (ix2 k j) := by
  pointwise [k0_pay15]

theorem pay16_apply (v : Vec Ideal S96x96 .fp8e4m3) (k j : Fin 96) : k0_pay16 v (ix2 k j) = v (ix2 k j) := by
  pointwise [k0_pay16]

/-- The last state is the recurrence's after 512 steps. -/
theorem interest_apply (p : Fin 240) (j : Fin 96) :
    interest m c (ix2 p j) = Recurrence.state (wx m c) (wh m c) (sx m c) (bx m c) (sh m c) (bh m c) (fun t => hs m c t p) (fun t => attAtTime m c t p) 512 j := by
  unfold interest
  rw [trips_eq]
  refine (pay4_apply _ p j).trans ?_
  refine runs_apply (wx m c) (wh m c) (sx m c) (bx m c) (sh m c) (bh m c) _ _ _ _ _ _ _ _ _ _ _ _ ?_ ?_ ?_ ?_ ?_ ?_ ?_ ?_ ?_ ?_ (hs m c) (attAtTime m c) ?_ ?_ 512 le_rfl p j
  · intro k j; exact (pay12_apply _ k j).trans ((columns_apply _ 0 0 rfl _ k j).trans ((blk3 m c k _).trans (V2 m c k 0 j)))
  · intro k j; exact (pay13_apply _ k j).trans ((columns_apply _ 1 96 rfl _ k j).trans ((blk3 m c k _).trans (V2 m c k 1 j)))
  · intro k j; exact (pay14_apply _ k j).trans ((columns_apply _ 2 192 rfl _ k j).trans ((blk3 m c k _).trans (V2 m c k 2 j)))
  · intro k j; exact (pay15_apply _ k j).trans ((columns_apply _ 0 0 rfl _ k j).trans ((blk6 m c k _).trans (V4 m c k 0 j)))
  · intro k j; exact (pay16_apply _ k j).trans ((columns_apply _ 1 96 rfl _ k j).trans ((blk6 m c k _).trans (V4 m c k 1 j)))
  · intro k j; exact (columns_apply _ 2 192 rfl _ k j).trans ((blk6 m c k _).trans (V4 m c k 2 j))
  · intro g j; exact (blk4 m c g j).trans (congrFun (V_main_arg4 m c) _)
  · intro g j; exact (blk5 m c g j).trans (congrFun (V_main_arg7 m c) _)
  · intro g j; exact (blk7 m c g j).trans (congrFun (V_main_arg6 m c) _)
  · intro g j; exact (blk8 m c g j).trans (congrFun (V_main_arg8 m c) _)
  · intro t p k; exact (blk0 m c t p k).trans (V0 m c t p k)
  · intro t p
    unfold attAtTime att
    rw [dif_pos t.isLt]

/-! ## The run -/

theorem index9_pt : win0_9.index pt = fun _ => 0 := by decide +kernel
theorem index10_pt : win0_10.index pt = fun _ => 0 := by decide +kernel

theorem final9 : (dats m 0 c).arrAt 9 cfg0.N = (interest m c : Buf (Elt Ideal) ((c : Thread nD τ).loc main_v5_0)) := by
  refine (dats m 0 c).arrAt_eq_of_cover 9 _ (fun t hf => ?_) (fun i => ⟨pt, flush0_9 pt, ?_⟩)
  · obtain rfl := eq_pt t
    rw [Value.flushed9_A, interest_eq]
    show (cfg0.win 9).cut (grid0.coords pt) (interest m c) = _
    generalize interest m c = o
    funext y
    show o _ = o _
    congr 1
    funext a; apply Fin.ext
    have h := congrFun index9_pt
    match a with
    | ⟨0, _⟩ => show (y 0).val = win0_9.index pt (0 : Fin 2) * 240 + 1 * (y 0).val; rw [h 0]; omega
    | ⟨1, _⟩ => show (y 1).val = win0_9.index pt (1 : Fin 2) * 96 + 1 * (y 1).val; rw [h 1]; omega
  · show i ∈ ((View.whole main_v5_0).slice (win0_9.rect pt)).set
    rw [View.set_slice_whole, Rect.mem_set_unit]
    have h := congrFun index9_pt
    intro a
    have ha : (i a).val < S240x96.size a := (i a).isLt
    show win0_9.index pt a * S240x96.size a ≤ (i a).val ∧ (i a).val < win0_9.index pt a * S240x96.size a + S240x96.size a
    rw [h a]; omega

theorem final10 : (dats m 0 c).arrAt 10 cfg0.N = (att m c : Buf (Elt Ideal) ((c : Thread nD τ).loc main_v5_1)) := by
  refine (dats m 0 c).arrAt_eq_of_cover 10 _ (fun t hf => ?_) (fun i => ⟨pt, flush0_10 pt, ?_⟩)
  · obtain rfl := eq_pt t
    rw [Value.flushed10_A, att_eq]
    show (cfg0.win 10).cut (grid0.coords pt) (att m c) = _
    generalize att m c = o
    funext y
    show o _ = o _
    congr 1
    funext a; apply Fin.ext
    have h := congrFun index10_pt
    match a with
    | ⟨0, _⟩ => show (y 0).val = win0_10.index pt (0 : Fin 2) * 240 + 1 * (y 0).val; rw [h 0]; omega
    | ⟨1, _⟩ => show (y 1).val = win0_10.index pt (1 : Fin 2) * 512 + 1 * (y 1).val; rw [h 1]; omega
  · show i ∈ ((View.whole main_v5_1).slice (win0_10.rect pt)).set
    rw [View.set_slice_whole, Rect.mem_set_unit]
    have h := congrFun index10_pt
    intro a
    have ha : (i a).val < S240x512.size a := (i a).isLt
    show win0_10.index pt a * S240x512.size a ≤ (i a).val ∧ (i a).val < win0_10.index pt a * S240x512.size a + S240x512.size a
    rw [h a]; omega

end

end Cert.AugruReferenceIdeal.Body

end
-- ==== Proof.Value.Softmax.lean ====
/- The masked softmax of the scores: the kernel's attention and the reference's are the same array, and its entries are
   real when the scores are real and every length is at least one. -/
module

public import proofs.«01_k».proof.Proof.Value.Fold
public import proofs.«01_k».proof.Proof.Value.Reference

@[expose] public section

noncomputable section

namespace Cert.Equation

open Idealize.ShloMosaic Idealize.ShloMosaic.TcCoe Idealize.SL.Sem

/-! ## The masked softmax of one row -/

theorem negInf : Ideal.ofBits .f32 0xFF800000#32 = ⊥ := by simp [Ideal.ofBits, Ideal.ieee]
theorem posInf : Ideal.ofBits .f32 0x7F800000#32 = ⊤ := by simp [Ideal.ofBits, Ideal.ieee]

/-- The score of time `t`, or minus infinity from the row's length `n` on. -/
def masked (n : BitVec 32) (y : Fin 512 → EReal) (t : Fin 512) : EReal := Scalar.select (IntOp.cmpi .slt (BitVec.ofNat 32 t.val) n) (y t) ⊥

def softmax (f : Fin 512 → EReal) (t : Fin 512) : EReal :=
  Ideal.div (Ideal.exp (f t - Finset.fold max ⊥ f Finset.univ)) (∑ x, Ideal.exp (f x - Finset.fold max ⊥ f Finset.univ))

theorem kernel_apply (X : Vec Ideal Cert.AugruIdeal.S240x1 .i32) (Y : Vec Ideal Cert.AugruIdeal.S240x512 .f32) (p : Fin 240) (t : Fin 512) :
    Cert.AugruIdeal.Gen.k0_pay10 X Y (ix2 p t) = softmax (masked (X (ix2 p 0)) fun t => Y (ix2 p t)) t := by
  pointwise [Cert.AugruIdeal.Gen.k0_pay10]
  rw [negInf]
  rfl

theorem reference_apply (X : Vec Ideal Cert.AugruReferenceIdeal.S240x1 .i32) (Y : Vec Ideal Cert.AugruReferenceIdeal.S240x512 .f32) (p : Fin 240) (t : Fin 512) :
    Cert.AugruReferenceIdeal.Gen.k0_pay11 X Y (ix2 p t) = softmax (masked (X (ix2 p 0)) fun t => Y (ix2 p t)) t := by
  pointwise [Cert.AugruReferenceIdeal.Gen.k0_pay11]
  rw [negInf, max_eq_right bot_le]
  rfl

/-- A softmax over reals and minus infinities, its first a real, is real. -/
theorem real_softmax (f : Fin 512 → EReal) (hf : ∀ x, f x = ⊥ ∨ ∃ r : ℝ, f x = r) (h0 : ∃ r : ℝ, f 0 = r) (t : Fin 512) :
    ∃ r : ℝ, softmax f t = r := by
  have hlt : ∀ x, f x < ⊤ := fun x => by
    rcases hf x with h | ⟨r, h⟩
    · rw [h]; exact bot_lt_top
    · rw [h]; exact EReal.coe_lt_top r
  have htop : Finset.fold max ⊥ f Finset.univ < ⊤ := (Finset.fold_max_lt _).mpr ⟨bot_lt_top, fun x _ => hlt x⟩
  have hbot : ⊥ < Finset.fold max ⊥ f Finset.univ := by
    refine (Finset.lt_fold_max _).mpr (Or.inr ⟨0, Finset.mem_univ _, ?_⟩)
    obtain ⟨r, h⟩ := h0
    rw [h]; exact EReal.bot_lt_coe r
  unfold softmax
  generalize Finset.fold max ⊥ f Finset.univ = M at htop hbot
  obtain ⟨M, rfl⟩ : ∃ r : ℝ, M = r := ⟨M.toReal, (EReal.coe_toReal htop.ne hbot.ne').symm⟩
  have he : ∀ x, ∃ r : ℝ, 0 ≤ r ∧ Ideal.exp (f x - (M : EReal)) = r := fun x => by
    rcases hf x with h | ⟨r, h⟩
    · exact ⟨0, le_rfl, by rw [h, EReal.bot_sub]; rfl⟩
    · exact ⟨Real.exp (r - M), (Real.exp_pos _).le, by rw [h, ← EReal.coe_sub]; rfl⟩
  choose e hpos he using he
  have hz : 0 < e 0 := by
    obtain ⟨r, h⟩ := h0
    have : Ideal.exp (f 0 - (M : EReal)) = (Real.exp (r - M) : ℝ) := by rw [h, ← EReal.coe_sub]; rfl
    rw [he 0] at this
    rw [EReal.coe_eq_coe_iff.mp this]
    exact Real.exp_pos _
  have hs : 0 < ∑ x, e x := lt_of_lt_of_le hz (Finset.single_le_sum (f := e) (fun x _ => hpos x) (Finset.mem_univ 0))
  simp only [he]
  rw [show (∑ x, (e x : EReal)) = ((∑ x, e x : ℝ) : EReal) from (map_sum (⟨⟨Real.toEReal, rfl⟩, fun a b => EReal.coe_add a b⟩ : ℝ →+ EReal) e Finset.univ).symm]
  rw [Ideal.div_coe hs.ne']
  exact ⟨e t * (1 / ∑ x, e x), (EReal.coe_mul _ _).symm⟩

/-- The masked softmax of real scores over a length of at least one is real. -/
theorem real_masked (n : BitVec 32) (hn : IntOp.cmpi .sge n 1#32 = 1#1) (y : Fin 512 → EReal) (hy : ∀ t, ∃ r : ℝ, y t = r) (t : Fin 512) :
    ∃ r : ℝ, softmax (masked n y) t = r := by
  refine real_softmax _ (fun x => ?_) ?_ t
  · unfold masked Scalar.select
    split_ifs
    · exact Or.inr (hy x)
    · exact Or.inl rfl
  · have : IntOp.cmpi .slt (BitVec.ofNat 32 (0 : Fin 512).val) n = 1#1 := by
      unfold IntOp.cmpi at hn ⊢
      have h1 : (1#32).sle n = true := by
        by_contra hc
        simp_all
      have h2 : (BitVec.ofNat 32 (0 : Fin 512).val).slt n = true := by
        show (0#32).slt n = true
        rw [BitVec.slt_iff_toInt_lt]
        have := BitVec.sle_iff_toInt_le.mp h1
        have e1 : (1#32 : BitVec 32).toInt = 1 := by decide
        have e0 : (0#32 : BitVec 32).toInt = 0 := by decide
        omega
      show BitVec.ofBool ((BitVec.ofNat 32 (0 : Fin 512).val).slt n) = 1#1
      rw [h2]; rfl
    unfold masked
    rw [this]
    exact hy 0

end Cert.Equation

end
-- ==== Proof.Value.Finite.lean ====
/- The precondition, read at an index: which entries it makes real. -/
module

public import proofs.«01_k».proof.Defs
public import Idealize.ShloMosaic.Lib.Pointwise

@[expose] public section

noncomputable section

namespace Cert.Pre_finite

open Idealize.ShloMosaic

variable [Facts]

/-- Between minus and plus infinity: a real. -/
theorem real_of_between (x : EReal) (h : IntOp.andi (Ideal.cmp .ogt x (Ideal.ofBits .f32 0xFF800000#32)) (Ideal.cmp .olt x (Ideal.ofBits .f32 0x7F800000#32)) = 1#1) :
    ∃ r : ℝ, x = r := by
  rw [show Ideal.ofBits .f32 0xFF800000#32 = ⊥ by simp [Ideal.ofBits, Ideal.ieee], show Ideal.ofBits .f32 0x7F800000#32 = ⊤ by simp [Ideal.ofBits, Ideal.ieee]] at h
  by_cases h0 : ⊥ < x
  · by_cases h1 : x < ⊤
    · exact ⟨x.toReal, (EReal.coe_toReal h1.ne h0.ne').symm⟩
    · exfalso; simp [Ideal.cmp, h1, IntOp.andi] at h
  · exfalso; simp [Ideal.cmp, h0, IntOp.andi] at h

variable (a0 : FVec Ideal S512x240x128 .bf16) (a1 : FVec Ideal S240x512 .f32) (a2 : IVec S240 32) (a3 : FVec Ideal S96x3x96 .fp8e4m3) (a4 : FVec Ideal S3x96 .f32)
  (a5 : FVec Ideal S96x3x96 .f32) (a6 a7 a8 : FVec Ideal S3x96 .f32)

theorem real_score (h : (fn a0 a1 a2 a3 a4 a5 a6 a7 a8).1 = fun _ => 1#1) (p : Fin 240) (t : Fin 512) : ∃ r : ℝ, a1 (ix2 p t) = r := by
  apply real_of_between
  rw [← congrFun h (ix2 p t)]
  pointwise [fn, fn_part1]

theorem length_pos (h : (fn a0 a1 a2 a3 a4 a5 a6 a7 a8).2.1 = fun _ => 1#1) (p : Fin 240) : IntOp.cmpi .sge (a2 (ix1 p)) 1#32 = 1#1 := by
  rw [← congrFun h (ix1 p)]
  pointwise [fn, fn_part1]

theorem real_weight (h : (fn a0 a1 a2 a3 a4 a5 a6 a7 a8).2.2.1 = fun _ => 1#1) (k j : Fin 96) : ∃ r : ℝ, a5 (ix3 k 2 j) = r := by
  apply real_of_between
  rw [← congrFun h (ix2 k j)]
  pointwise [fn, fn_part1]

theorem real_scale (h : (fn a0 a1 a2 a3 a4 a5 a6 a7 a8).2.2.2.1 = fun _ => 1#1) (j : Fin 96) : ∃ r : ℝ, a6 (ix2 2 j) = r := by
  apply real_of_between
  rw [← congrFun h (ix1 j)]
  pointwise [fn, fn_part1]

theorem real_bias (h : (fn a0 a1 a2 a3 a4 a5 a6 a7 a8).2.2.2.2 = fun _ => 1#1) (j : Fin 96) : ∃ r : ℝ, a8 (ix2 2 j) = r := by
  apply real_of_between
  rw [← congrFun h (ix1 j)]
  pointwise [fn, fn_part1]

end Cert.Pre_finite

end
-- ==== Proof.AugruIdeal.Output.lean ====
/- The two arrays the kernel's run leaves: each output window covers its whole array and is written back once,
   at the last grid point, so the array is what that point leaves in the window's buffer. -/
module

public import proofs.«01_k».proof.Proof.AugruIdeal.Frame
public import Idealize.ShloMosaic.Lib.Pipeline.Value

@[expose] public section

noncomputable section

namespace Cert.AugruIdeal.Body

open Cert.AugruIdeal Cert.AugruIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The grid's last point. -/
abbrev last : Fin cfg0.N := ⟨64, lt_of_lt_of_eq (by decide) N_0.symm⟩

theorem eq_last (t : Fin cfg0.N) (h : t.val % 65 = 64) : t = last := by
  have ht : t.val < 65 := Nat.lt_of_lt_of_eq t.isLt N_0
  exact Fin.ext (by show t.val = 64; omega)

theorem index9_last : win0_9.index last = fun _ => 0 := by decide +kernel
theorem index10_last : win0_10.index last = fun _ => 0 := by decide +kernel

theorem flush9_last : (cfg0.win 9).flush last = true := (flush0_9 last).mpr rfl
theorem flush10_last : (cfg0.win 10).flush last = true := (flush0_10 last).mpr rfl

/-- The first output's array after the run is what the last point leaves in its window. -/
theorem final9 (c : Dev nD) : (dats m 0 c).arrAt 9 cfg0.N = ((outsAt0 m c last.val last.isLt).1 : Buf (Elt F) ((c : Thread nD τ).loc main_v26_0)) := by
  refine (dats m 0 c).arrAt_eq_of_cover 9 _ (fun t hf => ?_) (fun i => ⟨last, flush9_last, ?_⟩)
  · obtain rfl := eq_last t ((flush0_9 t).mp hf)
    show (cfg0.win 9).cut (grid0.coords last) ((dats m 0 c).after 9 last) = _
    rw [after0_9]
    generalize (outsAt0 m c last.val last.isLt).1 = o
    funext y
    show o _ = o _
    congr 1
    funext a; apply Fin.ext
    have h := congrFun index9_last
    match a with
    | ⟨0, _⟩ => show (y 0).val = win0_9.index last (0 : Fin 2) * 240 + 1 * (y 0).val; rw [h 0]; omega
    | ⟨1, _⟩ => show (y 1).val = win0_9.index last (1 : Fin 2) * 96 + 1 * (y 1).val; rw [h 1]; omega
  · show i ∈ ((View.whole main_v26_0).slice (win0_9.rect last)).set
    rw [View.set_slice_whole, Rect.mem_set_unit]
    have h := congrFun index9_last
    intro a
    have ha : (i a).val < S240x96.size a := (i a).isLt
    show win0_9.index last a * S240x96.size a ≤ (i a).val ∧ (i a).val < win0_9.index last a * S240x96.size a + S240x96.size a
    rw [h a]; omega

/-- The second output's array after the run is what the last point leaves in its window. -/
theorem final10 (c : Dev nD) : (dats m 0 c).arrAt 10 cfg0.N = ((outsAt0 m c last.val last.isLt).2.1 : Buf (Elt F) ((c : Thread nD τ).loc main_v26_1)) := by
  refine (dats m 0 c).arrAt_eq_of_cover 10 _ (fun t hf => ?_) (fun i => ⟨last, flush10_last, ?_⟩)
  · obtain rfl := eq_last t ((flush0_10 t).mp hf)
    show (cfg0.win 10).cut (grid0.coords last) ((dats m 0 c).after 10 last) = _
    rw [after0_10]
    generalize (outsAt0 m c last.val last.isLt).2.1 = o
    funext y
    show o _ = o _
    congr 1
    funext a; apply Fin.ext
    have h := congrFun index10_last
    match a with
    | ⟨0, _⟩ => show (y 0).val = win0_10.index last (0 : Fin 2) * 240 + 1 * (y 0).val; rw [h 0]; omega
    | ⟨1, _⟩ => show (y 1).val = win0_10.index last (1 : Fin 2) * 512 + 1 * (y 1).val; rw [h 1]; omega
  · show i ∈ ((View.whole main_v26_1).slice (win0_10.rect last)).set
    rw [View.set_slice_whole, Rect.mem_set_unit]
    have h := congrFun index10_last
    intro a
    have ha : (i a).val < S240x512.size a := (i a).isLt
    show win0_10.index last a * S240x512.size a ≤ (i a).val ∧ (i a).val < win0_10.index last a * S240x512.size a + S240x512.size a
    rw [h a]; omega

/-- The run: both result arrays at what the last point leaves, every argument as launched. -/
theorem run : θ_run defs (onTc (τ := τ) (main (F := F))) ⟨m, fun _ => 0, ρ⟩ fun r => ∀ c : Dev nD,
    r.2.mem ((c : Thread nD τ).loc main_v26_0) = (outsAt0 m c last.val last.isLt).1
      ∧ r.2.mem ((c : Thread nD τ).loc main_v26_1) = (outsAt0 m c last.val last.isLt).2.1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩)
    (run_main m ρ)

end Cert.AugruIdeal.Body

end
-- ==== Proof.Value.Equation.lean ====
/- The equation: from equal arguments under the precondition, the kernel's two result arrays are the reference's. -/
module

public import proofs.«01_k».proof.Proof.Value.Softmax
public import proofs.«01_k».proof.Proof.Value.Finite
public import proofs.«01_k».proof.Proof.AugruIdeal.Output

@[expose] public section

noncomputable section

namespace Cert.Equation

open Idealize.ShloMosaic Idealize.ShloMosaic.TcCoe Idealize.SL.Sem

section
variable (m : (ℓ : Loc Cert.AugruIdeal.nD Cert.AugruIdeal.τ Cert.AugruIdeal.sig) → Buf (Elt Ideal) ℓ) (c : Dev Cert.AugruIdeal.nD)

/-- The kernel's attention at an index: the softmax of the masked scores. -/
theorem attn_apply (p : Fin 240) (t : Fin 512) :
    Cert.AugruIdeal.Body.attn m c (ix2 p t)
      = softmax (masked ((m ((c : Thread Cert.AugruIdeal.nD Cert.AugruIdeal.τ).loc Cert.AugruIdeal.main_arg2) : IVec Cert.AugruIdeal.S240 32) (ix1 p))
          fun t => (m ((c : Thread Cert.AugruIdeal.nD Cert.AugruIdeal.τ).loc Cert.AugruIdeal.main_arg1) : FVec Ideal Cert.AugruIdeal.S240x512 .f32) (ix2 p t)) t := by
  unfold Cert.AugruIdeal.Body.attn
  rw [kernel_apply]
  congr 2
  · refine Eq.trans ?_ ((Cert.AugruIdeal.Body.blk2 m c ⟨0, Cert.AugruIdeal.Body.first⟩ p 0).trans (Cert.AugruIdeal.Body.V1 m c p 0))
    pointwise
  · funext t
    exact (Cert.AugruIdeal.Body.blk1 m c ⟨0, Cert.AugruIdeal.Body.first⟩ p t).trans (congrFun (Cert.AugruIdeal.Gen.V_main_arg1 m c) _)

/-- The kernel's first result at an index: the recurrence's state after 512 steps. -/
theorem interest_apply (ha : ∀ t p, ∃ r : ℝ, Cert.AugruIdeal.Body.attAtTime m c t p = r) (hr : ∀ k j, ∃ r : ℝ, Cert.AugruIdeal.Body.wh m c k 2 j = r)
    (hs : ∀ j, ∃ r : ℝ, Cert.AugruIdeal.Body.sh m c 2 j = r) (hb : ∀ j, ∃ r : ℝ, Cert.AugruIdeal.Body.bh m c 2 j = r) (p : Fin 240) (j : Fin 96) :
    (Cert.AugruIdeal.Body.outsAt0 m c Cert.AugruIdeal.Body.last.val Cert.AugruIdeal.Body.last.isLt).1 (ix2 p j)
      = Cert.AugruIdeal.Body.after (Cert.AugruIdeal.Body.wx m c) (Cert.AugruIdeal.Body.wh m c) (Cert.AugruIdeal.Body.sx m c) (Cert.AugruIdeal.Body.bx m c)
          (Cert.AugruIdeal.Body.sh m c) (Cert.AugruIdeal.Body.bh m c) (Cert.AugruIdeal.Body.hs m c) (Cert.AugruIdeal.Body.attAtTime m c) 512 p j := by
  have I := (Cert.AugruIdeal.Body.inv m c ha hr hs hb Cert.AugruIdeal.Body.last.val Cert.AugruIdeal.Body.last.isLt).h p j
  rw [Cert.AugruIdeal.Body.interest_last m c Cert.AugruIdeal.Body.last (by decide) (by decide)]
  generalize (Cert.AugruIdeal.Body.outsAt0 m c Cert.AugruIdeal.Body.last.val Cert.AugruIdeal.Body.last.isLt).2.2.2.2.2 = h at I ⊢
  refine Eq.trans ?_ I
  pointwise [Cert.AugruIdeal.Gen.k0_pay2]

end

section
variable (m : (ℓ : Loc Cert.AugruReferenceIdeal.nD Cert.AugruReferenceIdeal.τ Cert.AugruReferenceIdeal.sig) → Buf (Elt Ideal) ℓ) (c : Dev Cert.AugruReferenceIdeal.nD)

/-- The reference's attention at an index: the softmax of the masked scores. -/
theorem att_apply (p : Fin 240) (t : Fin 512) :
    Cert.AugruReferenceIdeal.Body.att m c (ix2 p t)
      = softmax (masked ((m ((c : Thread Cert.AugruReferenceIdeal.nD Cert.AugruReferenceIdeal.τ).loc Cert.AugruReferenceIdeal.main_arg2) : IVec Cert.AugruReferenceIdeal.S240 32) (ix1 p))
          fun t => (m ((c : Thread Cert.AugruReferenceIdeal.nD Cert.AugruReferenceIdeal.τ).loc Cert.AugruReferenceIdeal.main_arg1) : FVec Ideal Cert.AugruReferenceIdeal.S240x512 .f32) (ix2 p t)) t := by
  unfold Cert.AugruReferenceIdeal.Body.att
  rw [reference_apply]
  congr 2
  · exact (Cert.AugruReferenceIdeal.Body.blk2 m c p 0).trans (Cert.AugruReferenceIdeal.Body.V1 m c p)
  · funext t
    exact (Cert.AugruReferenceIdeal.Body.blk1 m c p t).trans (congrFun (Cert.AugruReferenceIdeal.Gen.V_main_arg1 m c) _)

end

section
variable (m : (ℓ : Loc Cert.AugruIdeal.nD Cert.AugruIdeal.τ Cert.AugruIdeal.sig) → Buf (Elt Ideal) ℓ) (m' : (ℓ : Loc Cert.AugruReferenceIdeal.nD Cert.AugruReferenceIdeal.τ Cert.AugruReferenceIdeal.sig) → Buf (Elt Ideal) ℓ)

/-- The two programs' arguments are equal on device `c`. -/
def Same (c : Dev Cert.AugruIdeal.nD) : Prop :=
    m' ((c.tc : Thread Cert.AugruReferenceIdeal.nD Cert.AugruReferenceIdeal.τ).loc Cert.AugruReferenceIdeal.main_arg0) = m ((c.tc : Thread Cert.AugruIdeal.nD Cert.AugruIdeal.τ).loc Cert.AugruIdeal.main_arg0)
      ∧ m' ((c.tc : Thread Cert.AugruReferenceIdeal.nD Cert.AugruReferenceIdeal.τ).loc Cert.AugruReferenceIdeal.main_arg1) = m ((c.tc : Thread Cert.AugruIdeal.nD Cert.AugruIdeal.τ).loc Cert.AugruIdeal.main_arg1)
      ∧ m' ((c.tc : Thread Cert.AugruReferenceIdeal.nD Cert.AugruReferenceIdeal.τ).loc Cert.AugruReferenceIdeal.main_arg2) = m ((c.tc : Thread Cert.AugruIdeal.nD Cert.AugruIdeal.τ).loc Cert.AugruIdeal.main_arg2)
      ∧ m' ((c.tc : Thread Cert.AugruReferenceIdeal.nD Cert.AugruReferenceIdeal.τ).loc Cert.AugruReferenceIdeal.main_arg3) = m ((c.tc : Thread Cert.AugruIdeal.nD Cert.AugruIdeal.τ).loc Cert.AugruIdeal.main_arg3)
      ∧ m' ((c.tc : Thread Cert.AugruReferenceIdeal.nD Cert.AugruReferenceIdeal.τ).loc Cert.AugruReferenceIdeal.main_arg4) = m ((c.tc : Thread Cert.AugruIdeal.nD Cert.AugruIdeal.τ).loc Cert.AugruIdeal.main_arg4)
      ∧ m' ((c.tc : Thread Cert.AugruReferenceIdeal.nD Cert.AugruReferenceIdeal.τ).loc Cert.AugruReferenceIdeal.main_arg5) = m ((c.tc : Thread Cert.AugruIdeal.nD Cert.AugruIdeal.τ).loc Cert.AugruIdeal.main_arg5)
      ∧ m' ((c.tc : Thread Cert.AugruReferenceIdeal.nD Cert.AugruReferenceIdeal.τ).loc Cert.AugruReferenceIdeal.main_arg6) = m ((c.tc : Thread Cert.AugruIdeal.nD Cert.AugruIdeal.τ).loc Cert.AugruIdeal.main_arg6)
      ∧ m' ((c.tc : Thread Cert.AugruReferenceIdeal.nD Cert.AugruReferenceIdeal.τ).loc Cert.AugruReferenceIdeal.main_arg7) = m ((c.tc : Thread Cert.AugruIdeal.nD Cert.AugruIdeal.τ).loc Cert.AugruIdeal.main_arg7)
      ∧ m' ((c.tc : Thread Cert.AugruReferenceIdeal.nD Cert.AugruReferenceIdeal.τ).loc Cert.AugruReferenceIdeal.main_arg8) = m ((c.tc : Thread Cert.AugruIdeal.nD Cert.AugruIdeal.τ).loc Cert.AugruIdeal.main_arg8)

variable (c : Dev Cert.AugruIdeal.nD) (e : Same m m' c)

include e

theorem att_eq : Cert.AugruReferenceIdeal.Body.att m' c = Cert.AugruIdeal.Body.attn m c := by
  obtain ⟨_, e1, e2, _⟩ := e
  funext i
  obtain ⟨p, t, rfl⟩ : ∃ (p : Fin 240) (t : Fin 512), i = ix2 p t := ⟨i 0, i 1, ValueIdx.eq_ix2 i⟩
  rw [att_apply, attn_apply, e1, e2]

theorem attAtTime_eq : Cert.AugruReferenceIdeal.Body.attAtTime m' c = Cert.AugruIdeal.Body.attAtTime m c := by
  unfold Cert.AugruReferenceIdeal.Body.attAtTime Cert.AugruIdeal.Body.attAtTime
  rw [att_eq m m' c e]

variable [Cert.Pre_finite.Facts] (h : Cert.Pre_AugruIdeal_finite m)

include h

/-- Under the precondition the attention is real. -/
theorem real_att (t : ℕ) (p : Fin 240) : ∃ r : ℝ, Cert.AugruIdeal.Body.attAtTime m c t p = r := by
  unfold Cert.AugruIdeal.Body.attAtTime
  split_ifs with ht
  · rw [attn_apply]
    exact real_masked _ (Cert.Pre_finite.length_pos _ _ _ _ _ _ _ _ _ (h c).2.1 p) _ (fun t => Cert.Pre_finite.real_score _ _ _ _ _ _ _ _ _ (h c).1 p t) _
  · exact ⟨0, rfl⟩

theorem interest_eq : Cert.AugruReferenceIdeal.Body.interest m' c = (Cert.AugruIdeal.Body.outsAt0 m c Cert.AugruIdeal.Body.last.val Cert.AugruIdeal.Body.last.isLt).1 := by
  funext i
  obtain ⟨p, j, rfl⟩ : ∃ (p : Fin 240) (j : Fin 96), i = ix2 p j := ⟨i 0, i 1, ValueIdx.eq_ix2 i⟩
  refine (Cert.AugruReferenceIdeal.Body.interest_apply m' c p j).trans (Eq.trans ?_ (interest_apply m c (fun t p => real_att m m' c e h t p)
    (fun k j => Cert.Pre_finite.real_weight _ _ _ _ _ _ _ _ _ (h c).2.2.1 k j) (fun j => Cert.Pre_finite.real_scale _ _ _ _ _ _ _ _ _ (h c).2.2.2.1 j)
    (fun j => Cert.Pre_finite.real_bias _ _ _ _ _ _ _ _ _ (h c).2.2.2.2 j) p j).symm)
  rw [attAtTime_eq m m' c e]
  obtain ⟨e0, _, _, e3, e4, e5, e6, e7, e8⟩ := e
  unfold Cert.AugruIdeal.Body.after
  unfold Cert.AugruReferenceIdeal.Body.hs Cert.AugruReferenceIdeal.Body.wx Cert.AugruReferenceIdeal.Body.wh Cert.AugruReferenceIdeal.Body.sx Cert.AugruReferenceIdeal.Body.sh Cert.AugruReferenceIdeal.Body.bx Cert.AugruReferenceIdeal.Body.bh
  rw [e0, e3, e4, e5, e6, e7, e8]
  rfl

end

/-- The kernel and the reference leave the same two arrays. -/
theorem algebraic [Cert.Pre_finite.Facts] : Cert.algebraic_AugruIdeal_AugruReferenceIdeal_pre_finite := by
  intro m g m' g' h e
  refine ⟨fun c => (Cert.AugruIdeal.Body.outsAt0 m c Cert.AugruIdeal.Body.last.val Cert.AugruIdeal.Body.last.isLt).1, fun c => (Cert.AugruIdeal.Body.outsAt0 m c Cert.AugruIdeal.Body.last.val Cert.AugruIdeal.Body.last.isLt).2.1,
    Cert.AugruIdeal.Body.run m g, (θ_run _ _ _).mono (fun r hr c => ?_) (Cert.AugruReferenceIdeal.Value.run_blocks m' g')⟩
  have hr := hr c
  refine ⟨hr.1.trans ((Cert.AugruReferenceIdeal.Body.final9 m' c).trans (interest_eq m m' c (e c) h)), hr.2.1.trans ((Cert.AugruReferenceIdeal.Body.final10 m' c).trans ?_), hr.2.2⟩
  rw [att_eq m m' c (e c)]
  exact (Cert.AugruIdeal.Body.inv m c (fun t p => real_att m m' c (e c) h t p)
    (fun k j => Cert.Pre_finite.real_weight _ _ _ _ _ _ _ _ _ (h c).2.2.1 k j) (fun j => Cert.Pre_finite.real_scale _ _ _ _ _ _ _ _ _ (h c).2.2.2.1 j)
    (fun j => Cert.Pre_finite.real_bias _ _ _ _ _ _ _ _ _ (h c).2.2.2.2 j) Cert.AugruIdeal.Body.last.val Cert.AugruIdeal.Body.last.isLt).att.symm

end Cert.Equation

end
-- ==== Proof.Gru1Ideal.Runs.lean ====
module

public import proofs.«01_k».proof.Proof.Gen.Gru1Ideal.Frame
public import proofs.«01_k».proof.Proof.Gen.Gru1Ideal.Launch
public import proofs.«01_k».proof.Proof.Gen.Gru1Ideal.Skeleton
public import proofs.«01_k».proof.Proof.Gen.Gru1Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Gru1Ideal.Body

open Cert.Gru1Ideal Cert.Gru1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_1, k0_cond2, e0]
    word_cmp
   : ∀ t : Fin grid0.N, cond0_1 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S8x4x120x128 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x56x288 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x288 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S240x128 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x240x128 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x240x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x4x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x240x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S240x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S240x96 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S8x240x384 .f32 := Memref.whole cc0_scratch0
abbrev scM0_1 : Memref sig .tc .vmem S512x384 .bf16 := Memref.whole cc0_scratch1
abbrev scM0_2 : Memref sig .tc .vmem S128x384 .bf16 := Memref.whole cc0_scratch2
abbrev scM0_3 : Memref sig .tc .vmem S240x128 .f32 := Memref.whole cc0_scratch3
abbrev scM0_4 : Memref sig .tc .vmem S240x128 .f32 := Memref.whole cc0_scratch4
/-- The scratch `arg15` the kernel carries between points, as a view: what it holds is stated through it. -/
abbrev VS0_0 : View sig .tc .vmem S8x240x384 .f32 := scM0_0.view
/-- The scratch `arg16` the kernel carries between points, as a view: what it holds is stated through it. -/
abbrev VS0_1 : View sig .tc .vmem S512x384 .bf16 := scM0_1.view
/-- The scratch `arg17` the kernel carries between points, as a view: what it holds is stated through it. -/
abbrev VS0_2 : View sig .tc .vmem S128x384 .bf16 := scM0_2.view
/-- The scratch `arg18` the kernel carries between points, as a view: what it holds is stated through it. -/
abbrev VS0_3 : View sig .tc .vmem S240x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Gru1Ideal.Body

end
-- ==== Proof.Gru1Ideal.RunA.lean ====
module

public import proofs.«01_k».proof.Proof.Gru1Ideal.Runs

@[expose] public section

-- membership in a rectangle of production extents (`View.cover_of_tiled`): the elaborator's structural look
-- recurses once per coordinate of the long axes
set_option maxRecDepth 16384

noncomputable section

namespace Cert.Gru1Ideal.Body

open Cert.Gru1Ideal Cert.Gru1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1188000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13) at anything, handed back at some contents nothing names. -/
noncomputable def kernelRun0_A (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole) (hc0 : cond0_0 i) (hc1 : ¬cond0_1 i)
    (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) :
    Σ' (LS0 : List (View.Piece (Elt F) S8x240x384 .f32)), Σ' (LS1 : List (View.Piece (Elt F) S512x384 .bf16)), Σ' (LS2 : List (View.Piece (Elt F) S128x384 .bf16)), { LS3 : List (View.Piece (Elt F) S240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ (∃ f, arg18.view.loc (c : Thread nD τ) ↦[arg18.view.set]{fullShare} arg18.view.writes (Elt F) f LS3) ∗ (∃ d, owns (c : Thread nD τ) arg19 fullShare d)) -∗ K ⟨⟩))
          ⊢ wp frame (wpE (defs₀ (F := F)) Variants.none c none) E (cc0_gru1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0_gru1_eq_skeleton]; unfold cc0_gru1_skel
    simp only [k0_part6_eq_skeleton, k0_part5_eq_skeleton, k0_part1_eq_skeleton, k0_part2_eq_skeleton, k0_part3_eq_skeleton, k0_part4_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]; · iexists _; iexact HS1
    isplitl [HS2]; · iexists _; iexact HS2
    isplitl [HS3]; · iexists _; iexact HS3
    iexists _, _; isplitr; swap; · iexact HS4
    ipureintro; rfl

end Cert.Gru1Ideal.Body

end
-- ==== Proof.Gru1Ideal.RunB.lean ====
module

public import proofs.«01_k».proof.Proof.Gru1Ideal.RunA

@[expose] public section

-- membership in a rectangle of production extents (`View.cover_of_tiled`): the elaborator's structural look
-- recurses once per coordinate of the long axes
set_option maxRecDepth 16384

noncomputable section

namespace Cert.Gru1Ideal.Body

open Cert.Gru1Ideal Cert.Gru1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE B (`scf.if` 0 not taken, `scf.if` 1 not taken: points 1, 2, … 63: 63 of 65), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13) at anything, handed back at some contents nothing names. -/
noncomputable def kernelRun0_B (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole) (hc0 : ¬cond0_0 i) (hc1 : ¬cond0_1 i)
    (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32) :
    Σ' (LS0 : List (View.Piece (Elt F) S8x240x384 .f32)), Σ' (LS1 : List (View.Piece (Elt F) S512x384 .bf16)), Σ' (LS2 : List (View.Piece (Elt F) S128x384 .bf16)), { LS3 : List (View.Piece (Elt F) S240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3 ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ f, arg15.view.loc (c : Thread nD τ) ↦[arg15.view.set]{fullShare} arg15.view.writes (Elt F) f LS0) ∗ owns (c : Thread nD τ) arg16 fullShare xs1 ∗ owns (c : Thread nD τ) arg17 fullShare xs2 ∗ (∃ f, arg18.view.loc (c : Thread nD τ) ↦[arg18.view.set]{fullShare} arg18.view.writes (Elt F) f LS3) ∗ (∃ d, owns (c : Thread nD τ) arg19 fullShare d)) -∗ K ⟨⟩))
          ⊢ wp frame (wpE (defs₀ (F := F)) Variants.none c none) E (cc0_gru1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, [], [], ?_, fun E K => ?run⟩
  case run =>
    simp only [cc0_gru1_eq_skeleton]; unfold cc0_gru1_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hfs0; obtain rfl := harg16.eq_unread hfs1; obtain rfl := harg17.eq_unread hfs2; obtain rfl := harg18.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]
    · iexists _; isplitr; · ipureintro; exact harg16.read_unread _
      iexact HS1
    isplitl [HS2]
    · iexists _; isplitr; · ipureintro; exact harg17.read_unread _
      iexact HS2
    isplitl [HS3]; · iexists _; iexact HS3
    iexists _, _; isplitr; swap; · iexact HS4
    ipureintro; rfl

end Cert.Gru1Ideal.Body

end
-- ==== Proof.Gru1Ideal.RunC.lean ====
module

public import proofs.«01_k».proof.Proof.Gru1Ideal.RunB

@[expose] public section

-- membership in a rectangle of production extents (`View.cover_of_tiled`): the elaborator's structural look
-- recurses once per coordinate of the long axes
set_option maxRecDepth 16384

noncomputable section

namespace Cert.Gru1Ideal.Body

open Cert.Gru1Ideal Cert.Gru1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1600000 in
/-- What the body's stores leave in each output's staging memref, as pieces (last first) IN CASE C (`scf.if` 0 not taken, `scf.if` 1 taken: points 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12) at anything, handed back at some contents nothing names. -/
noncomputable def kernelRun0_C (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole) (hc0 : ¬cond0_0 i) (hc1 : cond0_1 i)
    (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32) :
    Σ' (L13 : List (View.Piece (Elt F) S240x96 .f32)), Σ' (LS0 : List (View.Piece (Elt F) S8x240x384 .f32)), Σ' (LS1 : List (View.Piece (Elt F) S512x384 .bf16)), Σ' (LS2 : List (View.Piece (Elt F) S128x384 .bf16)), { LS3 : List (View.Piece (Elt F) S240x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1 ∗ owns (c : Thread nD τ) arg17 fullShare xs2 ∗ owns (c : Thread nD τ) arg18 fullShare xs3 ∗ (∃ d, owns (c : Thread nD τ) arg19 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ owns (c : Thread nD τ) arg16 fullShare xs1 ∗ owns (c : Thread nD τ) arg17 fullShare xs2 ∗ (∃ f, arg18.view.loc (c : Thread nD τ) ↦[arg18.view.set]{fullShare} arg18.view.writes (Elt F) f LS3) ∗ (∃ d, owns (c : Thread nD τ) arg19 fullShare d)) -∗ K ⟨⟩))
          ⊢ wp frame (wpE (defs₀ (F := F)) Variants.none c none) E (cc0_gru1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, [], [], ?_, fun E K => ?run⟩
  case run =>
    simp only [cc0_gru1_eq_skeleton]; unfold cc0_gru1_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, ⟨%fs1, %hfs1, HS1⟩, ⟨%fs2, %hfs2, HS2⟩, ⟨%fs3, %hfs3, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hfs0; obtain rfl := harg16.eq_unread hfs1; obtain rfl := harg17.eq_unread hfs2; obtain rfl := harg18.eq_unread hfs3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]; · iexists _; iexact H13
    isplitl [HS0]; · iexists _; iexact HS0
    isplitl [HS1]
    · iexists _; isplitr; · ipureintro; exact harg16.read_unread _
      iexact HS1
    isplitl [HS2]
    · iexists _; isplitr; · ipureintro; exact harg17.read_unread _
      iexact HS2
    isplitl [HS3]; · iexists _; iexact HS3
    iexists _, _; isplitr; swap; · iexact HS4
    ipureintro; rfl

end Cert.Gru1Ideal.Body

end
-- ==== Proof.Gru1Ideal.Frame.lean ====
module

public import proofs.«01_k».proof.Proof.Gru1Ideal.RunC
public import Idealize.ShloMosaic.Lib.Pipeline.DatRel
public import Idealize.ShloMosaic.Lib.Pipeline.ArrRel
public import Idealize.ShloMosaic.Lib.Claim

@[expose] public section

-- membership in a rectangle of production extents (`View.cover_of_tiled`): the elaborator's structural look
-- recurses once per coordinate of the long axes
set_option maxRecDepth 16384

noncomputable section

namespace Cert.Gru1Ideal.Body

open Cert.Gru1Ideal Cert.Gru1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole) (hc0 : cond0_0 i) (hc1 : ¬cond0_1 i)
     (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32)

/-- Case A's pieces for scratch `arg15`, which the kernel carries between points, cover it: one of them a store of the WHOLE buffer (Lib/Ring.lean `sl_whole_mem`). -/
theorem scover0_A_0 (y : S8x240x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).1 (by sl_whole_mem) y

/-- What case A leaves in scratch `arg15`: its pieces read back over junk. -/
def sout0_A_0 : Vec F S8x240x384 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).1)

/-- Case A's pieces for scratch `arg16`, which the kernel carries between points, cover it: 1 piece of `S512x384` tiling it (Lib/Ring.lean `Piece.tiledL`). -/
theorem scover0_A_1 (y : S512x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.1 S512x384.size (by sl_kernel_rfl) y

/-- What case A leaves in scratch `arg16`: its pieces read back over junk. -/
def sout0_A_1 : Vec F S512x384 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.1)

/-- Case A's pieces for scratch `arg17`, which the kernel carries between points, cover it: 1 piece of `S128x384` tiling it (Lib/Ring.lean `Piece.tiledL`). -/
theorem scover0_A_2 (y : S128x384.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.1 S128x384.size (by sl_kernel_rfl) y

/-- What case A leaves in scratch `arg17`: its pieces read back over junk. -/
def sout0_A_2 : Vec F S128x384 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.1)

/-- Case A's pieces for scratch `arg18`, which the kernel carries between points, cover it: 2 pieces of `S240x128` tiling it (Lib/Ring.lean `Piece.tiledL`). -/
theorem scover0_A_3 (y : S240x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.2.1 S240x128.size (by sl_kernel_rfl) y

/-- What case A leaves in scratch `arg18`: its pieces read back over junk. -/
def sout0_A_3 : Vec F S240x128 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10).2.2.2.1)

end CaseA

section CaseB

variable (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole) (hc0 : ¬cond0_0 i) (hc1 : ¬cond0_1 i)
     (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32)

/-- Case B's pieces for scratch `arg15`, which the kernel carries between points, cover it: 8 pieces of `S1x240x384` tiling it (Lib/Ring.lean `Piece.tiledL`). -/
theorem scover0_B_0 (y : S8x240x384.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).1 S1x240x384.size (by sl_kernel_rfl) y

/-- What case B leaves in scratch `arg15`: its pieces read back over junk. -/
def sout0_B_0 : Vec F S8x240x384 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).1)

/-- Case B's pieces for scratch `arg18`, which the kernel carries between points, cover it: 1 piece of `S240x128` tiling it (Lib/Ring.lean `Piece.tiledL`). -/
theorem scover0_B_3 (y : S240x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.2.2.1 S240x128.size (by sl_kernel_rfl) y

/-- What case B leaves in scratch `arg18`: its pieces read back over junk. -/
def sout0_B_3 : Vec F S240x128 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.2.2.1)

end CaseB

section CaseC

variable (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole) (hc0 : ¬cond0_0 i) (hc1 : cond0_1 i)
     (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32)

/-- Case C's pieces for scratch `arg15`, which the kernel carries between points, cover it: 8 pieces of `S1x240x384` tiling it (Lib/Ring.lean `Piece.tiledL`). -/
theorem scover0_C_0 (y : S8x240x384.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.1 S1x240x384.size (by sl_kernel_rfl) y

/-- What case C leaves in scratch `arg15`: its pieces read back over junk. -/
def sout0_C_0 : Vec F S8x240x384 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.1)

/-- Case C's pieces for scratch `arg18`, which the kernel carries between points, cover it: 1 piece of `S240x128` tiling it (Lib/Ring.lean `Piece.tiledL`). -/
theorem scover0_C_3 (y : S240x128.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.2.2.2.1 S240x128.size (by sl_kernel_rfl) y

/-- What case C leaves in scratch `arg18`: its pieces read back over junk. -/
def sout0_C_3 : Vec F S240x128 .f32 :=
  VS0_3.read (Elt F) (VS0_3.writes (Elt F) VS0_3.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).2.2.2.2.1)

/-- Case C's pieces for the staging memref of output 13 cover it. -/
theorem cover0_C_13 (y : S240x96.Idx) : ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).1 S240x96.size (by sl_kernel_rfl) y

/-- What case C leaves in output 13: its pieces read back over junk. -/
def out0_C_13 : Vec F S240x96 .f32 :=
  arg14.view.read (Elt F) (arg14.view.writes (Elt F) arg14.view.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3).1)

end CaseC

/-! ## What the outputs hold after each point -/

/-- What the four carried scratch buffers hold: the gate inputs, the two widened weights, the state. -/
abbrev Carried (F : FTy → Type) [FloatOps F] : Type :=
  Vec F S8x240x384 .f32 × Vec F S512x384 .bf16 × Vec F S128x384 .bf16 × Vec F S240x128 .f32

/-- What a point of case A leaves in the carried scratch. -/
def stepA (c : Dev nD) (t : Fin cfg0.N) (hc0 : cond0_0 (grid0.coords t)) (hc1 : ¬cond0_1 (grid0.coords t)) : Carried F :=
  (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t),
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t),
    sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t),
    sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t))

/-- What a point of case B leaves in the carried scratch, over what it finds there. -/
def stepB (c : Dev nD) (t : Fin cfg0.N) (hc0 : ¬cond0_0 (grid0.coords t)) (hc1 : ¬cond0_1 (grid0.coords t)) (s : Carried F) : Carried F :=
  (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) s.1 s.2.1 s.2.2.1 s.2.2.2,
    s.2.1,
    s.2.2.1,
    sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) s.1 s.2.1 s.2.2.1 s.2.2.2)

/-- What a point of case C leaves in the carried scratch, over what it finds there. -/
def stepC (c : Dev nD) (t : Fin cfg0.N) (hc0 : ¬cond0_0 (grid0.coords t)) (hc1 : cond0_1 (grid0.coords t)) (s : Carried F) : Carried F :=
  (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) s.1 s.2.1 s.2.2.1 s.2.2.2,
    s.2.1,
    s.2.2.1,
    sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) s.1 s.2.1 s.2.2.1 s.2.2.2)

/-- What the last point leaves in output 13. -/
def lastOut (c : Dev nD) (t : Fin cfg0.N) (hc0 : ¬cond0_0 (grid0.coords t)) (hc1 : cond0_1 (grid0.coords t)) (s : Carried F) : Vec F S240x96 .f32 :=
  out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) hc0 hc1 (iblk m c 0 t) (iblk m c 1 t) (iblk m c 2 t) (iblk m c 3 t) (iblk m c 4 t) (iblk m c 5 t) (iblk m c 6 t) (iblk m c 7 t) (iblk m c 8 t) (iblk m c 9 t) (iblk m c 10 t) s.1 s.2.1 s.2.2.1 s.2.2.2

/-- What the carried scratch holds after the body at position `n`: the point's case, over what the point before left. -/
def outsAt0 (c : Dev nD) : (n : ℕ) → n < cfg0.N → Carried F
  | 0, hn => stepA m c ⟨0, hn⟩ ((hcond0_0 _).mpr (by rfl)) (fun h => absurd ((hcond0_1 _).mp h) (show ¬0 % 65 = 64 by omega))
  | n + 1, hn =>
    if h1 : (n + 1) % 65 = 64 then
      stepC m c ⟨n + 1, hn⟩ (fun h => absurd ((hcond0_0 _).mp h) (show ¬(n + 1) % 65 = 0 by omega)) ((hcond0_1 _).mpr h1)
        (outsAt0 c n (Nat.lt_of_succ_lt hn))
    else
      stepB m c ⟨n + 1, hn⟩
        (fun h => absurd ((hcond0_0 _).mp h) (show ¬(n + 1) % 65 = 0 by have hN : n + 1 < 65 := lt_of_lt_of_eq hn (show cfg0.N = 65 from N_0); omega))
        (fun h => h1 ((hcond0_1 _).mp h)) (outsAt0 c n (Nat.lt_of_succ_lt hn))

/-- `outsAt0` at the first point. -/
theorem outsAt0_A (c : Dev nD) (t : Fin cfg0.N) (h0 : t.val % 65 = 0) (h1 : ¬t.val % 65 = 64) :
    outsAt0 m c t.val t.isLt = stepA m c t ((hcond0_0 t).mpr h0) (fun h => h1 ((hcond0_1 t).mp h)) := by
  obtain ⟨n, hn⟩ := t
  cases n with
  | zero => exact rfl
  | succ n =>
    have hN : n + 1 < 65 := lt_of_lt_of_eq hn (show cfg0.N = 65 from N_0)
    dsimp only at h0; omega

/-- `outsAt0` at a point of case B, over what the point before left. -/
theorem outsAt0_B (c : Dev nD) (t : Fin cfg0.N) (h0 : ¬t.val % 65 = 0) (h1 : ¬t.val % 65 = 64) :
    outsAt0 m c t.val t.isLt = stepB m c t (fun h => h0 ((hcond0_0 t).mp h)) (fun h => h1 ((hcond0_1 t).mp h))
      (outsAt0 m c (t.val - 1) (Nat.lt_of_le_of_lt (Nat.sub_le _ _) t.isLt)) := by
  obtain ⟨n, hn⟩ := t
  cases n with
  | zero => exact absurd (Nat.zero_mod _) h0
  | succ n => exact (dif_neg h1).trans rfl

/-- `outsAt0` at the last point, over what the point before left. -/
theorem outsAt0_C (c : Dev nD) (t : Fin cfg0.N) (h0 : ¬t.val % 65 = 0) (h1 : t.val % 65 = 64) :
    outsAt0 m c t.val t.isLt = stepC m c t (fun h => h0 ((hcond0_0 t).mp h)) ((hcond0_1 t).mpr h1)
      (outsAt0 m c (t.val - 1) (Nat.lt_of_le_of_lt (Nat.sub_le _ _) t.isLt)) := by
  obtain ⟨n, hn⟩ := t
  cases n with
  | zero => exact absurd (Nat.zero_mod _) h0
  | succ n => exact (dif_pos h1).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2) ∗ (∃ d, owns (c : Thread nD τ) scM0_4 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2.1) ∗ owns (c : Thread nD τ) scM0_3 fullShare ((outsAt0 m c n hn).2.2.2) ∗ (∃ d, owns (c : Thread nD τ) scM0_4 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2.1) ∗ owns (c : Thread nD τ) scM0_3 fullShare ((outsAt0 m c (n - 1) (by omega)).2.2.2) ∗ (∃ d, owns (c : Thread nD τ) scM0_4 fullShare d)) ∗ (∃ r, prngReg c r)) := by
  cases n with
  | zero => exact absurd rfl hz
  | succ n => rfl

/-! ## The pipeline's proof data -/

/-- The output windows, of which the proof data name nothing: 11 and 12 are forgotten, 13 is held to `Rl`. -/
def forgets0 : Fin 14 → Bool := fun w => w.val == 11 || w.val == 12 || w.val == 13

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := PhiS m c t.val (Nat.le_of_lt_succ t.isLt)
  q _ := fullShare
  owed _ := 0

/-- What is said of the output windows: window 13 holds, after the last point, what that point leaves. -/
def Rl (c : Dev nD) (w : Fin cfg0.W) (t : Fin cfg0.N) (X : (cfg0.win w).block.Idx → Elt F (cfg0.win w).elt) : Prop :=
  match w, X with
  | ⟨13, _⟩, X => ∀ (h0 : ¬t.val % 65 = 0) (h1 : t.val % 65 = 64),
      X = lastOut m c t (fun h => h0 ((hcond0_0 t).mp h)) ((hcond0_1 t).mpr h1)
        (outsAt0 m c (t.val - 1) (Nat.lt_of_le_of_lt (Nat.sub_le _ _) t.isLt))
  | _, _ => True

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ Y, ⌜((dats m 0 c).toRRel forgets0 (Rl m c)).Finds 11 t Y⌝ ∗ owns (c : Thread nD τ) (ms0_11 t) fullShare Y)
    ∗ (∃ Y, ⌜((dats m 0 c).toRRel forgets0 (Rl m c)).Finds 12 t Y⌝ ∗ owns (c : Thread nD τ) (ms0_12 t) fullShare Y)
    ∗ (∃ Y, ⌜((dats m 0 c).toRRel forgets0 (Rl m c)).Finds 13 t Y⌝ ∗ owns (c : Thread nD τ) (ms0_13 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) t.isLt from rfl, PhiS_succ]
  have hN : t.val < 65 := lt_of_lt_of_eq t.isLt (show cfg0.N = 65 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  by_cases h0 : t.val % 65 = 0
  · by_cases h1 : t.val % 65 = 64
    · exfalso; omega
    · by_cases hz : t.val = 0
      · rw [PhiS_castSucc m c t, PhiS_zero m c _ _ hz, PhiA0_eq]
        rw [outsAt0_A m c t h0 h1]
        unfold stepA sout0_A_0 sout0_A_1 sout0_A_2 sout0_A_3; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, -, H13⟩⟩
        iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, ⟨%y11, H11⟩, ⟨%y12, H12⟩, ⟨%y13, H13⟩, ⟨%es0, HS0⟩, ⟨%es1, HS1⟩, ⟨%es2, HS2⟩, ⟨%es3, HS3⟩, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _)
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · iexists y11; isplitr; · ipureintro; trivial
          iexact H11
        isplitl [H12]
        · iexists y12; isplitr; · ipureintro; trivial
          iexact H12
        iexists y13; isplitr
        · ipureintro; intro _ h1'; exact absurd h1' h1
        iexact H13
      · exfalso; have hN : t.val < 65 := lt_of_lt_of_eq t.isLt (show cfg0.N = 65 from N_0); omega
  · by_cases h1 : t.val % 65 = 64
    · by_cases hz : t.val = 0
      · exfalso; have hN : t.val < 65 := lt_of_lt_of_eq t.isLt (show cfg0.N = 65 from N_0); omega
      · rw [PhiS_castSucc m c t, PhiS_pos m c _ _ hz]
        rw [outsAt0_C m c t h0 h1]
        unfold stepC sout0_C_0 sout0_C_3; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, -, H13⟩⟩
        iapply ((kernelRun0_C c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, ⟨%y11, H11⟩, ⟨%y12, H12⟩, ⟨%es13, H13⟩, ⟨%es0, HS0⟩, HS1, HS2, ⟨%es3, HS3⟩, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexact HS2
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _)
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · iexists y11; isplitr; · ipureintro; trivial
          iexact H11
        isplitl [H12]
        · iexists y12; isplitr; · ipureintro; trivial
          iexact H12
        iexists (lastOut m c t (fun h => h0 ((hcond0_0 t).mp h)) ((hcond0_1 t).mpr h1) (outsAt0 m c (t.val - 1) (Nat.lt_of_le_of_lt (Nat.sub_le _ _) t.isLt))); isplitr
        swap
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _)
        ipureintro; intro _ _; rfl
    · by_cases hz : t.val = 0
      · exfalso; have hN : t.val < 65 := lt_of_lt_of_eq t.isLt (show cfg0.N = 65 from N_0); omega
      · rw [PhiS_castSucc m c t, PhiS_pos m c _ _ hz]
        rw [outsAt0_B m c t h0 h1]
        unfold stepB sout0_B_0 sout0_B_3; (try dsimp only)
        iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, -, H11⟩, ⟨%d12, -, H12⟩, ⟨%d13, -, H13⟩⟩
        iapply ((kernelRun0_B c (grid0.coords t) _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexists _; iexact H11
        isplitl [H12]; · iexists _; iexact H12
        isplitl [H13]; · iexists _; iexact H13
        isplitl [HS0]; · iexact HS0
        isplitl [HS1]; · iexact HS1
        isplitl [HS2]; · iexact HS2
        isplitl [HS3]; · iexact HS3
        isplitl [HS4]; · iexact HS4
        iintro ⟨H0, H1, H2, H3, H4, H5, H6, H7, H8, H9, H10, ⟨%y11, H11⟩, ⟨%y12, H12⟩, ⟨%y13, H13⟩, ⟨%es0, HS0⟩, HS1, HS2, ⟨%es3, HS3⟩, HS4⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · iexact HS1
            isplitl [HS2]
            · iexact HS2
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _)
            iexact HS4
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]
        · iexists y11; isplitr; · ipureintro; trivial
          iexact H11
        isplitl [H12]
        · iexists y12; isplitr; · ipureintro; trivial
          iexact H12
        iexists y13; isplitr
        · ipureintro; intro _ h1'; exact absurd h1' h1
        iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : Pipeline.BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 65 := N_0; omega)

/-! ## The run and the frame -/

set_option maxHeartbeats 4000000 in
-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRRel forgets0 (Rl m c)) (V m)) r ∧ r.2.sem = fun _ => 0) :=
  Pipeline.RDat.θ_run_frame_track (Q' := _) cfgs (0 : Fin 1) launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, the output arrays as `Rl` says of the windows,
    and every other unscoped buffer at its region-entry contents. -/
theorem run_main : θ_run defs (onTc (τ := τ) (main (F := F))) (s₀ m ρ) (Pipeline.RDat.FramePost (cfgs 0) (fun c => (dats m 0 c).toRRel forgets0 (Rl m c)) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in (cfg₁ := cfgs 0) h c 0 rfl).trans ((A_eq m c 0).trans (V_main_arg0 m c)),
      ((h c).2 main_arg1 (Pipeline.mem_restRefs_of main_arg1 (by decide) (by decide))).trans (V_main_arg1 m c),
      (Pipeline.RDat.FramePost.arr_in (cfg₁ := cfgs 0) h c 8 rfl).trans ((A_eq m c 8).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

/-- THE FRAME: `Cert.quiescent_Gru1Ideal`'s statement (Defs.lean) at any `F` — Proof.lean cites it at `Bits`:
    `theorem Cert.Proof.claim : Cert.Claim := ⟨Cert.Gru1Ideal.Gen.facts, fun m ρ _ => Cert.Gru1Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Gru1Ideal.Body

end
-- ==== Proof.Gru1Ideal.Step.lean ====
/- What one grid point of the kernel computes, as functions of what it reads: eight steps of the recurrence, and
   the gate inputs of the next eight. -/
module

public import proofs.«01_k».proof.Proof.Gru1Ideal.Frame
public import Idealize.ShloMosaic.Lib.Pipeline.ValueKit
public import Idealize.ShloMosaic.Lib.Pipeline.ReadBack
public import Idealize.ShloMosaic.Lib.ValueIdx

@[expose] public section

noncomputable section

namespace Cert.Gru1Ideal.Body

open Cert.Gru1Ideal Cert.Gru1Ideal.Gen Idealize.ShloMosaic Idealize.ShloMosaic.TcCoe Idealize.SL.Sem

variable {F : FTy → Type} [FloatOps F]

/-- The rows that step at time `x`: those of a length above `x`, and none while `x` is negative. -/
def live (x : BitVec 32) (len : Vec F S240x128 .i32) : IVec S240x128 1 :=
  andi (cmpi .slt (broadcast S240x128 x) (shapeCast S240x128 len shapeCasts_S240x128_S240x128))
    (broadcast S240x128 (Scalar.cmpi .sge x 0#32))

/-- The update gate: half the hyperbolic tangent of half the argument, and a half. -/
def update (w : Vec F S128x384 .bf16) (s0 : Vec F S1x128 .f32) (g : Vec F S1x240x384 .f32) (h : FVec F S240x128 .f32) : FVec F S240x128 .f32 :=
  addf (mulf (broadcast S240x128 (Scalar.ofBits .f32 0x3F000000#32))
    (tanh (addf (mulf (k0_pay33 h w) (broadcastTo S240x128 (shapeCast S1x128 s0 shapeCasts_S1x128_S1x128) broadcasts_S1x128_S240x128))
      (extractStridedSlice S240x128 ![0, 0] (k0_pay30 g) slices_S240x384_o0_0_S240x128))))
    (broadcast S240x128 (Scalar.ofBits .f32 0x3F000000#32))

/-- One step of the recurrence at time `x`: `len` the lengths, `w` the recurrent weights, `s0`, `s1`, `s2` the gates' scales,
    `b2` the candidate's bias, `g` the gate inputs. -/
def step (x : BitVec 32) (len : Vec F S240x128 .i32) (w : Vec F S128x384 .bf16) (s0 s1 s2 b2 : Vec F S1x128 .f32)
    (g : Vec F S1x240x384 .f32) (h : FVec F S240x128 .f32) : FVec F S240x128 .f32 :=
  select (live x len) (addf (subf h (mulf (update w s0 g h) h)) (mulf (update w s0 g h) (k0_pay32 h w g s1 s2 b2))) h

/-- The eight steps of a grid point whose first time is `x`. -/
def eight (x : BitVec 32) (len : Vec F S240x128 .i32) (w : Vec F S128x384 .bf16) (s0 s1 s2 b2 : Vec F S1x128 .f32)
    (g0 g1 g2 g3 g4 g5 g6 g7 : Vec F S1x240x384 .f32) (h : FVec F S240x128 .f32) : FVec F S240x128 .f32 :=
  step (Scalar.addi x 7#32) len w s0 s1 s2 b2 g7 (step (Scalar.addi x 6#32) len w s0 s1 s2 b2 g6
    (step (Scalar.addi x 5#32) len w s0 s1 s2 b2 g5 (step (Scalar.addi x 4#32) len w s0 s1 s2 b2 g4
      (step (Scalar.addi x 3#32) len w s0 s1 s2 b2 g3 (step (Scalar.addi x 2#32) len w s0 s1 s2 b2 g2
        (step (Scalar.addi x 1#32) len w s0 s1 s2 b2 g1 (step (Scalar.addi x 0#32) len w s0 s1 s2 b2 g0 h)))))))

/-- The first time of grid point `i`: eight times `i - 1`. -/
def time0 (i : grid0.Coords) : BitVec 32 := Scalar.muli (Scalar.subi (BitVec.ofNat 32 (i 0).val) 1#32) 8#32

theorem hz2 : (![0, 0] : Fin 2 → ℕ) = fun _ => 0 := funext fun a => by fin_cases a <;> rfl

theorem hz3 : (![0, 0, 0] : Fin 3 → ℕ) = fun _ => 0 := funext fun a => by fin_cases a <;> rfl

/-- A middle or last point's eight steps from the state `h`: the lengths, the recurrent weights `W`, the scales `s`,
    the biases `b` and the gate inputs `G`. -/
def point (i : grid0.Coords) (len : Vec F S240x128 .i32) (W : Vec F S128x384 .bf16) (s b : Vec F S3x128 .f32)
    (G : Vec F S8x240x384 .f32) (h : Vec F S240x128 .f32) : FVec F S240x128 .f32 :=
  eight (time0 i) len W
    (View.ld s (Rect.unit (s := S3x128) ![0, 0] S1x128.size inb_S3x128_S1x128_0_0))
    (View.ld s (Rect.unit (s := S3x128) ![1, 0] S1x128.size inb_S3x128_S1x128_1_0))
    (View.ld s (Rect.unit (s := S3x128) ![2, 0] S1x128.size inb_S3x128_S1x128_2_0))
    (View.ld b (Rect.unit (s := S3x128) ![2, 0] S1x128.size inb_S3x128_S1x128_2_0))
    (View.ld G (Rect.unit (s := S8x240x384) ![0, 0, 0] S1x240x384.size inb_S8x240x384_S1x240x384_0_0_0))
    (View.ld G (Rect.unit (s := S8x240x384) ![1, 0, 0] S1x240x384.size inb_S8x240x384_S1x240x384_1_0_0))
    (View.ld G (Rect.unit (s := S8x240x384) ![2, 0, 0] S1x240x384.size inb_S8x240x384_S1x240x384_2_0_0))
    (View.ld G (Rect.unit (s := S8x240x384) ![3, 0, 0] S1x240x384.size inb_S8x240x384_S1x240x384_3_0_0))
    (View.ld G (Rect.unit (s := S8x240x384) ![4, 0, 0] S1x240x384.size inb_S8x240x384_S1x240x384_4_0_0))
    (View.ld G (Rect.unit (s := S8x240x384) ![5, 0, 0] S1x240x384.size inb_S8x240x384_S1x240x384_5_0_0))
    (View.ld G (Rect.unit (s := S8x240x384) ![6, 0, 0] S1x240x384.size inb_S8x240x384_S1x240x384_6_0_0))
    (View.ld G (Rect.unit (s := S8x240x384) ![7, 0, 0] S1x240x384.size inb_S8x240x384_S1x240x384_7_0_0))
    h

/-- The gate inputs of a block of eight steps: plane `t` is the block's plane `t`, its four word planes read as pairs of
    bf16, times the input weights, scaled and shifted. -/
def gates (X : Vec F S8x4x120x128 .i32) (W : Vec F S512x384 .bf16) (s b : Vec F S1x384 .f32) : Vec F S8x240x384 .f32 :=
  fun y => k0_pay38 (fun z : S1x1x120x128.Idx => X (ix4 (y 0) 0 (z 2) (z 3))) (fun z : S1x1x120x128.Idx => X (ix4 (y 0) 1 (z 2) (z 3)))
    (fun z : S1x1x120x128.Idx => X (ix4 (y 0) 2 (z 2) (z 3))) (fun z : S1x1x120x128.Idx => X (ix4 (y 0) 3 (z 2) (z 3))) W s b (ix2 (y 1) (y 2))

/-- Word plane `k` of a block's time `t`, as loaded. -/
theorem words_piece (X : Vec F S8x4x120x128 .i32) (t : Fin 8) (k : Fin 4)
    (h : ∀ a, (![t.val, k.val, 0, 0] : Fin 4 → ℕ) a + S1x1x120x128.size a ≤ S8x4x120x128.size a) :
    View.ld X (Rect.unit (s := S8x4x120x128) ![t.val, k.val, 0, 0] S1x1x120x128.size h) = fun z : S1x1x120x128.Idx => X (ix4 t k (z 2) (z 3)) := by
  funext z
  show X _ = X _
  congr 1
  funext a
  apply Fin.ext
  have h0 : (z 0).val = 0 := by have := (z 0).isLt; change (z 0).val < 1 at this; omega
  have h1 : (z 1).val = 0 := by have := (z 1).isLt; change (z 1).val < 1 at this; omega
  fin_cases a
  · show t.val + 1 * (z 0).val = t.val
    omega
  · show k.val + 1 * (z 1).val = k.val
    omega
  · show 0 + 1 * (z 2).val = (z 2).val
    omega
  · show 0 + 1 * (z 3).val = (z 3).val
    omega

theorem gates_piece (X : Vec F S8x4x120x128 .i32) (W : Vec F S512x384 .bf16) (s b : Vec F S1x384 .f32) (t : Fin 8)
    (h0 : ∀ a, (![t.val, 0, 0, 0] : Fin 4 → ℕ) a + S1x1x120x128.size a ≤ S8x4x120x128.size a)
    (h1 : ∀ a, (![t.val, 1, 0, 0] : Fin 4 → ℕ) a + S1x1x120x128.size a ≤ S8x4x120x128.size a)
    (h2 : ∀ a, (![t.val, 2, 0, 0] : Fin 4 → ℕ) a + S1x1x120x128.size a ≤ S8x4x120x128.size a)
    (h3 : ∀ a, (![t.val, 3, 0, 0] : Fin 4 → ℕ) a + S1x1x120x128.size a ≤ S8x4x120x128.size a)
    (h' : ∀ a, (![t.val, 0, 0] : Fin 3 → ℕ) a + S1x240x384.size a ≤ S8x240x384.size a) (x : S1x240x384.Idx) :
    k0_pay39 (k0_pay38 (View.ld X (Rect.unit (s := S8x4x120x128) ![t.val, 0, 0, 0] S1x1x120x128.size h0))
        (View.ld X (Rect.unit (s := S8x4x120x128) ![t.val, 1, 0, 0] S1x1x120x128.size h1))
        (View.ld X (Rect.unit (s := S8x4x120x128) ![t.val, 2, 0, 0] S1x1x120x128.size h2))
        (View.ld X (Rect.unit (s := S8x4x120x128) ![t.val, 3, 0, 0] S1x1x120x128.size h3)) W s b) x
      = gates X W s b ((Rect.unit (s := S8x240x384) ![t.val, 0, 0] S1x240x384.size h').emb x) := by
  rw [show View.ld X (Rect.unit (s := S8x4x120x128) ![t.val, 0, 0, 0] S1x1x120x128.size h0) = _ from words_piece X t 0 h0,
    show View.ld X (Rect.unit (s := S8x4x120x128) ![t.val, 1, 0, 0] S1x1x120x128.size h1) = _ from words_piece X t 1 h1,
    show View.ld X (Rect.unit (s := S8x4x120x128) ![t.val, 2, 0, 0] S1x1x120x128.size h2) = _ from words_piece X t 2 h2,
    show View.ld X (Rect.unit (s := S8x4x120x128) ![t.val, 3, 0, 0] S1x1x120x128.size h3) = _ from words_piece X t 3 h3]
  have hx : (x 0).val = 0 := by have := (x 0).isLt; change (x 0).val < 1 at this; omega
  have e0 : (Rect.unit (s := S8x240x384) ![t.val, 0, 0] S1x240x384.size h').emb x 0 = t := Fin.ext (by
    show t.val + 1 * (x 0).val = t.val
    omega)
  have e1 : (Rect.unit (s := S8x240x384) ![t.val, 0, 0] S1x240x384.size h').emb x 1 = x 1 := Fin.ext (by
    show 0 + 1 * (x 1).val = (x 1).val
    omega)
  have e2 : (Rect.unit (s := S8x240x384) ![t.val, 0, 0] S1x240x384.size h').emb x 2 = x 2 := Fin.ext (by
    show 0 + 1 * (x 2).val = (x 2).val
    omega)
  unfold gates
  rw [e0, e1, e2]
  generalize k0_pay38 _ _ _ _ W s b = P
  obtain ⟨a, p, q, rfl⟩ : ∃ a p q, x = ix3 a p q := ⟨x 0, x 1, x 2, ValueIdx.eq_ix3 x⟩
  pointwise [k0_pay39]

theorem gates_loaded (arg1 : Memref sig .tc .vmem S8x4x120x128 .i32) (harg1 : arg1.IsWhole) (X : Vec F S8x4x120x128 .i32) (W : Vec F S512x384 .bf16) (s b : Vec F S1x384 .f32) (t : Fin 8)
    (h0 : ∀ a, (![t.val, 0, 0, 0] : Fin 4 → ℕ) a + S1x1x120x128.size a ≤ S8x4x120x128.size a)
    (h1 : ∀ a, (![t.val, 1, 0, 0] : Fin 4 → ℕ) a + S1x1x120x128.size a ≤ S8x4x120x128.size a)
    (h2 : ∀ a, (![t.val, 2, 0, 0] : Fin 4 → ℕ) a + S1x1x120x128.size a ≤ S8x4x120x128.size a)
    (h3 : ∀ a, (![t.val, 3, 0, 0] : Fin 4 → ℕ) a + S1x1x120x128.size a ≤ S8x4x120x128.size a)
    (h' : ∀ a, (![t.val, 0, 0] : Fin 3 → ℕ) a + S1x240x384.size a ≤ S8x240x384.size a) (x : S1x240x384.Idx) :
    k0_pay39 (k0_pay38 (View.readAt (Elt F) arg1.view (Rect.unit (s := S8x4x120x128) ![t.val, 0, 0, 0] S1x1x120x128.size h0).toLoadRect (harg1.unread X))
        (View.readAt (Elt F) arg1.view (Rect.unit (s := S8x4x120x128) ![t.val, 1, 0, 0] S1x1x120x128.size h1).toLoadRect (harg1.unread X))
        (View.readAt (Elt F) arg1.view (Rect.unit (s := S8x4x120x128) ![t.val, 2, 0, 0] S1x1x120x128.size h2).toLoadRect (harg1.unread X))
        (View.readAt (Elt F) arg1.view (Rect.unit (s := S8x4x120x128) ![t.val, 3, 0, 0] S1x1x120x128.size h3).toLoadRect (harg1.unread X)) W s b) x
      = gates X W s b ((Rect.unit (s := S8x240x384) ![t.val, 0, 0] S1x240x384.size h').emb x) := by
  simp only [View.readAt_eq_ld, Memref.IsWhole.read_unread]
  exact gates_piece X W s b t h0 h1 h2 h3 h' x

/-- The input weights as the scratch holds them: eight groups of 56 rows, each padded to 64, and each gate's 96 columns to 128. -/
def widened (w : Vec F S8x56x288 .fp8e4m3) : FVec F S512x384 .bf16 :=
  k0_pay12 (k0_pay6 w) (k0_pay7 w) (k0_pay8 w) (k0_pay9 w) (k0_pay10 w) (k0_pay11 w)

end Cert.Gru1Ideal.Body

end
-- ==== Proof.ValueGru.Cell.lean ====
/- One step of the plain GRU on extended reals, and the sums over padded rows. -/
module

public import proofs.«01_k».proof.Proof.Value.Scalar

@[expose] public section

noncomputable section

namespace Cert.Recurrence

open Idealize.ShloMosaic

section
variable (wh : Fin 96 → Fin 3 → Fin 96 → EReal) (sh bh : Fin 3 → Fin 96 → EReal)

/-- One step of the GRU whose gates have the inputs `Q`. -/
def cell (Q : Fin 3 → Fin 96 → EReal) (h : Fin 96 → EReal) (j : Fin 96) : EReal :=
  (1 - Ideal.logistic (Q 0 j + gate wh sh bh h 0 j)) * h j +
    Ideal.logistic (Q 0 j + gate wh sh bh h 0 j) *
      Ideal.tanh (Q 2 j + Ideal.logistic (Q 1 j + gate wh sh bh h 1 j) * gate wh sh bh h 2 j)

/-- The state after the first `n` steps, from zero: a step at a time from the length `len` on leaves it as it is. -/
def masked (len : BitVec 32) (Q : ℕ → Fin 3 → Fin 96 → EReal) : ℕ → Fin 96 → EReal
  | 0 => fun _ => 0
  | n + 1 => fun j => Scalar.select (IntOp.cmpi .slt (BitVec.ofNat 32 n) len) (cell wh sh bh (Q n) (masked len Q n) j) (masked len Q n j)

theorem real_cell (Q : Fin 3 → Fin 96 → EReal) (h : Fin 96 → EReal) (hh : ∀ j, ∃ r : ℝ, h j = r) (j : Fin 96) :
    ∃ r : ℝ, cell wh sh bh Q h j = r := by
  unfold cell
  obtain ⟨y, hy⟩ := hh j
  obtain ⟨u, hu⟩ := real_logistic (Q 0 j + gate wh sh bh h 0 j)
  obtain ⟨n, hn⟩ := real_tanh (Q 2 j + Ideal.logistic (Q 1 j + gate wh sh bh h 1 j) * gate wh sh bh h 2 j)
  rw [hu, hn, hy]
  exact ⟨(1 - u) * y + u * n, by push_cast; rfl⟩

theorem real_masked (len : BitVec 32) (Q : ℕ → Fin 3 → Fin 96 → EReal) (n : ℕ) (j : Fin 96) :
    ∃ r : ℝ, masked wh sh bh len Q n j = r := by
  induction n generalizing j with
  | zero => exact ⟨0, rfl⟩
  | succ n ih =>
    show ∃ r : ℝ, Scalar.select _ _ _ = _
    unfold Scalar.select
    split
    · exact real_cell wh sh bh _ _ ih j
    · exact ih j

/-- The step as the kernel computes it, from the products `P` with the input weights: the scales and biases of the two
    sigmoids hold their halves, and the recurrent biases of these two gates are added to the first product's. -/
theorem cell_eq (c : EReal) (hc : c = ((1 / 2 : ℝ) : EReal)) (sx bx P : Fin 3 → Fin 96 → EReal) (h : Fin 96 → EReal) (hh : ∀ j, ∃ r : ℝ, h j = r) (j : Fin 96)
    (hw : ∀ k, ∃ r : ℝ, wh k 2 j = r) (hs : ∃ r : ℝ, sh 2 j = r) (hb : ∃ r : ℝ, bh 2 j = r) :
    h j - (c * Ideal.tanh ((∑ k, h k * wh k 0 j) * (sh 0 j * c) + (P 0 j * (sx 0 j * c) + (bx 0 j + bh 0 j * 1) * c)) + c) * h j
      + (c * Ideal.tanh ((∑ k, h k * wh k 0 j) * (sh 0 j * c) + (P 0 j * (sx 0 j * c) + (bx 0 j + bh 0 j * 1) * c)) + c) *
        Ideal.tanh ((P 2 j * (sx 2 j * 1) + (bx 2 j + bh 2 j * 0) * 1)
          + ((∑ k, h k * wh k 2 j) * (sh 2 j * c) + bh 2 j * c)
          + Ideal.tanh ((∑ k, h k * wh k 1 j) * (sh 1 j * c) + (P 1 j * (sx 1 j * c) + (bx 1 j + bh 1 j * 1) * c))
            * ((∑ k, h k * wh k 2 j) * (sh 2 j * c) + bh 2 j * c))
      = cell wh sh bh (fun g j => P g j * sx g j + bx g j) h j := by
  have e := next_eq (fun k g j => if k = 0 then P g j else 0) wh sx bx sh bh c hc 1 ⟨1, rfl⟩ (fun _ => 1) h hh j hw hs hb
  simp only [one_mul, Finset.sum_ite_eq', Finset.mem_univ, if_true] at e
  refine e.trans ?_
  unfold next cell
  have q : ∀ g, gate (fun k g j => if k = 0 then P g j else 0) sx bx (fun _ => 1) g j = P g j * sx g j + bx g j := by
    intro g
    unfold gate
    simp only [one_mul, Finset.sum_ite_eq', Finset.mem_univ, if_true]
  simp only [q, one_mul]

end

/-! ## Channels among padded rows -/

/-- The padded row of channel `n`: channel `4c + j` of field `f` lies in row `c` of group `4f + j`, of 64 rows each. -/
def rowOf (n : Fin 448) : Fin 512 := ⟨64 * (4 * (n.val / 224) + n.val % 4) + n.val % 224 / 4, by omega⟩

theorem rowOf_injective : Function.Injective rowOf := by
  intro a b h
  have e : 64 * (4 * (a.val / 224) + a.val % 4) + a.val % 224 / 4 = 64 * (4 * (b.val / 224) + b.val % 4) + b.val % 224 / 4 := congrArg Fin.val h
  have ha : a.val % 224 / 4 < 56 := by omega
  have hb : b.val % 224 / 4 < 56 := by omega
  have e1 : a.val % 224 / 4 = b.val % 224 / 4 := by omega
  have e2 : 4 * (a.val / 224) + a.val % 4 = 4 * (b.val / 224) + b.val % 4 := by omega
  have e3 : a.val % 4 = b.val % 4 := by omega
  have e4 : a.val / 224 = b.val / 224 := by omega
  have fa : a.val % 224 % 4 = a.val % 4 := Nat.mod_mod_of_dvd _ (by decide)
  have fb : b.val % 224 % 4 = b.val % 4 := Nat.mod_mod_of_dvd _ (by decide)
  apply Fin.ext
  omega

theorem row_of_parts (f j c : ℕ) (hj : j < 4) (hc : c < 56) :
    64 * (4 * ((224 * f + (4 * c + j)) / 224) + (224 * f + (4 * c + j)) % 4) + (224 * f + (4 * c + j)) % 224 / 4 = 64 * (4 * f + j) + c := by
  have e1 : (224 * f + (4 * c + j)) / 224 = f := by omega
  have e2 : (224 * f + (4 * c + j)) % 224 = 4 * c + j := by omega
  have e3 : (224 * f + (4 * c + j)) % 4 = j := by omega
  rw [e1, e2, e3]
  omega

/-- A sum over the 512 padded rows that vanishes in the eight last rows of each group is the sum over the channels. -/
theorem sum_rows (f : Fin 512 → EReal) (hf : ∀ m : Fin 512, 56 ≤ m.val % 64 → f m = 0) : ∑ m, f m = ∑ n, f (rowOf n) := by
  symm
  refine Fintype.sum_of_injective rowOf rowOf_injective _ _ (fun m hm => ?_) (fun _ => rfl)
  apply hf
  by_contra h
  apply hm
  have hm := m.isLt
  refine ⟨⟨224 * (m.val / 64 / 4) + (4 * (m.val % 64) + m.val / 64 % 4), by omega⟩, Fin.ext ?_⟩
  refine (row_of_parts (m.val / 64 / 4) (m.val / 64 % 4) (m.val % 64) (by omega) (by omega)).trans ?_
  omega

/-- The bf16 that half `p % 2` of a word holds, as a value. -/
def halfWord (w : BitVec 32) (p : ℕ) : EReal := Ideal.ofBits .bf16 (w.extractLsb' (16 * (p % 2)) 16)

end Cert.Recurrence

end
-- ==== Proof.ValueGru.Kernel.lean ====
/- The kernel's steps, gate inputs and padded weights over the extended reals, read at an index. -/
module

public import proofs.«01_k».proof.Proof.Gru1Ideal.Step
public import proofs.«01_k».proof.Proof.ValueGru.Cell
public import Idealize.ShloMosaic.Lib.BitcastPair

@[expose] public section

noncomputable section

namespace Cert.Gru1Ideal.Body

open Cert.Gru1Ideal Cert.Gru1Ideal.Gen Idealize.ShloMosaic Idealize.ShloMosaic.TcCoe Idealize.SL.Sem

/-- One half, as the kernel spells it. -/
abbrev half : EReal := Ideal.ofBits .f32 0x3F000000#32

/-! ## One step -/

theorem sge_ofNat : ∀ T : Fin 512, Scalar.cmpi .sge (BitVec.ofNat 32 T.val) 0#32 = 1#1 := by decide +kernel

/-- At time `T` the live rows are those of a length above `T`. -/
theorem live_apply (T : Fin 512) (len : Vec Ideal S240x128 .i32) (b : Fin 240) (l : Fin 128) :
    live (BitVec.ofNat 32 T.val) len (ix2 b l) = IntOp.cmpi .slt (BitVec.ofNat 32 T.val) (len (ix2 b l)) := by
  pointwise [live]
  rw [sge_ofNat]
  generalize IntOp.cmpi .slt _ _ = z
  revert z
  decide

/-- Before the first time no row is live. -/
theorem live_neg (x : BitVec 32) (hx : Scalar.cmpi .sge x 0#32 = 0#1) (len : Vec Ideal S240x128 .i32) (b : Fin 240) (l : Fin 128) :
    live x len (ix2 b l) = 0#1 := by
  pointwise [live]
  rw [hx]
  generalize IntOp.cmpi .slt _ _ = z
  revert z
  decide

theorem step_apply (x : BitVec 32) (len : Vec Ideal S240x128 .i32) (w : Vec Ideal S128x384 .bf16) (s0 s1 s2 b2 : Vec Ideal S1x128 .f32)
    (g : Vec Ideal S1x240x384 .f32) (h : FVec Ideal S240x128 .f32) (b : Fin 240) (l : Fin 128) :
    step x len w s0 s1 s2 b2 g h (ix2 b l) = Scalar.select (live x len (ix2 b l))
      (h (ix2 b l) - (half * Ideal.tanh ((∑ k, h (ix2 b k) * w (ix2 k ⟨l.val, by omega⟩)) * s0 (ix2 0 l)
              + g (ix3 0 b ⟨l.val, by omega⟩)) + half) * h (ix2 b l)
        + (half * Ideal.tanh ((∑ k, h (ix2 b k) * w (ix2 k ⟨l.val, by omega⟩)) * s0 (ix2 0 l)
              + g (ix3 0 b ⟨l.val, by omega⟩)) + half) *
          Ideal.tanh (g (ix3 0 b ⟨256 + l.val, by omega⟩) + ((∑ k, h (ix2 b k) * w (ix2 k ⟨256 + l.val, by omega⟩)) * s2 (ix2 0 l) + b2 (ix2 0 l))
            + Ideal.tanh ((∑ k, h (ix2 b k) * w (ix2 k ⟨128 + l.val, by omega⟩)) * s1 (ix2 0 l) + g (ix3 0 b ⟨128 + l.val, by omega⟩))
              * ((∑ k, h (ix2 b k) * w (ix2 k ⟨256 + l.val, by omega⟩)) * s2 (ix2 0 l) + b2 (ix2 0 l))))
      (h (ix2 b l)) := by
  unfold step update
  generalize live x len = a
  pointwise [k0_pay30, k0_pay31, k0_pay32, k0_pay33]

/-- While no row is live, a zero state stays zero. -/
theorem step_zero (x : BitVec 32) (hx : Scalar.cmpi .sge x 0#32 = 0#1) (len : Vec Ideal S240x128 .i32) (w : Vec Ideal S128x384 .bf16)
    (s0 s1 s2 b2 : Vec Ideal S1x128 .f32) (g : Vec Ideal S1x240x384 .f32) (h : FVec Ideal S240x128 .f32) (hh : ∀ (p : Fin 240) (l : Fin 128), h (ix2 p l) = 0) (p : Fin 240) (l : Fin 128) :
    step x len w s0 s1 s2 b2 g h (ix2 p l) = 0 := by
  rw [step_apply, live_neg x hx, hh]
  simp [Scalar.select]

/-! ## Gate inputs -/

/-- Row `p` of a word plane read as pairs of bf16 is half `p % 2` of the words of row `p / 2`. -/
theorem halves_apply (x : Vec Ideal S1x1x120x128 .i32) (p : Fin 240) (l : Fin 128) :
    (bitcastToFloat .bf16 (bitcast S240x128 16 (shapeCast S120x128 x shapeCasts_S1x1x120x128_S120x128) bitcasts_S120x128_w32_S240x128_w16) : FVec Ideal S240x128 .bf16) (ix2 p l)
      = Recurrence.halfWord (x (ix4 0 0 ⟨p.val / 2, by omega⟩ l)) p.val := by
  rw [bitcastToFloat_apply, bitcast_32_16]
  unfold Recurrence.halfWord
  show Ideal.ofBits .bf16 _ = Ideal.ofBits .bf16 _
  have hr : S240x128.row (ix2 p l) = p.val := rfl
  have hi : ∀ h, (bitcasts_S120x128_w32_S240x128_w16 : S120x128.Bitcasts 32 S240x128 16).srcIdx (ix2 p l) (S240x128.row (ix2 p l) / 2) h
      = ix2 ⟨p.val / 2, by omega⟩ l := by
    intro h
    funext a; apply Fin.ext
    match a with
    | ⟨0, _⟩ => exact Shape.Bitcasts.srcIdx_row _ _ _ _ _ rfl
    | ⟨1, _⟩ => exact Shape.Bitcasts.srcIdx_other _ _ _ _ _ (by show ¬ (1 + 2 = 2); decide)
  rw [hi, hr]
  congr 2
  pointwise

theorem gates_apply (X : Vec Ideal S8x4x120x128 .i32) (W : Vec Ideal S512x384 .bf16) (s b : Vec Ideal S1x384 .f32) (k : Fin 8) (p : Fin 240) (c : Fin 384) :
    gates X W s b (ix3 k p c) = (∑ x : Fin 512, Recurrence.halfWord (X (ix4 k ⟨x.val / 128, by omega⟩ ⟨p.val / 2, by omega⟩ ⟨x.val % 128, by omega⟩)) p.val * W (ix2 x c)) * s (ix2 0 c) + b (ix2 0 c) := by
  have h := fun f : Fin 4 => halves_apply (fun z : S1x1x120x128.Idx => X (ix4 k f (z 2) (z 3)))
  unfold gates k0_pay38
  have h0 := h 0
  have h1 := h 1
  have h2 := h 2
  have h3 := h 3
  clear h
  show (addf (mulf (matmul dot_S240x512_S512x384_S240x384_1_0_0_1_n_n none (concatenate S240x512 1
      [⟨S240x128, bitcastToFloat .bf16 (bitcast S240x128 16 (shapeCast S120x128 (fun z : S1x1x120x128.Idx => X (ix4 k 0 (z 2) (z 3))) shapeCasts_S1x1x120x128_S120x128) bitcasts_S120x128_w32_S240x128_w16)⟩,
       ⟨S240x128, bitcastToFloat .bf16 (bitcast S240x128 16 (shapeCast S120x128 (fun z : S1x1x120x128.Idx => X (ix4 k 1 (z 2) (z 3))) shapeCasts_S1x1x120x128_S120x128) bitcasts_S120x128_w32_S240x128_w16)⟩,
       ⟨S240x128, bitcastToFloat .bf16 (bitcast S240x128 16 (shapeCast S120x128 (fun z : S1x1x120x128.Idx => X (ix4 k 2 (z 2) (z 3))) shapeCasts_S1x1x120x128_S120x128) bitcasts_S120x128_w32_S240x128_w16)⟩,
       ⟨S240x128, bitcastToFloat .bf16 (bitcast S240x128 16 (shapeCast S120x128 (fun z : S1x1x120x128.Idx => X (ix4 k 3 (z 2) (z 3))) shapeCasts_S1x1x120x128_S120x128) bitcasts_S120x128_w32_S240x128_w16)⟩]
      concatenates_S240x128_S240x128_S240x128_S240x128_S240x512_d1) W _) _) _ : FVec Ideal S240x384 .f32) (ix2 p c) = _
  generalize (bitcastToFloat .bf16 (bitcast S240x128 16 (shapeCast S120x128 (fun z : S1x1x120x128.Idx => X (ix4 k 0 (z 2) (z 3))) shapeCasts_S1x1x120x128_S120x128) bitcasts_S120x128_w32_S240x128_w16) : FVec Ideal S240x128 .bf16) = A0 at h0 ⊢
  generalize (bitcastToFloat .bf16 (bitcast S240x128 16 (shapeCast S120x128 (fun z : S1x1x120x128.Idx => X (ix4 k 1 (z 2) (z 3))) shapeCasts_S1x1x120x128_S120x128) bitcasts_S120x128_w32_S240x128_w16) : FVec Ideal S240x128 .bf16) = A1 at h1 ⊢
  generalize (bitcastToFloat .bf16 (bitcast S240x128 16 (shapeCast S120x128 (fun z : S1x1x120x128.Idx => X (ix4 k 2 (z 2) (z 3))) shapeCasts_S1x1x120x128_S120x128) bitcasts_S120x128_w32_S240x128_w16) : FVec Ideal S240x128 .bf16) = A2 at h2 ⊢
  generalize (bitcastToFloat .bf16 (bitcast S240x128 16 (shapeCast S120x128 (fun z : S1x1x120x128.Idx => X (ix4 k 3 (z 2) (z 3))) shapeCasts_S1x1x120x128_S120x128) bitcasts_S120x128_w32_S240x128_w16) : FVec Ideal S240x128 .bf16) = A3 at h3 ⊢
  pointwise
  have e : ∀ (f f' : Fin 4) (l l' : Fin 128), f.val = f'.val → l.val = l'.val →
      Recurrence.halfWord (X (ix4 k f ⟨p.val / 2, by omega⟩ l)) p.val = Recurrence.halfWord (X (ix4 k f' ⟨p.val / 2, by omega⟩ l')) p.val := by
    intro f f' l l' hf hl
    rw [Fin.ext hf, Fin.ext hl]
  congr 2
  refine Finset.sum_congr rfl fun x _ => ?_
  congr 1
  by_cases a0 : x.val < 128
  · rw [dif_pos a0]
    exact (h0 p _).trans (e 0 _ _ _ (show 0 = x.val / 128 by omega) (show x.val = x.val % 128 by omega))
  rw [dif_neg a0]
  by_cases a1 : x.val - 128 < 128
  · rw [dif_pos a1]
    exact (h1 p _).trans (e 1 _ _ _ (show 1 = x.val / 128 by omega) (show x.val - 128 = x.val % 128 by omega))
  rw [dif_neg a1]
  by_cases a2 : x.val - 128 - 128 < 128
  · rw [dif_pos a2]
    exact (h2 p _).trans (e 2 _ _ _ (show 2 = x.val / 128 by omega) (show x.val - 128 - 128 = x.val % 128 by omega))
  rw [dif_neg a2]
  exact (h3 p _).trans (e 3 _ _ _ (show 3 = x.val / 128 by omega) (show x.val - 128 - 128 - 128 = x.val % 128 by omega))

/-! ## Weights -/

/-- Plane `e` of the weights over eight zero rows, as the kernel lays it out. -/
def plane64 (X : Vec Ideal S8x56x288 .fp8e4m3) (e : ℕ) (h : S8x56x288.Slices ![e, 0, 0] S1x56x288) : FVec Ideal S64x288 .bf16 :=
  concatenate S64x288 0 [⟨S56x288, shapeCast S56x288 (extractStridedSlice S1x56x288 ![e, 0, 0] (k0_pay6 X) h) shapeCasts_S1x56x288_S56x288⟩,
    ⟨S8x288, broadcast S8x288 (Scalar.sitofp .bf16 0#32 : Ideal .bf16)⟩] concatenates_S56x288_S8x288_S64x288_d0

theorem plane64_apply (X : Vec Ideal S8x56x288 .fp8e4m3) (e : ℕ) (h : S8x56x288.Slices ![e, 0, 0] S1x56x288) (he : e < 8) (r : Fin 64) (d : Fin 288) :
    plane64 X e h (ix2 r d) = if hr : r.val < 56 then X (ix3 ⟨e, he⟩ ⟨r.val, hr⟩ d) else 0 := by
  pointwise [plane64, k0_pay6]
  by_cases hr : r.val < 56
  · rw [dif_pos hr, dif_pos hr]
  · rw [dif_neg hr, dif_neg hr]
    simp

/-- The eight planes one above another. -/
def stacked (X : Vec Ideal S8x56x288 .fp8e4m3) : FVec Ideal S512x288 .bf16 :=
  concatenate S512x288 0 [⟨S64x288, plane64 X 0 slices_S8x56x288_o0_0_0_S1x56x288⟩, ⟨S64x288, plane64 X 1 slices_S8x56x288_o1_0_0_S1x56x288⟩,
    ⟨S64x288, plane64 X 2 slices_S8x56x288_o2_0_0_S1x56x288⟩, ⟨S64x288, plane64 X 3 slices_S8x56x288_o3_0_0_S1x56x288⟩,
    ⟨S64x288, plane64 X 4 slices_S8x56x288_o4_0_0_S1x56x288⟩, ⟨S64x288, plane64 X 5 slices_S8x56x288_o5_0_0_S1x56x288⟩,
    ⟨S64x288, plane64 X 6 slices_S8x56x288_o6_0_0_S1x56x288⟩, ⟨S64x288, plane64 X 7 slices_S8x56x288_o7_0_0_S1x56x288⟩]
    concatenates_S64x288_S64x288_S64x288_S64x288_S64x288_S64x288_S64x288_S64x288_S512x288_d0

theorem stacked_apply (X : Vec Ideal S8x56x288 .fp8e4m3) (m : Fin 512) (d : Fin 288) :
    stacked X (ix2 m d) = if hm : m.val % 64 < 56 then X (ix3 ⟨m.val / 64, by omega⟩ ⟨m.val % 64, hm⟩ d) else 0 := by
  have key : ∀ (e : ℕ) (h : S8x56x288.Slices ![e, 0, 0] S1x56x288) (he : e < 8) (r : Fin 64), m.val = 64 * e + r.val →
      plane64 X e h (ix2 r d) = if hm : m.val % 64 < 56 then X (ix3 ⟨m.val / 64, by omega⟩ ⟨m.val % 64, hm⟩ d) else 0 := by
    intro e h he r hr
    rw [plane64_apply X e h he]
    have h1 : m.val % 64 = r.val := by omega
    have h2 : m.val / 64 = e := by omega
    simp only [h1, h2]
  unfold stacked
  have k0 := fun r => key 0 slices_S8x56x288_o0_0_0_S1x56x288 (by omega) r
  have k1 := fun r => key 1 slices_S8x56x288_o1_0_0_S1x56x288 (by omega) r
  have k2 := fun r => key 2 slices_S8x56x288_o2_0_0_S1x56x288 (by omega) r
  have k3 := fun r => key 3 slices_S8x56x288_o3_0_0_S1x56x288 (by omega) r
  have k4 := fun r => key 4 slices_S8x56x288_o4_0_0_S1x56x288 (by omega) r
  have k5 := fun r => key 5 slices_S8x56x288_o5_0_0_S1x56x288 (by omega) r
  have k6 := fun r => key 6 slices_S8x56x288_o6_0_0_S1x56x288 (by omega) r
  have k7 := fun r => key 7 slices_S8x56x288_o7_0_0_S1x56x288 (by omega) r
  generalize plane64 X 0 _ = p0 at k0 ⊢
  generalize plane64 X 1 _ = p1 at k1 ⊢
  generalize plane64 X 2 _ = p2 at k2 ⊢
  generalize plane64 X 3 _ = p3 at k3 ⊢
  generalize plane64 X 4 _ = p4 at k4 ⊢
  generalize plane64 X 5 _ = p5 at k5 ⊢
  generalize plane64 X 6 _ = p6 at k6 ⊢
  generalize plane64 X 7 _ = p7 at k7 ⊢
  generalize (if hm : m.val % 64 < 56 then X (ix3 ⟨m.val / 64, by omega⟩ ⟨m.val % 64, hm⟩ d) else 0 : EReal) = z at *
  pointwise
  by_cases a0 : m.val < 64
  · rw [dif_pos a0]
    exact k0 _ (show m.val = 64 * 0 + (m.val) by omega)
  rw [dif_neg a0]
  by_cases a1 : m.val - 64 < 64
  · rw [dif_pos a1]
    exact k1 _ (show m.val = 64 * 1 + (m.val - 64) by omega)
  rw [dif_neg a1]
  by_cases a2 : m.val - 64 - 64 < 64
  · rw [dif_pos a2]
    exact k2 _ (show m.val = 64 * 2 + (m.val - 64 - 64) by omega)
  rw [dif_neg a2]
  by_cases a3 : m.val - 64 - 64 - 64 < 64
  · rw [dif_pos a3]
    exact k3 _ (show m.val = 64 * 3 + (m.val - 64 - 64 - 64) by omega)
  rw [dif_neg a3]
  by_cases a4 : m.val - 64 - 64 - 64 - 64 < 64
  · rw [dif_pos a4]
    exact k4 _ (show m.val = 64 * 4 + (m.val - 64 - 64 - 64 - 64) by omega)
  rw [dif_neg a4]
  by_cases a5 : m.val - 64 - 64 - 64 - 64 - 64 < 64
  · rw [dif_pos a5]
    exact k5 _ (show m.val = 64 * 5 + (m.val - 64 - 64 - 64 - 64 - 64) by omega)
  rw [dif_neg a5]
  by_cases a6 : m.val - 64 - 64 - 64 - 64 - 64 - 64 < 64
  · rw [dif_pos a6]
    exact k6 _ (show m.val = 64 * 6 + (m.val - 64 - 64 - 64 - 64 - 64 - 64) by omega)
  rw [dif_neg a6]
  exact k7 _ (show m.val = 64 * 7 + (m.val - 64 - 64 - 64 - 64 - 64 - 64 - 64) by omega)

theorem widened_apply (X : Vec Ideal S8x56x288 .fp8e4m3) (m : Fin 512) (c : Fin 384) (g : ℕ) (hg : g < 3) (j : ℕ) (hj : j < 96) (hc : c.val = 128 * g + j)
    (d : Fin 288) (hd : d.val = 96 * g + j) :
    widened X (ix2 m c) = if hm : m.val % 64 < 56 then X (ix3 ⟨m.val / 64, by omega⟩ ⟨m.val % 64, hm⟩ d) else 0 := by
  rw [← stacked_apply]
  unfold widened k0_pay12
  change shapeCast S512x384 (concatenate S512x384 1
      [⟨S512x128, concatenate S512x128 1 [⟨S512x96, extractStridedSlice S512x96 ![0, 0] (stacked X) slices_S512x288_o0_0_S512x96⟩, ⟨S512x32, broadcast S512x32 (Scalar.sitofp .bf16 0#32 : Ideal .bf16)⟩] concatenates_S512x96_S512x32_S512x128_d1⟩,
       ⟨S512x128, concatenate S512x128 1 [⟨S512x96, extractStridedSlice S512x96 ![0, 96] (stacked X) slices_S512x288_o0_96_S512x96⟩, ⟨S512x32, broadcast S512x32 (Scalar.sitofp .bf16 0#32 : Ideal .bf16)⟩] concatenates_S512x96_S512x32_S512x128_d1⟩,
       ⟨S512x128, concatenate S512x128 1 [⟨S512x96, extractStridedSlice S512x96 ![0, 192] (stacked X) slices_S512x288_o0_192_S512x96⟩, ⟨S512x32, broadcast S512x32 (Scalar.sitofp .bf16 0#32 : Ideal .bf16)⟩] concatenates_S512x96_S512x32_S512x128_d1⟩]
      concatenates_S512x128_S512x128_S512x128_S512x384_d1) shapeCasts_S512x384_S512x384 (ix2 m c) = _
  generalize stacked X = S
  have e : ∀ d' : Fin 288, d'.val = d.val → S (ix2 m d') = S (ix2 m d) := fun d' h => by rw [Fin.ext h]
  pointwise
  by_cases h0 : c.val < 128
  · rw [dif_pos h0, dif_pos (show c.val < 96 by omega)]
    exact e _ (show c.val = d.val by omega)
  rw [dif_neg h0]
  by_cases h1 : c.val - 128 < 128
  · rw [dif_pos h1, dif_pos (show c.val - 128 < 96 by omega)]
    exact e _ (show 96 + (c.val - 128) = d.val by omega)
  · rw [dif_neg h1, dif_pos (show c.val - 128 - 128 < 96 by omega)]
    exact e _ (show 192 + (c.val - 128 - 128) = d.val by omega)

/-- One gate's weights among 128 lanes. -/
theorem cell_eq (X : Vec Ideal S96x288 .fp8e4m3) (k : Fin 128) (a b : Fin 288) (h : a.val = b.val) :
    (if hk : k.val < 96 then X (ix2 ⟨k.val, hk⟩ a) else (((0#32 : BitVec 32).toInt : ℝ) : EReal))
      = if hk : k.val < 96 then X (ix2 ⟨k.val, hk⟩ b) else 0 := by
  rw [Fin.ext h, show (((0#32 : BitVec 32).toInt : ℝ) : EReal) = 0 by simp]

theorem pay18_apply (X : Vec Ideal S96x288 .fp8e4m3) (k : Fin 128) (c : Fin 384) (g : ℕ) (hg : g < 3) (j : ℕ) (hj : j < 96) (hc : c.val = 128 * g + j)
    (d : Fin 288) (hd : d.val = 96 * g + j) :
    k0_pay18 (k0_pay13 X) (k0_pay14 X) (k0_pay16 X) k0_pay17 (ix2 k c) = if hk : k.val < 96 then X (ix2 ⟨k.val, hk⟩ d) else 0 := by
  pointwise [k0_pay18, k0_pay13, k0_pay14, k0_pay15, k0_pay16, k0_pay17]
  by_cases h0 : c.val < 128
  · rw [dif_pos h0, dif_pos (show c.val < 96 by omega)]
    exact cell_eq X k ⟨c.val, by omega⟩ d (show c.val = d.val by omega)
  rw [dif_neg h0]
  by_cases h1 : c.val - 128 < 128
  · rw [dif_pos h1, dif_pos (show c.val - 128 < 96 by omega)]
    exact cell_eq X k ⟨96 + (c.val - 128), by omega⟩ d (show 96 + (c.val - 128) = d.val by omega)
  · rw [dif_neg h1, dif_pos (show c.val - 128 - 128 < 96 by omega)]
    exact cell_eq X k ⟨192 + (c.val - 128 - 128), by omega⟩ d (show 192 + (c.val - 128 - 128) = d.val by omega)

/-! ## The eight steps of a point -/

/-- Row `k` of a three-row array, as loaded. -/
theorem row_apply (s : Vec Ideal S3x128 .f32) (k : Fin 3) (h : ∀ d, ![k.val, 0] d + S1x128.size d ≤ S3x128.size d) (l : Fin 128) :
    View.ld s (Rect.unit (s := S3x128) ![k.val, 0] S1x128.size h) (ix2 0 l) = s (ix2 k l) := by
  pointwise

/-- Plane `k` of the gate inputs, as loaded. -/
theorem plane_apply (G : Vec Ideal S8x240x384 .f32) (k : Fin 8) (h : ∀ d, ![k.val, 0, 0] d + S1x240x384.size d ≤ S8x240x384.size d) (p : Fin 240) (c : Fin 384) :
    View.ld G (Rect.unit (s := S8x240x384) ![k.val, 0, 0] S1x240x384.size h) (ix3 0 p c) = G (ix3 k p c) := by
  pointwise

/-- The three gates' factors and the folds of the recurrent bias. -/
def factor (g : Fin 3) : EReal := if g = 2 then 1 else half
def fold (g : Fin 3) : EReal := if g = 2 then 0 else 1

/-- `w` holds the weights `W` gate by gate in 128 lanes each, in the first 96 rows, with zeros below. -/
def Padded (w : Vec Ideal S128x384 .bf16) (W : Fin 96 → Fin 3 → Fin 96 → EReal) : Prop :=
  ∀ (k : Fin 128) (g : Fin 3) (j : Fin 96),
    w (ix2 k ⟨128 * g.val + j.val, by omega⟩) = if hk : k.val < 96 then W ⟨k.val, hk⟩ g j else 0

theorem Padded.sum {w : Vec Ideal S128x384 .bf16} {W : Fin 96 → Fin 3 → Fin 96 → EReal} (hw : Padded w W)
    (f : Fin 128 → EReal) (g : Fin 3) (j : Fin 96) (c : Fin 384) (hc : c.val = 128 * g.val + j.val) :
    ∑ k, f k * w (ix2 k c) = ∑ k : Fin 96, f ⟨k.val, by omega⟩ * W k g j := by
  rw [show c = ⟨128 * g.val + j.val, by omega⟩ from Fin.ext hc]
  rw [Recurrence.sum_lanes]
  · apply Finset.sum_congr rfl
    intro k _
    rw [hw, dif_pos k.isLt]
  · intro k hk
    rw [hw, dif_neg (by omega), mul_zero]

/-- `w` holds the input weights `W` plane by plane in 64 rows each and gate by gate in 128 lanes each: channel `n` in row
    `rowOf n`, and zeros in the rows that pad a plane. -/
def Planes (w : Vec Ideal S512x384 .bf16) (W : Fin 448 → Fin 3 → Fin 96 → EReal) : Prop :=
  (∀ (n : Fin 448) (g : Fin 3) (j : Fin 96), w (ix2 (Recurrence.rowOf n) ⟨128 * g.val + j.val, by omega⟩) = W n g j) ∧
  ∀ (r : Fin 512) (g : Fin 3) (j : Fin 96), 56 ≤ r.val % 64 → w (ix2 r ⟨128 * g.val + j.val, by omega⟩) = 0

theorem Planes.sum {w : Vec Ideal S512x384 .bf16} {W : Fin 448 → Fin 3 → Fin 96 → EReal} (hw : Planes w W)
    (f : Fin 512 → EReal) (g : Fin 3) (j : Fin 96) :
    ∑ k, f k * w (ix2 k ⟨128 * g.val + j.val, by omega⟩) = ∑ n : Fin 448, f (Recurrence.rowOf n) * W n g j := by
  rw [Recurrence.sum_rows]
  · apply Finset.sum_congr rfl
    intro n _
    rw [hw.1]
  · intro r hr
    rw [hw.2 r g j hr, mul_zero]

section
variable (wx : Fin 448 → Fin 3 → Fin 96 → EReal) (wh : Fin 96 → Fin 3 → Fin 96 → EReal) (sx bx sh bh : Fin 3 → Fin 96 → EReal)
  (x : ℕ → Fin 240 → Fin 448 → EReal) (len : Fin 240 → BitVec 32)

/-- The gate inputs at time `t`: product, scale and biases, with the factors of the gates. -/
def input (t : ℕ) (p : Fin 240) (g : Fin 3) (j : Fin 96) : EReal :=
  (∑ n, x t p n * wx n g j) * (sx g j * factor g) + (bx g j + bh g j * fold g) * factor g

/-- The state of batch row `p` after `n` steps. -/
def after (n : ℕ) (p : Fin 240) (j : Fin 96) : EReal :=
  Recurrence.masked wh sh bh (len p) (fun t g j => (∑ n, x t p n * wx n g j) * sx g j + bx g j) n j

/-- A step at time `T` takes the state after `T` steps to the state after one more. -/
theorem step_after (hr : ∀ k j, ∃ r : ℝ, wh k 2 j = r) (hs : ∀ j, ∃ r : ℝ, sh 2 j = r) (hb : ∀ j, ∃ r : ℝ, bh 2 j = r)
    (T : ℕ) (hT : T < 512) (L : Vec Ideal S240x128 .i32) (w : Vec Ideal S128x384 .bf16) (s0 s1 s2 b2 : Vec Ideal S1x128 .f32)
    (g : Vec Ideal S1x240x384 .f32) (h : FVec Ideal S240x128 .f32)
    (hL : ∀ p l, L (ix2 p l) = len p) (hw : Padded w wh)
    (h0 : ∀ j : Fin 96, s0 (ix2 0 ⟨j.val, by omega⟩) = sh 0 j * half) (h1 : ∀ j : Fin 96, s1 (ix2 0 ⟨j.val, by omega⟩) = sh 1 j * half)
    (h2 : ∀ j : Fin 96, s2 (ix2 0 ⟨j.val, by omega⟩) = sh 2 j * half) (h3 : ∀ j : Fin 96, b2 (ix2 0 ⟨j.val, by omega⟩) = bh 2 j * half)
    (hg : ∀ p (q : Fin 3) (j : Fin 96), g (ix3 0 p ⟨128 * q.val + j.val, by omega⟩) = input wx sx bx bh x T p q j)
    (hh : ∀ p (j : Fin 96), h (ix2 p ⟨j.val, by omega⟩) = after wx wh sx bx sh bh x len T p j) (p : Fin 240) (j : Fin 96) :
    step (BitVec.ofNat 32 T) L w s0 s1 s2 b2 g h (ix2 p ⟨j.val, by omega⟩) = after wx wh sx bx sh bh x len (T + 1) p j := by
  rw [step_apply, live_apply ⟨T, hT⟩, hL, hh, h0, h1, h2, h3]
  rw [hw.sum _ 0 j _ (by simp), hw.sum _ 2 j _ (by simp), hw.sum _ 1 j _ (by simp)]
  have g0 := hg p 0 j
  have g1 := hg p 1 j
  have g2 := hg p 2 j
  simp only [Fin.val_zero, Fin.val_one, Fin.val_two, mul_zero, zero_add, mul_one, Nat.reduceMul] at g0 g1 g2
  rw [g0, g1, g2]
  simp only [hh]
  unfold after
  rw [show ∀ n, Recurrence.masked wh sh bh (len p) (fun t g j => (∑ n, x t p n * wx n g j) * sx g j + bx g j) (n + 1) j = _ from fun n => rfl]
  congr 1
  exact Recurrence.cell_eq wh sh bh half Recurrence.half_f32 sx bx (fun g j => ∑ n, x T p n * wx n g j)
    (Recurrence.masked wh sh bh (len p) (fun t g j => (∑ n, x t p n * wx n g j) * sx g j + bx g j) T)
    (fun j => Recurrence.real_masked wh sh bh (len p) _ T j) j (fun k => hr k j) (hs j) (hb j)

/-- The eight steps from time `T`. -/
theorem eight_after (hr : ∀ k j, ∃ r : ℝ, wh k 2 j = r) (hs : ∀ j, ∃ r : ℝ, sh 2 j = r) (hb : ∀ j, ∃ r : ℝ, bh 2 j = r)
    (T : ℕ) (hT : T + 8 ≤ 512) (L : Vec Ideal S240x128 .i32) (w : Vec Ideal S128x384 .bf16) (s0 s1 s2 b2 : Vec Ideal S1x128 .f32)
    (G : Fin 8 → Vec Ideal S1x240x384 .f32) (h : FVec Ideal S240x128 .f32)
    (hL : ∀ p l, L (ix2 p l) = len p) (hw : Padded w wh)
    (h0 : ∀ j : Fin 96, s0 (ix2 0 ⟨j.val, by omega⟩) = sh 0 j * half) (h1 : ∀ j : Fin 96, s1 (ix2 0 ⟨j.val, by omega⟩) = sh 1 j * half)
    (h2 : ∀ j : Fin 96, s2 (ix2 0 ⟨j.val, by omega⟩) = sh 2 j * half) (h3 : ∀ j : Fin 96, b2 (ix2 0 ⟨j.val, by omega⟩) = bh 2 j * half)
    (hg : ∀ (k : Fin 8) p (q : Fin 3) (j : Fin 96), G k (ix3 0 p ⟨128 * q.val + j.val, by omega⟩) = input wx sx bx bh x (T + k.val) p q j)
    (hh : ∀ p (j : Fin 96), h (ix2 p ⟨j.val, by omega⟩) = after wx wh sx bx sh bh x len T p j) (p : Fin 240) (j : Fin 96) :
    eight (BitVec.ofNat 32 T) L w s0 s1 s2 b2 (G 0) (G 1) (G 2) (G 3) (G 4) (G 5) (G 6) (G 7) h (ix2 p ⟨j.val, by omega⟩)
      = after wx wh sx bx sh bh x len (T + 8) p j := by
  have one : ∀ (k : Fin 8) (h : FVec Ideal S240x128 .f32),
      (∀ p (j : Fin 96), h (ix2 p ⟨j.val, by omega⟩) = after wx wh sx bx sh bh x len (T + k.val) p j) → ∀ p (j : Fin 96),
      step (Scalar.addi (BitVec.ofNat 32 T) (BitVec.ofNat 32 k.val)) L w s0 s1 s2 b2 (G k) h (ix2 p ⟨j.val, by omega⟩)
        = after wx wh sx bx sh bh x len (T + k.val + 1) p j := by
    intro k h hh p j
    rw [show Scalar.addi (BitVec.ofNat 32 T) (BitVec.ofNat 32 k.val) = BitVec.ofNat 32 (T + k.val) from (BitVec.ofNat_add ..).symm]
    exact step_after wx wh sx bx sh bh x len hr hs hb (T + k.val) (by omega) L w s0 s1 s2 b2 (G k) h hL hw h0 h1 h2 h3 (hg k) hh p j
  unfold eight
  exact one 7 _ (one 6 _ (one 5 _ (one 4 _ (one 3 _ (one 2 _ (one 1 _ (one 0 _ hh))))))) p j

end

/-- The eight steps before the first time leave a zero state zero. -/
theorem eight_zero (L : Vec Ideal S240x128 .i32) (w : Vec Ideal S128x384 .bf16) (s0 s1 s2 b2 : Vec Ideal S1x128 .f32)
    (g0 g1 g2 g3 g4 g5 g6 g7 : Vec Ideal S1x240x384 .f32) (i : grid0.Coords) (hi : (i 0).val = 0) (p : Fin 240) (l : Fin 128) :
    eight (time0 i) L w s0 s1 s2 b2 g0 g1 g2 g3 g4 g5 g6 g7 k0_pay4 (ix2 p l) = 0 := by
  unfold eight time0
  rw [hi]
  refine step_zero _ (by decide) _ _ _ _ _ _ _ _ ?_ p l
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  refine step_zero _ (by decide) _ _ _ _ _ _ _ _ ?_
  intro p l
  pointwise [k0_pay4, k0_pay3]

theorem time0_succ (i : grid0.Coords) (n : ℕ) (hi : (i 0).val = n + 1) : time0 i = BitVec.ofNat 32 (8 * n) := by
  unfold time0
  rw [hi, BitVec.ofNat_add]
  show (BitVec.ofNat 32 n + 1#32 - 1#32) * 8#32 = _
  rw [BitVec.add_sub_cancel, mul_comm 8 n, BitVec.ofNat_mul]

end Cert.Gru1Ideal.Body

end
-- ==== Proof.ValueGru.Layout.lean ====
/- How the two programs' host code lays out the words of the gathered rows and the input weights. -/
module

public import proofs.«01_k».proof.Gru1ReferenceIdeal
public import proofs.«01_k».proof.Gru1Ideal
public import proofs.«01_k».proof.Proof.ValueGru.Cell
public import Idealize.ShloMosaic.Lib.BitcastConvert
public import Idealize.ShloMosaic.Lib.Pipeline.Value
public import Idealize.ShloMosaic.Lib.Pointwise
public import Idealize.ShloMosaic.Lib.ValueIdx

@[expose] public section

noncomputable section

namespace Cert.Gru1ReferenceIdeal.Body

open Cert.Gru1ReferenceIdeal Idealize.ShloMosaic

/-- Row `n`, gate `g`, column `j` of the reference's weights. -/
theorem weights_apply {α : Type} (x : S2x224x3x96.Idx → α) (h : S2x224x3x96.ShapeCasts S448x288) (n : Fin 448) (g : Fin 3) (j : Fin 96) :
    shapeCast S448x288 x h (ix2 n ⟨96 * g.val + j.val, by omega⟩) = x (ix4 ⟨n.val / 224, by omega⟩ ⟨n.val % 224, by omega⟩ g j) := by
  apply shapeCast_apply
  rw [Shape.rowMajor_val_four, Shape.rowMajor_val_two]
  show ((n.val / 224 * 224 + n.val % 224) * 3 + g.val) * 96 + j.val = n.val * 288 + (96 * g.val + j.val)
  omega

theorem cast448 {α : Type} (x : S512x240x2x56x4.Idx → α) (h : S512x240x2x56x4.ShapeCasts S512x240x448) (t : Fin 512) (p : Fin 240) (n : Fin 448) :
    shapeCast S512x240x448 x h (ix3 t p n) = x (ix5 t p ⟨n.val / 224, by omega⟩ ⟨n.val % 224 / 4, by omega⟩ ⟨n.val % 4, by omega⟩) := by
  apply shapeCast_apply
  rw [Shape.rowMajor_val_five, Shape.rowMajor_val_three]
  show (((t.val * 240 + p.val) * 2 + n.val / 224) * 56 + n.val % 224 / 4) * 4 + n.val % 4 = (t.val * 240 + p.val) * 448 + n.val
  omega

theorem cast64 {α : Type} (x : S512x120x2x4x128.Idx → α) (h : S512x120x2x4x128.ShapeCasts S512x240x2x4x64) (t : Fin 512) (p : Fin 240) (f : Fin 2) (j : Fin 4) (l : Fin 64) :
    shapeCast S512x240x2x4x64 x h (ix5 t p f j l)
      = x (ix5 t ⟨p.val / 2, by omega⟩ ⟨p.val % 2, by omega⟩ ⟨2 * f.val + j.val / 2, by omega⟩ ⟨64 * (j.val % 2) + l.val, by omega⟩) := by
  apply shapeCast_apply
  rw [Shape.rowMajor_val_five, Shape.rowMajor_val_five]
  show (((t.val * 120 + p.val / 2) * 2 + p.val % 2) * 4 + (2 * f.val + j.val / 2)) * 128 + (64 * (j.val % 2) + l.val)
    = (((t.val * 240 + p.val) * 2 + f.val) * 4 + j.val) * 64 + l.val
  omega

/-- The reference's rows from the words: channel `n` of time `t`, batch row `p`. -/
theorem rows_apply (x : IVec S512x4x120x128 32) (h0 : S512x4x120x128.SplitsWords 32 S512x4x120x128x2 16)
    (h1 : S512x4x120x128x2.Transposes [0, 2, 4, 1, 3] S512x120x2x4x128) (h2 : S512x120x2x4x128.ShapeCasts S512x240x2x4x64)
    (h3 : S512x240x2x4x64.Slices ![0, 0, 0, 0, 0] S512x240x2x4x56) (h4 : S512x240x2x4x56.Transposes [0, 1, 2, 4, 3] S512x240x2x56x4)
    (h5 : S512x240x2x56x4.ShapeCasts S512x240x448) (t : Fin 512) (p : Fin 240) (n : Fin 448) :
    shapeCast S512x240x448 (transpose S512x240x2x56x4 [0, 1, 2, 4, 3] (extractStridedSlice S512x240x2x4x56 ![0, 0, 0, 0, 0]
      (shapeCast S512x240x2x4x64 (transpose S512x120x2x4x128 [0, 2, 4, 1, 3]
        (bitcastToFloat .bf16 (Host.bitcastConvertNarrow S512x4x120x128x2 16 x h0) : FVec Ideal S512x4x120x128x2 .bf16) h1) h2) h3) h4) h5 (ix3 t p n)
      = Recurrence.halfWord (x (ix4 t ⟨2 * (n.val / 224) + n.val % 4 / 2, by omega⟩ ⟨p.val / 2, by omega⟩ ⟨64 * (n.val % 4 % 2) + n.val % 224 / 4, by omega⟩)) p.val := by
  rw [cast448]
  rw [transpose_apply _ _ h4 _ (ix5 t p ⟨n.val / 224, by omega⟩ ⟨n.val % 4, by omega⟩ ⟨n.val % 224 / 4, by omega⟩)
    (fun b => match b with | ⟨0, _⟩ => rfl | ⟨1, _⟩ => rfl | ⟨2, _⟩ => rfl | ⟨3, _⟩ => rfl | ⟨4, _⟩ => rfl)]
  rw [show ∀ y : FVec Ideal S512x240x2x4x64 .bf16, extractStridedSlice S512x240x2x4x56 ![0, 0, 0, 0, 0] y h3
      (ix5 t p ⟨n.val / 224, by omega⟩ ⟨n.val % 4, by omega⟩ ⟨n.val % 224 / 4, by omega⟩)
      = y (ix5 t p ⟨n.val / 224, by omega⟩ ⟨n.val % 4, by omega⟩ ⟨n.val % 224 / 4, by omega⟩) from fun y => by pointwise]
  rw [cast64]
  rw [transpose_apply _ _ h1 _ (ix5 t ⟨2 * (n.val / 224) + n.val % 4 / 2, by omega⟩ ⟨p.val / 2, by omega⟩ ⟨64 * (n.val % 4 % 2) + n.val % 224 / 4, by omega⟩ ⟨p.val % 2, by omega⟩)
    (fun b => match b with | ⟨0, _⟩ => rfl | ⟨1, _⟩ => rfl | ⟨2, _⟩ => rfl | ⟨3, _⟩ => rfl | ⟨4, _⟩ => rfl)]
  rw [bitcastToFloat_apply, Host.bitcastConvertNarrow_apply]
  unfold Recurrence.halfWord
  show Ideal.ofBits .bf16 _ = Ideal.ofBits .bf16 _
  congr 1
  rw [show ((ix5 t ⟨2 * (n.val / 224) + n.val % 4 / 2, by omega⟩ ⟨p.val / 2, by omega⟩ ⟨64 * (n.val % 4 % 2) + n.val % 224 / 4, by omega⟩ ⟨p.val % 2, by omega⟩ : S512x4x120x128x2.Idx) h0.axis).val = p.val % 2 from rfl,
    mul_comm]
  congr 2
  funext a; apply Fin.ext
  match a with
  | ⟨0, _⟩ => rfl
  | ⟨1, _⟩ => rfl
  | ⟨2, _⟩ => rfl
  | ⟨3, _⟩ => rfl

end Cert.Gru1ReferenceIdeal.Body

namespace Cert.Gru1Ideal.Body

open Cert.Gru1Ideal Idealize.ShloMosaic

/-- The kernel's input weights: byte plane `e` of field `e / 4`, its channel `k`, gate `g`, column `j`. -/
theorem planes_apply {α : Type} (x : S2x224x3x96.Idx → α) (h0 : S2x224x3x96.ShapeCasts S2x56x4x288) (h1 : S2x56x4x288.Transposes [0, 2, 1, 3] S2x4x56x288)
    (h2 : S2x4x56x288.ShapeCasts S8x56x288) (e : Fin 8) (k : Fin 56) (g : Fin 3) (j : Fin 96) :
    shapeCast S8x56x288 (transpose S2x4x56x288 [0, 2, 1, 3] (shapeCast S2x56x4x288 x h0) h1) h2 (ix3 e k ⟨96 * g.val + j.val, by omega⟩)
      = x (ix4 ⟨e.val / 4, by omega⟩ ⟨4 * k.val + e.val % 4, by omega⟩ g j) := by
  rw [shapeCast_apply _ h2 _ (ix4 ⟨e.val / 4, by omega⟩ ⟨e.val % 4, by omega⟩ k ⟨96 * g.val + j.val, by omega⟩) (by
    rw [Shape.rowMajor_val_four, Shape.rowMajor_val_three]
    show ((e.val / 4 * 4 + e.val % 4) * 56 + k.val) * 288 + (96 * g.val + j.val) = (e.val * 56 + k.val) * 288 + (96 * g.val + j.val)
    omega)]
  rw [transpose_apply _ _ h1 _ (ix4 ⟨e.val / 4, by omega⟩ k ⟨e.val % 4, by omega⟩ ⟨96 * g.val + j.val, by omega⟩)
    (fun b => match b with | ⟨0, _⟩ => rfl | ⟨1, _⟩ => rfl | ⟨2, _⟩ => rfl | ⟨3, _⟩ => rfl)]
  apply shapeCast_apply
  rw [Shape.rowMajor_val_four, Shape.rowMajor_val_four]
  show ((e.val / 4 * 224 + (4 * k.val + e.val % 4)) * 3 + g.val) * 96 + j.val = ((e.val / 4 * 56 + k.val) * 4 + e.val % 4) * 288 + (96 * g.val + j.val)
  omega

end Cert.Gru1Ideal.Body

end
-- ==== Proof.ValueGru.Blocks.lean ====
/- What the blocks of the kernel's input windows hold, in terms of the arguments. -/
module

public import proofs.«01_k».proof.Proof.ValueGru.Kernel
public import proofs.«01_k».proof.Proof.ValueGru.Layout
public import proofs.«01_k».proof.Proof.Gru1Ideal.Frame
public import Idealize.ShloMosaic.Lib.Pipeline.ValueKit.Point
public import Idealize.ShloMosaic.Lib.StableHlo.ReadAt
public import Idealize.ShloMosaic.Lib.Claim

@[expose] public section

noncomputable section

namespace Cert.Gru1Ideal.Body

open Cert.Gru1Ideal Cert.Gru1Ideal.Gen Idealize.ShloMosaic Idealize.ShloMosaic.TcCoe Idealize.SL.Sem

variable (m : (ℓ : Loc nD τ sig) → Buf (Elt Ideal) ℓ) (c : Dev nD)

/-! ## The arguments as functions -/

/-- Channel `n` of time `t`, batch row `p`: of field `n / 224` the channel `r = n % 224`, in byte plane `r % 4` at `r / 4`. -/
def xs (t : ℕ) (p : Fin 240) (n : Fin 448) : EReal :=
  if h : t < 512 then
    Recurrence.halfWord ((m ((c : Thread nD τ).loc main_arg0) : IVec S512x4x120x128 32)
      (ix4 ⟨t, h⟩ ⟨2 * (n.val / 224) + n.val % 4 / 2, by omega⟩ ⟨p.val / 2, by omega⟩ ⟨64 * (n.val % 4 % 2) + n.val % 224 / 4, by omega⟩)) p.val
  else 0
def wx (n : Fin 448) (g : Fin 3) (j : Fin 96) : EReal :=
  (m ((c : Thread nD τ).loc main_arg4) : FVec Ideal S2x224x3x96 .fp8e4m3) (ix4 ⟨n.val / 224, by omega⟩ ⟨n.val % 224, by omega⟩ g j)
def sx (g : Fin 3) (j : Fin 96) : EReal := (m ((c : Thread nD τ).loc main_arg5) : FVec Ideal S3x96 .f32) (ix2 g j)
def wh (k : Fin 96) (g : Fin 3) (j : Fin 96) : EReal := (m ((c : Thread nD τ).loc main_arg6) : FVec Ideal S96x3x96 .f32) (ix3 k g j)
def sh (g : Fin 3) (j : Fin 96) : EReal := (m ((c : Thread nD τ).loc main_arg7) : FVec Ideal S3x96 .f32) (ix2 g j)
def bx (g : Fin 3) (j : Fin 96) : EReal := (m ((c : Thread nD τ).loc main_arg8) : FVec Ideal S3x96 .f32) (ix2 g j)
def bh (g : Fin 3) (j : Fin 96) : EReal := (m ((c : Thread nD τ).loc main_arg9) : FVec Ideal S3x96 .f32) (ix2 g j)
/-- The length of batch row `p`. -/
def len (p : Fin 240) : BitVec 32 := (m ((c : Thread nD τ).loc main_arg1) : IVec S240 32) (ix1 p)

/-! ## The host prelude -/

theorem V1 (p : Fin 240) (l : Fin 128) : V m c main_v1 (ix2 p l) = len m c p := by
  unfold V
  after_reads_at
  rfl

theorem lit0_factor : ∀ g : Fin 3, Ideal.ofBits .f32 (lit0 (S3.rowMajor (ix1 g))) = factor g := by
  intro g
  fin_cases g
  · rfl
  · rfl
  · exact Ideal.ofBits_one_f32

theorem lit1_fold : ∀ g : Fin 3, Ideal.ofBits .f32 (lit1 (S3.rowMajor (ix1 g))) = fold g := by
  intro g
  fin_cases g
  · exact Ideal.ofBits_one_f32
  · exact Ideal.ofBits_one_f32
  · exact Ideal.ofBits_zero_f32

theorem V29 (g : Fin 3) (j : Fin 96) :
    (V m c main_v29 : FVec Ideal S1x384 .f32) (ix2 0 ⟨128 * g.val + j.val, by omega⟩) = sx m c g j * factor g := by
  unfold V
  after_reads_at
  have e : (⟨(128 * g.val + j.val) % 128, by omega⟩ : Fin 96) = j := Fin.ext (show (128 * g.val + j.val) % 128 = j.val by omega)
  rw [dif_pos (show (128 * g.val + j.val) % 128 < 96 by omega), e, lit0_factor]
  rfl

theorem V37 (g : Fin 3) (j : Fin 96) :
    (V m c main_v37 : FVec Ideal S1x384 .f32) (ix2 0 ⟨128 * g.val + j.val, by omega⟩) = (bx m c g j + bh m c g j * fold g) * factor g := by
  unfold V
  after_reads_at
  have e : (⟨(128 * g.val + j.val) % 128, by omega⟩ : Fin 96) = j := Fin.ext (show (128 * g.val + j.val) % 128 = j.val by omega)
  rw [dif_pos (show (128 * g.val + j.val) % 128 < 96 by omega), e, lit0_factor, lit1_fold]
  rfl

theorem V40 (g : Fin 3) (j : Fin 96) :
    (V m c main_v40 : FVec Ideal S3x128 .f32) (ix2 g ⟨j.val, by omega⟩) = sh m c g j * half := by
  unfold V
  after_reads_at
  rfl

theorem V43 (g : Fin 3) (j : Fin 96) :
    (V m c main_v43 : FVec Ideal S3x128 .f32) (ix2 g ⟨j.val, by omega⟩) = bh m c g j * half := by
  unfold V
  after_reads_at
  rfl

theorem V45 (k : Fin 96) (g : Fin 3) (j : Fin 96) :
    (V m c main_v45 : FVec Ideal S96x288 .fp8e4m3) (ix2 k ⟨96 * g.val + j.val, by omega⟩) = wh m c k g j := by
  unfold V
  after_reads_at
  rfl

theorem V22 (e : Fin 8) (k : Fin 56) (g : Fin 3) (j : Fin 96) :
    (V m c main_v22 : FVec Ideal S8x56x288 .fp8e4m3) (ix3 e k ⟨96 * g.val + j.val, by omega⟩)
      = (m ((c : Thread nD τ).loc main_arg4) : FVec Ideal S2x224x3x96 .fp8e4m3) (ix4 ⟨e.val / 4, by omega⟩ ⟨4 * k.val + e.val % 4, by omega⟩ g j) := by
  unfold V
  after_reads_simp
  exact planes_apply _ _ _ _ e k g j

/-! ## The windows -/

theorem index0_0 : ∀ t : Fin cfg0.N, win0_0.index t 0 = min t.val 63 := by decide +kernel
theorem index0_1 : ∀ t : Fin cfg0.N, win0_0.index t 1 = 0 := by decide +kernel
theorem index0_2 : ∀ t : Fin cfg0.N, win0_0.index t 2 = 0 := by decide +kernel
theorem index0_3 : ∀ t : Fin cfg0.N, win0_0.index t 3 = 0 := by decide +kernel

theorem blk0 (t : Fin cfg0.N) (k : Fin 8) (f : Fin 4) (p : Fin 120) (l : Fin 128) :
    iblk m c 0 t (ix4 k f p l) = m ((c : Thread nD τ).loc main_arg0) (ix4 ⟨min t.val 63 * 8 + k.val, by omega⟩ f p l) := by
  blk_ext [iblk, V, index0_0 t, index0_1 t, index0_2 t, index0_3 t]

theorem index1_0 (t : Fin cfg0.N) : win0_1.index t 0 = 0 := rfl
theorem index1_1 (t : Fin cfg0.N) : win0_1.index t 1 = 0 := rfl
theorem index1_2 (t : Fin cfg0.N) : win0_1.index t 2 = 0 := rfl

theorem blk1 (t : Fin cfg0.N) (e : Fin 8) (k : Fin 56) (l : Fin 288) :
    iblk m c 1 t (ix3 e k l) = V m c main_v22 (ix3 e k l) := by
  blk_ext [iblk, index1_0 t, index1_1 t, index1_2 t]

theorem index2_0 (t : Fin cfg0.N) : win0_2.index t 0 = 0 := rfl
theorem index2_1 (t : Fin cfg0.N) : win0_2.index t 1 = 0 := rfl

theorem blk2 (t : Fin cfg0.N) (p : Fin 1) (l : Fin 384) :
    iblk m c 2 t (ix2 p l) = V m c main_v29 (ix2 p l) := by
  blk_ext [iblk, index2_0 t, index2_1 t]

theorem index3_0 (t : Fin cfg0.N) : win0_3.index t 0 = 0 := rfl
theorem index3_1 (t : Fin cfg0.N) : win0_3.index t 1 = 0 := rfl

theorem blk3 (t : Fin cfg0.N) (p : Fin 1) (l : Fin 384) :
    iblk m c 3 t (ix2 p l) = V m c main_v37 (ix2 p l) := by
  blk_ext [iblk, index3_0 t, index3_1 t]

theorem index4_0 (t : Fin cfg0.N) : win0_4.index t 0 = 0 := rfl
theorem index4_1 (t : Fin cfg0.N) : win0_4.index t 1 = 0 := rfl

theorem blk4 (t : Fin cfg0.N) (p : Fin 96) (l : Fin 288) :
    iblk m c 4 t (ix2 p l) = V m c main_v45 (ix2 p l) := by
  blk_ext [iblk, index4_0 t, index4_1 t]

theorem index5_0 (t : Fin cfg0.N) : win0_5.index t 0 = 0 := rfl
theorem index5_1 (t : Fin cfg0.N) : win0_5.index t 1 = 0 := rfl

theorem blk5 (t : Fin cfg0.N) (p : Fin 3) (l : Fin 128) :
    iblk m c 5 t (ix2 p l) = V m c main_v40 (ix2 p l) := by
  blk_ext [iblk, index5_0 t, index5_1 t]

theorem index6_0 (t : Fin cfg0.N) : win0_6.index t 0 = 0 := rfl
theorem index6_1 (t : Fin cfg0.N) : win0_6.index t 1 = 0 := rfl

theorem blk6 (t : Fin cfg0.N) (p : Fin 3) (l : Fin 128) :
    iblk m c 6 t (ix2 p l) = V m c main_v43 (ix2 p l) := by
  blk_ext [iblk, index6_0 t, index6_1 t]

theorem index7_0 (t : Fin cfg0.N) : win0_7.index t 0 = 0 := rfl
theorem index7_1 (t : Fin cfg0.N) : win0_7.index t 1 = 0 := rfl

theorem blk7 (t : Fin cfg0.N) (p : Fin 240) (l : Fin 128) :
    iblk m c 7 t (ix2 p l) = V m c main_v1 (ix2 p l) := by
  blk_ext [iblk, index7_0 t, index7_1 t]

end Cert.Gru1Ideal.Body

end
-- ==== Proof.Gru1Ideal.State.lean ====
/- What a middle and the last grid point leave in the state and in the result. -/
module

public import proofs.«01_k».proof.Proof.Gru1Ideal.Step
public import Idealize.ShloMosaic.Lib.Pipeline.ValueKit
public import Idealize.ShloMosaic.Lib.Pipeline.ReadBack
public import Idealize.ShloMosaic.Lib.ValueIdx

@[expose] public section

noncomputable section

namespace Cert.Gru1Ideal.Body

open Cert.Gru1Ideal Cert.Gru1Ideal.Gen Idealize.ShloMosaic Idealize.ShloMosaic.TcCoe Idealize.SL.Sem

variable {F : FTy → Type} [FloatOps F]

variable (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole)
     (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32)

set_option maxHeartbeats 4000000 in
/-- A middle point leaves the eight steps' result in the state. -/
theorem state_B (hc0 : ¬cond0_0 i) (hc1 : ¬cond0_1 i) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3
      = point i x7 xs2 x5 x6 xs0 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  delta kernelRun0_B
  dsimp only
  rw [View.canon_unit_zero hz2]
  unfold k0_pay1
  rw [shapeCast_self]
  refine (show _ = eight (time0 i) (View.readAt (Elt F) arg8.view (Rect.unit (s := S240x128) ![0, 0] S240x128.size inb_S240x128_S240x128_0_0).toLoadRect (harg8.unread x7))
      (View.readAt (Elt F) arg17.view (Rect.unit (s := S128x384) ![0, 0] S128x384.size inb_S128x384_S128x384_0_0).toLoadRect (harg17.unread xs2))
      (View.readAt (Elt F) arg6.view (Rect.unit (s := S3x128) ![0, 0] S1x128.size inb_S3x128_S1x128_0_0).toLoadRect (harg6.unread x5))
      (View.readAt (Elt F) arg6.view (Rect.unit (s := S3x128) ![1, 0] S1x128.size inb_S3x128_S1x128_1_0).toLoadRect (harg6.unread x5))
      (View.readAt (Elt F) arg6.view (Rect.unit (s := S3x128) ![2, 0] S1x128.size inb_S3x128_S1x128_2_0).toLoadRect (harg6.unread x5))
      (View.readAt (Elt F) arg7.view (Rect.unit (s := S3x128) ![2, 0] S1x128.size inb_S3x128_S1x128_2_0).toLoadRect (harg7.unread x6))
      (View.readAt (Elt F) arg15.view (Rect.unit (s := S8x240x384) ![0, 0, 0] S1x240x384.size inb_S8x240x384_S1x240x384_0_0_0).toLoadRect (harg15.unread xs0))
      (View.readAt (Elt F) arg15.view (Rect.unit (s := S8x240x384) ![1, 0, 0] S1x240x384.size inb_S8x240x384_S1x240x384_1_0_0).toLoadRect (harg15.unread xs0))
      (View.readAt (Elt F) arg15.view (Rect.unit (s := S8x240x384) ![2, 0, 0] S1x240x384.size inb_S8x240x384_S1x240x384_2_0_0).toLoadRect (harg15.unread xs0))
      (View.readAt (Elt F) arg15.view (Rect.unit (s := S8x240x384) ![3, 0, 0] S1x240x384.size inb_S8x240x384_S1x240x384_3_0_0).toLoadRect (harg15.unread xs0))
      (View.readAt (Elt F) arg15.view (Rect.unit (s := S8x240x384) ![4, 0, 0] S1x240x384.size inb_S8x240x384_S1x240x384_4_0_0).toLoadRect (harg15.unread xs0))
      (View.readAt (Elt F) arg15.view (Rect.unit (s := S8x240x384) ![5, 0, 0] S1x240x384.size inb_S8x240x384_S1x240x384_5_0_0).toLoadRect (harg15.unread xs0))
      (View.readAt (Elt F) arg15.view (Rect.unit (s := S8x240x384) ![6, 0, 0] S1x240x384.size inb_S8x240x384_S1x240x384_6_0_0).toLoadRect (harg15.unread xs0))
      (View.readAt (Elt F) arg15.view (Rect.unit (s := S8x240x384) ![7, 0, 0] S1x240x384.size inb_S8x240x384_S1x240x384_7_0_0).toLoadRect (harg15.unread xs0))
      (View.readAt (Elt F) arg18.view (Rect.unit (s := S240x128) ![0, 0] S240x128.size inb_S240x128_S240x128_0_0).toLoadRect (harg18.unread xs3)) from rfl).trans ?_
  simp only [View.readAt_eq_ld, Memref.IsWhole.read_unread]
  rw [View.ld_unit_zero (S := S128x384) hz2 _ xs2, View.ld_unit_zero (S := S240x128) hz2 _ xs3, View.ld_unit_zero (S := S240x128) hz2 _ x7]
  rfl

set_option maxHeartbeats 4000000 in
/-- A last point leaves the eight steps' result in the state. -/
theorem state_C (hc0 : ¬cond0_0 i) (hc1 : cond0_1 i) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3
      = point i x7 xs2 x5 x6 xs0 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  delta kernelRun0_C
  dsimp only
  rw [View.canon_unit_zero hz2]
  unfold k0_pay1
  rw [shapeCast_self]
  refine (show _ = eight (time0 i) (View.readAt (Elt F) arg8.view (Rect.unit (s := S240x128) ![0, 0] S240x128.size inb_S240x128_S240x128_0_0).toLoadRect (harg8.unread x7))
      (View.readAt (Elt F) arg17.view (Rect.unit (s := S128x384) ![0, 0] S128x384.size inb_S128x384_S128x384_0_0).toLoadRect (harg17.unread xs2))
      (View.readAt (Elt F) arg6.view (Rect.unit (s := S3x128) ![0, 0] S1x128.size inb_S3x128_S1x128_0_0).toLoadRect (harg6.unread x5))
      (View.readAt (Elt F) arg6.view (Rect.unit (s := S3x128) ![1, 0] S1x128.size inb_S3x128_S1x128_1_0).toLoadRect (harg6.unread x5))
      (View.readAt (Elt F) arg6.view (Rect.unit (s := S3x128) ![2, 0] S1x128.size inb_S3x128_S1x128_2_0).toLoadRect (harg6.unread x5))
      (View.readAt (Elt F) arg7.view (Rect.unit (s := S3x128) ![2, 0] S1x128.size inb_S3x128_S1x128_2_0).toLoadRect (harg7.unread x6))
      (View.readAt (Elt F) arg15.view (Rect.unit (s := S8x240x384) ![0, 0, 0] S1x240x384.size inb_S8x240x384_S1x240x384_0_0_0).toLoadRect (harg15.unread xs0))
      (View.readAt (Elt F) arg15.view (Rect.unit (s := S8x240x384) ![1, 0, 0] S1x240x384.size inb_S8x240x384_S1x240x384_1_0_0).toLoadRect (harg15.unread xs0))
      (View.readAt (Elt F) arg15.view (Rect.unit (s := S8x240x384) ![2, 0, 0] S1x240x384.size inb_S8x240x384_S1x240x384_2_0_0).toLoadRect (harg15.unread xs0))
      (View.readAt (Elt F) arg15.view (Rect.unit (s := S8x240x384) ![3, 0, 0] S1x240x384.size inb_S8x240x384_S1x240x384_3_0_0).toLoadRect (harg15.unread xs0))
      (View.readAt (Elt F) arg15.view (Rect.unit (s := S8x240x384) ![4, 0, 0] S1x240x384.size inb_S8x240x384_S1x240x384_4_0_0).toLoadRect (harg15.unread xs0))
      (View.readAt (Elt F) arg15.view (Rect.unit (s := S8x240x384) ![5, 0, 0] S1x240x384.size inb_S8x240x384_S1x240x384_5_0_0).toLoadRect (harg15.unread xs0))
      (View.readAt (Elt F) arg15.view (Rect.unit (s := S8x240x384) ![6, 0, 0] S1x240x384.size inb_S8x240x384_S1x240x384_6_0_0).toLoadRect (harg15.unread xs0))
      (View.readAt (Elt F) arg15.view (Rect.unit (s := S8x240x384) ![7, 0, 0] S1x240x384.size inb_S8x240x384_S1x240x384_7_0_0).toLoadRect (harg15.unread xs0))
      (View.readAt (Elt F) arg18.view (Rect.unit (s := S240x128) ![0, 0] S240x128.size inb_S240x128_S240x128_0_0).toLoadRect (harg18.unread xs3)) from rfl).trans ?_
  simp only [View.readAt_eq_ld, Memref.IsWhole.read_unread]
  rw [View.ld_unit_zero (S := S128x384) hz2 _ xs2, View.ld_unit_zero (S := S240x128) hz2 _ xs3, View.ld_unit_zero (S := S240x128) hz2 _ x7]
  rfl

set_option maxHeartbeats 4000000 in
/-- The last point writes the state's 96 lanes out. -/
theorem final_C (hc0 : ¬cond0_0 i) (hc1 : cond0_1 i) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3
      = k0_pay2 (point i x7 xs2 x5 x6 xs0 xs3) := by
  unfold out0_C_13
  rw [View.read_writes_eq_canon _ _ _ (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3)]
  delta kernelRun0_C
  dsimp only
  rw [View.canon_unit_zero hz2]
  refine (show _ = k0_pay2 (eight (time0 i) (View.readAt (Elt F) arg8.view (Rect.unit (s := S240x128) ![0, 0] S240x128.size inb_S240x128_S240x128_0_0).toLoadRect (harg8.unread x7))
      (View.readAt (Elt F) arg17.view (Rect.unit (s := S128x384) ![0, 0] S128x384.size inb_S128x384_S128x384_0_0).toLoadRect (harg17.unread xs2))
      (View.readAt (Elt F) arg6.view (Rect.unit (s := S3x128) ![0, 0] S1x128.size inb_S3x128_S1x128_0_0).toLoadRect (harg6.unread x5))
      (View.readAt (Elt F) arg6.view (Rect.unit (s := S3x128) ![1, 0] S1x128.size inb_S3x128_S1x128_1_0).toLoadRect (harg6.unread x5))
      (View.readAt (Elt F) arg6.view (Rect.unit (s := S3x128) ![2, 0] S1x128.size inb_S3x128_S1x128_2_0).toLoadRect (harg6.unread x5))
      (View.readAt (Elt F) arg7.view (Rect.unit (s := S3x128) ![2, 0] S1x128.size inb_S3x128_S1x128_2_0).toLoadRect (harg7.unread x6))
      (View.readAt (Elt F) arg15.view (Rect.unit (s := S8x240x384) ![0, 0, 0] S1x240x384.size inb_S8x240x384_S1x240x384_0_0_0).toLoadRect (harg15.unread xs0))
      (View.readAt (Elt F) arg15.view (Rect.unit (s := S8x240x384) ![1, 0, 0] S1x240x384.size inb_S8x240x384_S1x240x384_1_0_0).toLoadRect (harg15.unread xs0))
      (View.readAt (Elt F) arg15.view (Rect.unit (s := S8x240x384) ![2, 0, 0] S1x240x384.size inb_S8x240x384_S1x240x384_2_0_0).toLoadRect (harg15.unread xs0))
      (View.readAt (Elt F) arg15.view (Rect.unit (s := S8x240x384) ![3, 0, 0] S1x240x384.size inb_S8x240x384_S1x240x384_3_0_0).toLoadRect (harg15.unread xs0))
      (View.readAt (Elt F) arg15.view (Rect.unit (s := S8x240x384) ![4, 0, 0] S1x240x384.size inb_S8x240x384_S1x240x384_4_0_0).toLoadRect (harg15.unread xs0))
      (View.readAt (Elt F) arg15.view (Rect.unit (s := S8x240x384) ![5, 0, 0] S1x240x384.size inb_S8x240x384_S1x240x384_5_0_0).toLoadRect (harg15.unread xs0))
      (View.readAt (Elt F) arg15.view (Rect.unit (s := S8x240x384) ![6, 0, 0] S1x240x384.size inb_S8x240x384_S1x240x384_6_0_0).toLoadRect (harg15.unread xs0))
      (View.readAt (Elt F) arg15.view (Rect.unit (s := S8x240x384) ![7, 0, 0] S1x240x384.size inb_S8x240x384_S1x240x384_7_0_0).toLoadRect (harg15.unread xs0))
      (View.readAt (Elt F) arg18.view (Rect.unit (s := S240x128) ![0, 0] S240x128.size inb_S240x128_S240x128_0_0).toLoadRect (harg18.unread xs3))) from rfl).trans ?_
  simp only [View.readAt_eq_ld, Memref.IsWhole.read_unread]
  rw [View.ld_unit_zero (S := S128x384) hz2 _ xs2, View.ld_unit_zero (S := S240x128) hz2 _ xs3, View.ld_unit_zero (S := S240x128) hz2 _ x7]
  rfl

end Cert.Gru1Ideal.Body

end
-- ==== Proof.Gru1Ideal.Gates.lean ====
/- A middle and the last grid point leave the gate inputs of their block in the scratch. -/
module

public import proofs.«01_k».proof.Proof.Gru1Ideal.Step
public import Idealize.ShloMosaic.Lib.Pipeline.ValueKit
public import Idealize.ShloMosaic.Lib.Pipeline.ReadBack
public import Idealize.ShloMosaic.Lib.ValueIdx

@[expose] public section

noncomputable section

namespace Cert.Gru1Ideal.Body

open Cert.Gru1Ideal Cert.Gru1Ideal.Gen Idealize.ShloMosaic Idealize.ShloMosaic.TcCoe Idealize.SL.Sem

variable {F : FTy → Type} [FloatOps F]

variable (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole)
     (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32)

set_option maxHeartbeats 4000000 in
/-- A point leaves the next block's gate inputs in the scratch. -/
theorem gates_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3
      = gates x0 xs1 x2 x3 := by
  have e : gates x0 xs1 x2 x3 = gates x0 (View.readAt (Elt F) arg16.view (Rect.unit (s := S512x384) ![0, 0] S512x384.size inb_S512x384_S512x384_0_0).toLoadRect (harg16.unread xs1))
      (View.readAt (Elt F) arg3.view (Rect.unit (s := S1x384) ![0, 0] S1x384.size inb_S1x384_S1x384_0_0).toLoadRect (harg3.unread x2))
      (View.readAt (Elt F) arg4.view (Rect.unit (s := S1x384) ![0, 0] S1x384.size inb_S1x384_S1x384_0_0).toLoadRect (harg4.unread x3)) := by
    rw [View.readAt_eq_ld, View.readAt_eq_ld, View.readAt_eq_ld, Memref.IsWhole.read_unread, Memref.IsWhole.read_unread, Memref.IsWhole.read_unread,
      View.ld_unit_zero (S := S512x384) hz2 _ xs1, View.ld_unit_zero (S := S1x384) hz2 _ x2, View.ld_unit_zero (S := S1x384) hz2 _ x3]
  rw [e]
  unfold sout0_B_0
  funext y
  refine VS0_0.read_writes_apply_of_pieces _ (gates x0 (View.readAt (Elt F) arg16.view (Rect.unit (s := S512x384) ![0, 0] S512x384.size inb_S512x384_S512x384_0_0).toLoadRect (harg16.unread xs1))
      (View.readAt (Elt F) arg3.view (Rect.unit (s := S1x384) ![0, 0] S1x384.size inb_S1x384_S1x384_0_0).toLoadRect (harg3.unread x2))
      (View.readAt (Elt F) arg4.view (Rect.unit (s := S1x384) ![0, 0] S1x384.size inb_S1x384_S1x384_0_0).toLoadRect (harg4.unread x3))) _ ?_ y (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 y)
  delta kernelRun0_B
  refine List.forall_mem_cons.2 ⟨?_, List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, fun _ h => absurd h (List.not_mem_nil)⟩⟩⟩⟩⟩⟩⟩⟩
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 7 inb_S8x4x120x128_S1x1x120x128_7_0_0_0 inb_S8x4x120x128_S1x1x120x128_7_1_0_0 inb_S8x4x120x128_S1x1x120x128_7_2_0_0 inb_S8x4x120x128_S1x1x120x128_7_3_0_0 inb_S8x240x384_S1x240x384_7_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 6 inb_S8x4x120x128_S1x1x120x128_6_0_0_0 inb_S8x4x120x128_S1x1x120x128_6_1_0_0 inb_S8x4x120x128_S1x1x120x128_6_2_0_0 inb_S8x4x120x128_S1x1x120x128_6_3_0_0 inb_S8x240x384_S1x240x384_6_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 5 inb_S8x4x120x128_S1x1x120x128_5_0_0_0 inb_S8x4x120x128_S1x1x120x128_5_1_0_0 inb_S8x4x120x128_S1x1x120x128_5_2_0_0 inb_S8x4x120x128_S1x1x120x128_5_3_0_0 inb_S8x240x384_S1x240x384_5_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 4 inb_S8x4x120x128_S1x1x120x128_4_0_0_0 inb_S8x4x120x128_S1x1x120x128_4_1_0_0 inb_S8x4x120x128_S1x1x120x128_4_2_0_0 inb_S8x4x120x128_S1x1x120x128_4_3_0_0 inb_S8x240x384_S1x240x384_4_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 3 inb_S8x4x120x128_S1x1x120x128_3_0_0_0 inb_S8x4x120x128_S1x1x120x128_3_1_0_0 inb_S8x4x120x128_S1x1x120x128_3_2_0_0 inb_S8x4x120x128_S1x1x120x128_3_3_0_0 inb_S8x240x384_S1x240x384_3_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 2 inb_S8x4x120x128_S1x1x120x128_2_0_0_0 inb_S8x4x120x128_S1x1x120x128_2_1_0_0 inb_S8x4x120x128_S1x1x120x128_2_2_0_0 inb_S8x4x120x128_S1x1x120x128_2_3_0_0 inb_S8x240x384_S1x240x384_2_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 1 inb_S8x4x120x128_S1x1x120x128_1_0_0_0 inb_S8x4x120x128_S1x1x120x128_1_1_0_0 inb_S8x4x120x128_S1x1x120x128_1_2_0_0 inb_S8x4x120x128_S1x1x120x128_1_3_0_0 inb_S8x240x384_S1x240x384_1_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 0 inb_S8x4x120x128_S1x1x120x128_0_0_0_0 inb_S8x4x120x128_S1x1x120x128_0_1_0_0 inb_S8x4x120x128_S1x1x120x128_0_2_0_0 inb_S8x4x120x128_S1x1x120x128_0_3_0_0 inb_S8x240x384_S1x240x384_0_0_0 x

set_option maxHeartbeats 4000000 in
/-- A point leaves the next block's gate inputs in the scratch. -/
theorem gates_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3
      = gates x0 xs1 x2 x3 := by
  have e : gates x0 xs1 x2 x3 = gates x0 (View.readAt (Elt F) arg16.view (Rect.unit (s := S512x384) ![0, 0] S512x384.size inb_S512x384_S512x384_0_0).toLoadRect (harg16.unread xs1))
      (View.readAt (Elt F) arg3.view (Rect.unit (s := S1x384) ![0, 0] S1x384.size inb_S1x384_S1x384_0_0).toLoadRect (harg3.unread x2))
      (View.readAt (Elt F) arg4.view (Rect.unit (s := S1x384) ![0, 0] S1x384.size inb_S1x384_S1x384_0_0).toLoadRect (harg4.unread x3)) := by
    rw [View.readAt_eq_ld, View.readAt_eq_ld, View.readAt_eq_ld, Memref.IsWhole.read_unread, Memref.IsWhole.read_unread, Memref.IsWhole.read_unread,
      View.ld_unit_zero (S := S512x384) hz2 _ xs1, View.ld_unit_zero (S := S1x384) hz2 _ x2, View.ld_unit_zero (S := S1x384) hz2 _ x3]
  rw [e]
  unfold sout0_C_0
  funext y
  refine VS0_0.read_writes_apply_of_pieces _ (gates x0 (View.readAt (Elt F) arg16.view (Rect.unit (s := S512x384) ![0, 0] S512x384.size inb_S512x384_S512x384_0_0).toLoadRect (harg16.unread xs1))
      (View.readAt (Elt F) arg3.view (Rect.unit (s := S1x384) ![0, 0] S1x384.size inb_S1x384_S1x384_0_0).toLoadRect (harg3.unread x2))
      (View.readAt (Elt F) arg4.view (Rect.unit (s := S1x384) ![0, 0] S1x384.size inb_S1x384_S1x384_0_0).toLoadRect (harg4.unread x3))) _ ?_ y (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 xs0 xs1 xs2 xs3 y)
  delta kernelRun0_C
  refine List.forall_mem_cons.2 ⟨?_, List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, fun _ h => absurd h (List.not_mem_nil)⟩⟩⟩⟩⟩⟩⟩⟩
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 7 inb_S8x4x120x128_S1x1x120x128_7_0_0_0 inb_S8x4x120x128_S1x1x120x128_7_1_0_0 inb_S8x4x120x128_S1x1x120x128_7_2_0_0 inb_S8x4x120x128_S1x1x120x128_7_3_0_0 inb_S8x240x384_S1x240x384_7_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 6 inb_S8x4x120x128_S1x1x120x128_6_0_0_0 inb_S8x4x120x128_S1x1x120x128_6_1_0_0 inb_S8x4x120x128_S1x1x120x128_6_2_0_0 inb_S8x4x120x128_S1x1x120x128_6_3_0_0 inb_S8x240x384_S1x240x384_6_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 5 inb_S8x4x120x128_S1x1x120x128_5_0_0_0 inb_S8x4x120x128_S1x1x120x128_5_1_0_0 inb_S8x4x120x128_S1x1x120x128_5_2_0_0 inb_S8x4x120x128_S1x1x120x128_5_3_0_0 inb_S8x240x384_S1x240x384_5_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 4 inb_S8x4x120x128_S1x1x120x128_4_0_0_0 inb_S8x4x120x128_S1x1x120x128_4_1_0_0 inb_S8x4x120x128_S1x1x120x128_4_2_0_0 inb_S8x4x120x128_S1x1x120x128_4_3_0_0 inb_S8x240x384_S1x240x384_4_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 3 inb_S8x4x120x128_S1x1x120x128_3_0_0_0 inb_S8x4x120x128_S1x1x120x128_3_1_0_0 inb_S8x4x120x128_S1x1x120x128_3_2_0_0 inb_S8x4x120x128_S1x1x120x128_3_3_0_0 inb_S8x240x384_S1x240x384_3_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 2 inb_S8x4x120x128_S1x1x120x128_2_0_0_0 inb_S8x4x120x128_S1x1x120x128_2_1_0_0 inb_S8x4x120x128_S1x1x120x128_2_2_0_0 inb_S8x4x120x128_S1x1x120x128_2_3_0_0 inb_S8x240x384_S1x240x384_2_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 1 inb_S8x4x120x128_S1x1x120x128_1_0_0_0 inb_S8x4x120x128_S1x1x120x128_1_1_0_0 inb_S8x4x120x128_S1x1x120x128_1_2_0_0 inb_S8x4x120x128_S1x1x120x128_1_3_0_0 inb_S8x240x384_S1x240x384_1_0_0 x
  · exact fun x => gates_loaded arg1 harg1 x0 (View.readAt (Elt F) arg16.view (Rect.unit (s := S512x384) ![0, 0] S512x384.size inb_S512x384_S512x384_0_0).toLoadRect (harg16.unread xs1)) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 0 inb_S8x4x120x128_S1x1x120x128_0_0_0_0 inb_S8x4x120x128_S1x1x120x128_0_1_0_0 inb_S8x4x120x128_S1x1x120x128_0_2_0_0 inb_S8x4x120x128_S1x1x120x128_0_3_0_0 inb_S8x240x384_S1x240x384_0_0_0 x

end Cert.Gru1Ideal.Body

end
-- ==== Proof.Gru1Ideal.First.lean ====
/- What the first grid point leaves in the four carried buffers. -/
module

public import proofs.«01_k».proof.Proof.Gru1Ideal.Step
public import Idealize.ShloMosaic.Lib.Pipeline.ValueKit
public import Idealize.ShloMosaic.Lib.Pipeline.ReadBack
public import Idealize.ShloMosaic.Lib.ValueIdx

@[expose] public section

noncomputable section

namespace Cert.Gru1Ideal.Body

open Cert.Gru1Ideal Cert.Gru1Ideal.Gen Idealize.ShloMosaic Idealize.ShloMosaic.TcCoe Idealize.SL.Sem

variable {F : FTy → Type} [FloatOps F]

variable (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole)
     (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32)

set_option maxHeartbeats 4000000 in
/-- The first point leaves the padded input weights in their scratch. -/
theorem wih_A (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10
      = (widened x1) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10)]
  delta kernelRun0_A
  dsimp only
  unfold kernelRun0_A.sl.HS1_1
  rw [View.canon_unit_zero hz2]
  unfold kernelRun0_A.sl.r kernelRun0_A.sl.r_1 kernelRun0_A.sl.r_2 kernelRun0_A.sl.r_3 kernelRun0_A.sl.r_4 kernelRun0_A.sl.r_5
  simp only [View.readAt_eq_ld, Memref.IsWhole.read_unread]
  rw [View.ld_unit_zero (S := S8x56x288) hz3 _ x1]
  rfl

set_option maxHeartbeats 4000000 in
/-- The first point leaves the padded recurrent weights in their scratch. -/
theorem whh_A (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10
      = k0_pay18 (k0_pay13 x4) (k0_pay14 x4) (k0_pay16 x4) k0_pay17 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10)]
  delta kernelRun0_A
  dsimp only
  unfold kernelRun0_A.sl.HS2_1
  rw [View.canon_unit_zero hz2]
  unfold kernelRun0_A.sl.r_6 kernelRun0_A.sl.r_7 kernelRun0_A.sl.r_8
  simp only [View.readAt_eq_ld, Memref.IsWhole.read_unread]
  rw [View.ld_unit_zero (S := S96x288) hz2 _ x4]

/-- Pieces that agree with one function decide what they cover, whatever was written before them. -/
theorem read_prefix {κ : Kind} {sp : Space} {s : Shape} {e : EltTy} (v : View sig κ sp s e) (f : v.ty.Contents (Elt F)) (G : s.Idx → Elt F e)
    (L L' : List (View.Piece (Elt F) s e)) (hG : ∀ p ∈ L, ∀ x : p.1.shape.Idx, p.2 x = G (p.1.emb x)) (y : s.Idx)
    (h : ∃ p ∈ L, y ∈ p.1.set) : v.read (Elt F) (v.writes (Elt F) f (L ++ L')) y = G y := by
  rw [View.writes_append]
  exact v.read_writes_apply_of_pieces _ G L hG y h

set_option maxHeartbeats 4000000 in
/-- The first point leaves the first block's gate inputs in the scratch. -/
theorem gates_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10
      = gates x0 (widened x1) x2 x3 := by
  have hv : kernelRun0_A.sl.v99 c arg2 harg2 arg16 x1 = (widened x1) := by
    unfold kernelRun0_A.sl.v99 kernelRun0_A.sl.HS1_1
    rw [View.readCov_cons_toLoadRect]
    unfold kernelRun0_A.sl.r kernelRun0_A.sl.r_1 kernelRun0_A.sl.r_2 kernelRun0_A.sl.r_3 kernelRun0_A.sl.r_4 kernelRun0_A.sl.r_5
    rw [View.readAt_eq_ld, Memref.IsWhole.read_unread, View.ld_unit_zero (S := S8x56x288) hz3 _ x1]
    rfl
  have e : gates x0 (widened x1) x2 x3 = gates x0 (kernelRun0_A.sl.v99 c arg2 harg2 arg16 x1)
      (View.readAt (Elt F) arg3.view (Rect.unit (s := S1x384) ![0, 0] S1x384.size inb_S1x384_S1x384_0_0).toLoadRect (harg3.unread x2))
      (View.readAt (Elt F) arg4.view (Rect.unit (s := S1x384) ![0, 0] S1x384.size inb_S1x384_S1x384_0_0).toLoadRect (harg4.unread x3)) := by
    rw [hv, View.readAt_eq_ld, View.readAt_eq_ld, Memref.IsWhole.read_unread, Memref.IsWhole.read_unread,
      View.ld_unit_zero (S := S1x384) hz2 _ x2, View.ld_unit_zero (S := S1x384) hz2 _ x3]
  rw [e]
  unfold sout0_A_0
  funext y
  delta kernelRun0_A
  dsimp only
  unfold kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2
  refine read_prefix VS0_0 _ (gates x0 (kernelRun0_A.sl.v99 c arg2 harg2 arg16 x1)
      (View.readAt (Elt F) arg3.view (Rect.unit (s := S1x384) ![0, 0] S1x384.size inb_S1x384_S1x384_0_0).toLoadRect (harg3.unread x2))
      (View.readAt (Elt F) arg4.view (Rect.unit (s := S1x384) ![0, 0] S1x384.size inb_S1x384_S1x384_0_0).toLoadRect (harg4.unread x3))) [_, _, _, _, _, _, _, _] kernelRun0_A.sl.HS0_1 ?_ y ?_
  rotate_left
  · exact View.cover_of_tiledL (s := S8x240x384) (e := .f32) _ S1x240x384.size (by sl_kernel_rfl) y
  refine List.forall_mem_cons.2 ⟨?_, List.forall_mem_cons.2 ⟨?_, List.forall_mem_cons.2 ⟨?_, List.forall_mem_cons.2 ⟨?_, List.forall_mem_cons.2 ⟨?_,
    List.forall_mem_cons.2 ⟨?_, List.forall_mem_cons.2 ⟨?_, List.forall_mem_cons.2 ⟨?_, fun _ h => absurd h (List.not_mem_nil)⟩⟩⟩⟩⟩⟩⟩⟩
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 7 inb_S8x4x120x128_S1x1x120x128_7_0_0_0 inb_S8x4x120x128_S1x1x120x128_7_1_0_0 inb_S8x4x120x128_S1x1x120x128_7_2_0_0 inb_S8x4x120x128_S1x1x120x128_7_3_0_0 inb_S8x240x384_S1x240x384_7_0_0 x
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 6 inb_S8x4x120x128_S1x1x120x128_6_0_0_0 inb_S8x4x120x128_S1x1x120x128_6_1_0_0 inb_S8x4x120x128_S1x1x120x128_6_2_0_0 inb_S8x4x120x128_S1x1x120x128_6_3_0_0 inb_S8x240x384_S1x240x384_6_0_0 x
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 5 inb_S8x4x120x128_S1x1x120x128_5_0_0_0 inb_S8x4x120x128_S1x1x120x128_5_1_0_0 inb_S8x4x120x128_S1x1x120x128_5_2_0_0 inb_S8x4x120x128_S1x1x120x128_5_3_0_0 inb_S8x240x384_S1x240x384_5_0_0 x
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 4 inb_S8x4x120x128_S1x1x120x128_4_0_0_0 inb_S8x4x120x128_S1x1x120x128_4_1_0_0 inb_S8x4x120x128_S1x1x120x128_4_2_0_0 inb_S8x4x120x128_S1x1x120x128_4_3_0_0 inb_S8x240x384_S1x240x384_4_0_0 x
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 3 inb_S8x4x120x128_S1x1x120x128_3_0_0_0 inb_S8x4x120x128_S1x1x120x128_3_1_0_0 inb_S8x4x120x128_S1x1x120x128_3_2_0_0 inb_S8x4x120x128_S1x1x120x128_3_3_0_0 inb_S8x240x384_S1x240x384_3_0_0 x
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 2 inb_S8x4x120x128_S1x1x120x128_2_0_0_0 inb_S8x4x120x128_S1x1x120x128_2_1_0_0 inb_S8x4x120x128_S1x1x120x128_2_2_0_0 inb_S8x4x120x128_S1x1x120x128_2_3_0_0 inb_S8x240x384_S1x240x384_2_0_0 x
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 1 inb_S8x4x120x128_S1x1x120x128_1_0_0_0 inb_S8x4x120x128_S1x1x120x128_1_1_0_0 inb_S8x4x120x128_S1x1x120x128_1_2_0_0 inb_S8x4x120x128_S1x1x120x128_1_3_0_0 inb_S8x240x384_S1x240x384_1_0_0 x
  · exact fun x => gates_loaded arg1 harg1 x0 (kernelRun0_A.sl.v99 c arg2 harg2 arg16 x1) (View.readAt (Elt F) arg3.view (Rect.unit (s := S1x384) ![0, 0] S1x384.size inb_S1x384_S1x384_0_0).toLoadRect (harg3.unread x2)) (View.readAt (Elt F) arg4.view (Rect.unit (s := S1x384) ![0, 0] S1x384.size inb_S1x384_S1x384_0_0).toLoadRect (harg4.unread x3)) 0 inb_S8x4x120x128_S1x1x120x128_0_0_0_0 inb_S8x4x120x128_S1x1x120x128_0_1_0_0 inb_S8x4x120x128_S1x1x120x128_0_2_0_0 inb_S8x4x120x128_S1x1x120x128_0_3_0_0 inb_S8x240x384_S1x240x384_0_0_0 x

end Cert.Gru1Ideal.Body

end
-- ==== Proof.Gru1Ideal.FirstState.lean ====
/- The first grid point's eight steps start from zero. -/
module

public import proofs.«01_k».proof.Proof.Gru1Ideal.Step
public import Idealize.ShloMosaic.Lib.Pipeline.ValueKit
public import Idealize.ShloMosaic.Lib.Pipeline.ReadBack
public import Idealize.ShloMosaic.Lib.ValueIdx

@[expose] public section

noncomputable section

namespace Cert.Gru1Ideal.Body

open Cert.Gru1Ideal Cert.Gru1Ideal.Gen Idealize.ShloMosaic Idealize.ShloMosaic.TcCoe Idealize.SL.Sem

variable {F : FTy → Type} [FloatOps F]

variable (c : Dev nD) (i : grid0.Coords) (arg1 : Memref sig .tc .vmem S8x4x120x128 .i32) (harg1 : arg1.IsWhole) (arg2 : Memref sig .tc .vmem S8x56x288 .fp8e4m3) (harg2 : arg2.IsWhole) (arg3 : Memref sig .tc .vmem S1x384 .f32) (harg3 : arg3.IsWhole) (arg4 : Memref sig .tc .vmem S1x384 .f32) (harg4 : arg4.IsWhole) (arg5 : Memref sig .tc .vmem S96x288 .fp8e4m3) (harg5 : arg5.IsWhole) (arg6 : Memref sig .tc .vmem S3x128 .f32) (harg6 : arg6.IsWhole) (arg7 : Memref sig .tc .vmem S3x128 .f32) (harg7 : arg7.IsWhole) (arg8 : Memref sig .tc .vmem S240x128 .i32) (harg8 : arg8.IsWhole) (arg9 : Memref sig .tc .vmem S2x240x128 .i32) (harg9 : arg9.IsWhole) (arg10 : Memref sig .tc .vmem S2x240x128 .f32) (harg10 : arg10.IsWhole) (arg11 : Memref sig .tc .vmem S2x4x128x128 .f32) (harg11 : arg11.IsWhole) (arg12 : Memref sig .tc .vmem S8x240x128 .bf16) (harg12 : arg12.IsWhole) (arg13 : Memref sig .tc .vmem S240x128 .f32) (harg13 : arg13.IsWhole) (arg14 : Memref sig .tc .vmem S240x96 .f32) (harg14 : arg14.IsWhole) (arg15 : Memref sig .tc .vmem S8x240x384 .f32) (harg15 : arg15.IsWhole) (arg16 : Memref sig .tc .vmem S512x384 .bf16) (harg16 : arg16.IsWhole) (arg17 : Memref sig .tc .vmem S128x384 .bf16) (harg17 : arg17.IsWhole) (arg18 : Memref sig .tc .vmem S240x128 .f32) (harg18 : arg18.IsWhole) (arg19 : Memref sig .tc .vmem S240x128 .f32) (harg19 : arg19.IsWhole)
     (x0 : Vec F S8x4x120x128 .i32) (x1 : Vec F S8x56x288 .fp8e4m3) (x2 : Vec F S1x384 .f32) (x3 : Vec F S1x384 .f32) (x4 : Vec F S96x288 .fp8e4m3) (x5 : Vec F S3x128 .f32) (x6 : Vec F S3x128 .f32) (x7 : Vec F S240x128 .i32) (x8 : Vec F S2x240x128 .i32) (x9 : Vec F S2x240x128 .f32) (x10 : Vec F S2x4x128x128 .f32) (xs0 : Vec F S8x240x384 .f32) (xs1 : Vec F S512x384 .bf16) (xs2 : Vec F S128x384 .bf16) (xs3 : Vec F S240x128 .f32)

set_option maxHeartbeats 4000000 in
/-- The first point's eight steps start from zero. -/
theorem state_A (hc0 : cond0_0 i) (hc1 : ¬cond0_1 i) : ∃ len w s0 s1 s2 b2 g0 g1 g2 g3 g4 g5 g6 g7,
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10
      = eight (time0 i) len w s0 s1 s2 b2 g0 g1 g2 g3 g4 g5 g6 g7 k0_pay4 := by
  have hv : kernelRun0_A.sl.v6 (F := F) c arg18 = k0_pay4 := by
    unfold kernelRun0_A.sl.v6 kernelRun0_A.sl.HS3_1
    rw [View.readCov_cons_toLoadRect]
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10)]
  delta kernelRun0_A
  dsimp only
  rw [View.canon_cons_unit_zero hz2]
  unfold k0_pay1
  rw [shapeCast_self, ← hv]
  exact ⟨View.readAt (Elt F) arg8.view (Rect.unit (s := S240x128) ![0, 0] S240x128.size inb_S240x128_S240x128_0_0).toLoadRect (harg8.unread x7),
    kernelRun0_A.sl.v7 c arg5 harg5 arg17 x4,
    View.readAt (Elt F) arg6.view (Rect.unit (s := S3x128) ![0, 0] S1x128.size inb_S3x128_S1x128_0_0).toLoadRect (harg6.unread x5),
    View.readAt (Elt F) arg6.view (Rect.unit (s := S3x128) ![1, 0] S1x128.size inb_S3x128_S1x128_1_0).toLoadRect (harg6.unread x5),
    View.readAt (Elt F) arg6.view (Rect.unit (s := S3x128) ![2, 0] S1x128.size inb_S3x128_S1x128_2_0).toLoadRect (harg6.unread x5),
    View.readAt (Elt F) arg7.view (Rect.unit (s := S3x128) ![2, 0] S1x128.size inb_S3x128_S1x128_2_0).toLoadRect (harg7.unread x6),
    kernelRun0_A.sl.v10 c arg15,
    kernelRun0_A.sl.v112 c arg1 harg1 arg2 harg2 arg3 harg3 arg4 harg4 arg15 arg16 x0 x1 x2 x3,
    kernelRun0_A.sl.v214 c arg1 harg1 arg2 harg2 arg3 harg3 arg4 harg4 arg15 arg16 x0 x1 x2 x3,
    kernelRun0_A.sl.v316 c arg1 harg1 arg2 harg2 arg3 harg3 arg4 harg4 arg15 arg16 x0 x1 x2 x3,
    kernelRun0_A.sl.v418 c arg1 harg1 arg2 harg2 arg3 harg3 arg4 harg4 arg15 arg16 x0 x1 x2 x3,
    kernelRun0_A.sl.v520 c arg1 harg1 arg2 harg2 arg3 harg3 arg4 harg4 arg15 arg16 x0 x1 x2 x3,
    kernelRun0_A.sl.v622 c arg1 harg1 arg2 harg2 arg3 harg3 arg4 harg4 arg15 arg16 x0 x1 x2 x3,
    kernelRun0_A.sl.v724 c arg1 harg1 arg2 harg2 arg3 harg3 arg4 harg4 arg15 arg16 x0 x1 x2 x3,
    rfl⟩

end Cert.Gru1Ideal.Body

end
-- ==== Proof.ValueGru.Fold.lean ====
/- What the kernel's buffers hold after each grid point. -/
module

public import proofs.«01_k».proof.Proof.ValueGru.Blocks
public import proofs.«01_k».proof.Proof.Gru1Ideal.State
public import proofs.«01_k».proof.Proof.Gru1Ideal.Gates
public import proofs.«01_k».proof.Proof.Gru1Ideal.First
public import proofs.«01_k».proof.Proof.Gru1Ideal.FirstState

@[expose] public section

noncomputable section

namespace Cert.Gru1Ideal.Body

open Cert.Gru1Ideal Cert.Gru1Ideal.Gen Idealize.ShloMosaic Idealize.ShloMosaic.TcCoe Idealize.SL.Sem

/-! ## One point's contents from the point before -/

section
variable {F : FTy → Type} [FloatOps F]
variable (m : (ℓ : Loc nD τ sig) → Buf (Elt F) ℓ) (c : Dev nD)

theorem first : 0 < cfg0.N := by decide

theorem wih_zero : (outsAt0 m c 0 first).2.1 = widened (iblk m c 1 ⟨0, first⟩) := by
  have e := congrArg (fun o => o.2.1) (outsAt0_A m c ⟨0, first⟩ (by decide) (by decide))
  unfold stepA at e
  dsimp only at e
  rw [e]
  apply wih_A

theorem whh_zero : (outsAt0 m c 0 first).2.2.1 = k0_pay18 (k0_pay13 (iblk m c 4 ⟨0, first⟩)) (k0_pay14 (iblk m c 4 ⟨0, first⟩)) (k0_pay16 (iblk m c 4 ⟨0, first⟩)) k0_pay17 := by
  have e := congrArg (fun o => o.2.2.1) (outsAt0_A m c ⟨0, first⟩ (by decide) (by decide))
  unfold stepA at e
  dsimp only at e
  rw [e]
  apply whh_A

theorem gi_zero : (outsAt0 m c 0 first).1 = gates (iblk m c 0 ⟨0, first⟩) (widened (iblk m c 1 ⟨0, first⟩)) (iblk m c 2 ⟨0, first⟩) (iblk m c 3 ⟨0, first⟩) := by
  have e := congrArg (fun o => o.1) (outsAt0_A m c ⟨0, first⟩ (by decide) (by decide))
  unfold stepA at e
  dsimp only at e
  rw [e]
  apply gates_A

theorem h_zero : ∃ len w s0 s1 s2 b2 g0 g1 g2 g3 g4 g5 g6 g7,
    (outsAt0 m c 0 first).2.2.2 = eight (time0 (grid0.coords (⟨0, first⟩ : Fin cfg0.N))) len w s0 s1 s2 b2 g0 g1 g2 g3 g4 g5 g6 g7 k0_pay4 := by
  have e := congrArg (fun o => o.2.2.2) (outsAt0_A m c ⟨0, first⟩ (by decide) (by decide))
  unfold stepA at e
  dsimp only at e
  rw [e]
  apply state_A

/-- What the point before `t` leaves. -/
abbrev before (t : Fin cfg0.N) := outsAt0 m c (t.val - 1) (Nat.lt_of_le_of_lt (Nat.sub_le _ _) t.isLt)

theorem wih_succ (t : Fin cfg0.N) (h : ¬ t.val % 65 = 0) : (outsAt0 m c t.val t.isLt).2.1 = (before m c t).2.1 := by
  by_cases h1 : t.val % 65 = 64
  · have e := congrArg (fun o => o.2.1) (outsAt0_C m c t h h1)
    unfold stepC at e
    dsimp only at e
    rw [e]
  · have e := congrArg (fun o => o.2.1) (outsAt0_B m c t h h1)
    unfold stepB at e
    dsimp only at e
    rw [e]

theorem whh_succ (t : Fin cfg0.N) (h : ¬ t.val % 65 = 0) : (outsAt0 m c t.val t.isLt).2.2.1 = (before m c t).2.2.1 := by
  by_cases h1 : t.val % 65 = 64
  · have e := congrArg (fun o => o.2.2.1) (outsAt0_C m c t h h1)
    unfold stepC at e
    dsimp only at e
    rw [e]
  · have e := congrArg (fun o => o.2.2.1) (outsAt0_B m c t h h1)
    unfold stepB at e
    dsimp only at e
    rw [e]

theorem gi_succ (t : Fin cfg0.N) (h : ¬ t.val % 65 = 0) : (outsAt0 m c t.val t.isLt).1 = gates (iblk m c 0 t) (before m c t).2.1 (iblk m c 2 t) (iblk m c 3 t) := by
  by_cases h1 : t.val % 65 = 64
  · have e := congrArg (fun o => o.1) (outsAt0_C m c t h h1)
    unfold stepC at e
    dsimp only at e
    rw [e]
    apply gates_C
  · have e := congrArg (fun o => o.1) (outsAt0_B m c t h h1)
    unfold stepB at e
    dsimp only at e
    rw [e]
    apply gates_B

theorem h_succ (t : Fin cfg0.N) (h : ¬ t.val % 65 = 0) : (outsAt0 m c t.val t.isLt).2.2.2 = point (grid0.coords t) (iblk m c 7 t) (before m c t).2.2.1 (iblk m c 5 t) (iblk m c 6 t) (before m c t).1 (before m c t).2.2.2 := by
  by_cases h1 : t.val % 65 = 64
  · have e := congrArg (fun o => o.2.2.2) (outsAt0_C m c t h h1)
    unfold stepC at e
    dsimp only at e
    rw [e]
    apply state_C
  · have e := congrArg (fun o => o.2.2.2) (outsAt0_B m c t h h1)
    unfold stepB at e
    dsimp only at e
    rw [e]
    apply state_B

theorem last_eq (t : Fin cfg0.N) (h0 : ¬ t.val % 65 = 0) (hc0 : ¬cond0_0 (grid0.coords t)) (hc1 : cond0_1 (grid0.coords t)) :
    lastOut m c t hc0 hc1 (before m c t) = k0_pay2 (outsAt0 m c t.val t.isLt).2.2.2 := by
  rw [h_succ m c t h0]
  unfold lastOut
  apply final_C

end

/-! ## The invariant, over the extended reals -/

theorem coords_val : ∀ t : Fin cfg0.N, (grid0.coords t 0).val = t.val := by decide +kernel

variable (m : (ℓ : Loc nD τ sig) → Buf (Elt Ideal) ℓ) (c : Dev nD)

theorem planes_wx (t : Fin cfg0.N) : Planes (widened (iblk m c 1 t)) (wx m c) := by
  constructor
  · intro n g j
    have hr : (Recurrence.rowOf n).val = 64 * (4 * (n.val / 224) + n.val % 4) + n.val % 224 / 4 := rfl
    have h1 : n.val % 224 / 4 < 56 := by omega
    have h3 : n.val % 4 < 4 := by omega
    have h2 : (Recurrence.rowOf n).val % 64 = n.val % 224 / 4 := by omega
    have h4 : (Recurrence.rowOf n).val / 64 = 4 * (n.val / 224) + n.val % 4 := by omega
    rw [widened_apply _ _ _ g.val g.isLt j.val j.isLt rfl ⟨96 * g.val + j.val, by omega⟩ rfl, dif_pos (by omega), blk1]
    refine (V22 m c _ _ g j).trans ?_
    unfold wx
    refine congrArg _ ?_
    refine congrArg₂ (fun a b => ix4 a b g j) (Fin.ext ?_) (Fin.ext ?_)
    · show (Recurrence.rowOf n).val / 64 / 4 = n.val / 224
      rw [h4]
      omega
    · show 4 * ((Recurrence.rowOf n).val % 64) + (Recurrence.rowOf n).val / 64 % 4 = n.val % 224
      rw [h2, h4]
      have h5 : (4 * (n.val / 224) + n.val % 4) % 4 = n.val % 4 := by omega
      have h6 : n.val % 224 % 4 = n.val % 4 := by omega
      rw [h5]
      omega
  · intro r g j hr
    rw [widened_apply _ _ _ g.val g.isLt j.val j.isLt rfl ⟨96 * g.val + j.val, by omega⟩ rfl, dif_neg (by omega)]

theorem padded_wh (t : Fin cfg0.N) :
    Padded (k0_pay18 (k0_pay13 (iblk m c 4 t)) (k0_pay14 (iblk m c 4 t)) (k0_pay16 (iblk m c 4 t)) k0_pay17) (wh m c) := by
  intro k g j
  rw [pay18_apply _ k _ g.val g.isLt j.val j.isLt rfl ⟨96 * g.val + j.val, by omega⟩ rfl]
  split
  · rw [blk4]; exact V45 m c _ g j
  · rfl

/-- The gate inputs of block `n`, at every lane of a gate. -/
theorem gates_input (t : Fin cfg0.N) (ht : t.val < 64) (W : Vec Ideal S512x384 .bf16) (hW : Planes W (wx m c)) (k : Fin 8) (p : Fin 240) (q : Fin 3) (j : Fin 96) :
    gates (iblk m c 0 t) W (iblk m c 2 t) (iblk m c 3 t) (ix3 k p ⟨128 * q.val + j.val, by omega⟩)
      = input (wx m c) (sx m c) (bx m c) (bh m c) (xs m c) (8 * t.val + k.val) p q j := by
  rw [gates_apply, hW.sum _ q j]
  have e2 := (blk2 m c t 0 ⟨128 * q.val + j.val, by omega⟩).trans (V29 m c q j)
  have e3 := (blk3 m c t 0 ⟨128 * q.val + j.val, by omega⟩).trans (V37 m c q j)
  rw [e2, e3]
  unfold input
  congr 2
  apply Finset.sum_congr rfl
  intro n _
  congr 1
  unfold xs
  rw [blk0, dif_pos (by omega)]
  have hr : (Recurrence.rowOf n).val = 64 * (4 * (n.val / 224) + n.val % 4) + n.val % 224 / 4 := rfl
  have h1 : n.val % 224 / 4 < 56 := by omega
  have h2 : n.val % 4 < 4 := by omega
  have h3 : n.val % 4 = 2 * (n.val % 4 / 2) + n.val % 4 % 2 := by omega
  have h4 : n.val % 4 % 2 < 2 := by omega
  have e : ∀ (t t' : Fin 512) (f f' : Fin 4) (l l' : Fin 128), t.val = t'.val → f.val = f'.val → l.val = l'.val →
      Recurrence.halfWord ((m ((c : Thread nD τ).loc main_arg0) : IVec S512x4x120x128 32) (ix4 t f ⟨p.val / 2, by omega⟩ l)) p.val
        = Recurrence.halfWord ((m ((c : Thread nD τ).loc main_arg0) : IVec S512x4x120x128 32) (ix4 t' f' ⟨p.val / 2, by omega⟩ l')) p.val := by
    intro t t' f f' l l' ht hf hl
    rw [Fin.ext ht, Fin.ext hf, Fin.ext hl]
  refine e _ _ _ _ _ _ ?_ ?_ ?_
  · show min t.val 63 * 8 + k.val = 8 * t.val + k.val
    omega
  · show (Recurrence.rowOf n).val / 128 = 2 * (n.val / 224) + n.val % 4 / 2
    rw [hr]
    generalize n.val % 4 / 2 = a at *
    generalize n.val % 4 % 2 = b at *
    generalize n.val % 224 / 4 = d at *
    omega
  · show (Recurrence.rowOf n).val % 128 = 64 * (n.val % 4 % 2) + n.val % 224 / 4
    rw [hr]
    generalize n.val % 4 / 2 = a at *
    generalize n.val % 4 % 2 = b at *
    generalize n.val % 224 / 4 = d at *
    omega

/-- What the buffers hold after point `n`. -/
structure Inv (n : ℕ) (gi : Vec Ideal S8x240x384 .f32) (wih : Vec Ideal S512x384 .bf16) (whh : Vec Ideal S128x384 .bf16) (h : Vec Ideal S240x128 .f32) : Prop where
  wih : Planes wih (wx m c)
  whh : Padded whh (wh m c)
  gi : n < 64 → ∀ (k : Fin 8) (p : Fin 240) (q : Fin 3) (j : Fin 96),
    gi (ix3 k p ⟨128 * q.val + j.val, by omega⟩) = input (wx m c) (sx m c) (bx m c) (bh m c) (xs m c) (8 * n + k.val) p q j
  h : ∀ (p : Fin 240) (j : Fin 96),
    h (ix2 p ⟨j.val, by omega⟩) = after (wx m c) (wh m c) (sx m c) (bx m c) (sh m c) (bh m c) (xs m c) (len m c) (8 * n) p j

theorem inv_zero : Inv m c 0 (outsAt0 m c 0 first).1 (outsAt0 m c 0 first).2.1 (outsAt0 m c 0 first).2.2.1 (outsAt0 m c 0 first).2.2.2 where
  wih := by rw [wih_zero]; exact planes_wx m c _
  whh := by rw [whh_zero]; exact padded_wh m c _
  gi h k p q j := by rw [gi_zero]; exact gates_input m c ⟨0, first⟩ h _ (planes_wx m c _) k p q j
  h p j := by
    obtain ⟨L, w, s0, s1, s2, b2, g0, g1, g2, g3, g4, g5, g6, g7, e⟩ := h_zero m c
    rw [e]
    exact eight_zero L w s0 s1 s2 b2 g0 g1 g2 g3 g4 g5 g6 g7 _ (coords_val _) p _

theorem inv_succ (hr : ∀ k j, ∃ r : ℝ, wh m c k 2 j = r) (hs' : ∀ j, ∃ r : ℝ, sh m c 2 j = r)
    (hb : ∀ j, ∃ r : ℝ, bh m c 2 j = r) (t : Fin cfg0.N) (n : ℕ) (hn : t.val = n + 1)
    (gi : Vec Ideal S8x240x384 .f32) (wih : Vec Ideal S512x384 .bf16) (whh : Vec Ideal S128x384 .bf16) (h : Vec Ideal S240x128 .f32)
    (I : Inv m c n gi wih whh h) :
    Inv m c (n + 1) (gates (iblk m c 0 t) wih (iblk m c 2 t) (iblk m c 3 t)) wih whh
      (point (grid0.coords t) (iblk m c 7 t) whh (iblk m c 5 t) (iblk m c 6 t) gi h) where
  wih := I.wih
  whh := I.whh
  gi hlt k p q j := by
    rw [gates_input m c t (by omega) wih I.wih k p q j, hn]
  h p j := by
    have hN : t.val < 65 := t.isLt
    have row (s : Fin 3) (j : Fin 96) := (blk5 m c t s ⟨j.val, by omega⟩).trans (V40 m c s j)
    have bias (j : Fin 96) := (blk6 m c t 2 ⟨j.val, by omega⟩).trans (V43 m c 2 j)
    unfold point
    rw [time0_succ _ n ((coords_val t).trans hn)]
    exact eight_after (wx m c) (wh m c) (sx m c) (bx m c) (sh m c) (bh m c) (xs m c) (len m c) hr hs' hb (8 * n) (by omega) _ whh _ _ _ _
      (fun k => View.ld gi (Rect.unit (s := S8x240x384) ![k.val, 0, 0] S1x240x384.size (by
        intro d; fin_cases d <;> simp [S8x240x384, S1x240x384] <;> omega))) h
      (fun p l => (blk7 m c t p l).trans (V1 m c p l)) I.whh
      (fun j => (row_apply _ 0 _ _).trans (row 0 j)) (fun j => (row_apply _ 1 _ _).trans (row 1 j)) (fun j => (row_apply _ 2 _ _).trans (row 2 j))
      (fun j => (row_apply _ 2 _ _).trans (bias j))
      (fun k p q j => (plane_apply gi k _ p _).trans (I.gi (by omega) k p q j)) I.h p j

/-- The invariant holds after every point. -/
theorem inv (hr : ∀ k j, ∃ r : ℝ, wh m c k 2 j = r) (hs' : ∀ j, ∃ r : ℝ, sh m c 2 j = r)
    (hb : ∀ j, ∃ r : ℝ, bh m c 2 j = r) (n : ℕ) (hn : n < cfg0.N) :
    Inv m c n (outsAt0 m c n hn).1 (outsAt0 m c n hn).2.1 (outsAt0 m c n hn).2.2.1 (outsAt0 m c n hn).2.2.2 := by
  induction n with
  | zero => exact inv_zero m c
  | succ n ih =>
    have I := ih (Nat.lt_of_succ_lt hn)
    have hN : n + 1 < 65 := hn
    have h0 : ¬ (⟨n + 1, hn⟩ : Fin cfg0.N).val % 65 = 0 := by dsimp only; omega
    have J := inv_succ m c hr hs' hb ⟨n + 1, hn⟩ n rfl _ _ _ _ I
    have e1 := gi_succ m c ⟨n + 1, hn⟩ h0
    have e2 := wih_succ m c ⟨n + 1, hn⟩ h0
    have e3 := whh_succ m c ⟨n + 1, hn⟩ h0
    have e4 := h_succ m c ⟨n + 1, hn⟩ h0
    dsimp only at e1 e2 e3 e4
    rw [e1, e2, e3, e4]
    exact J

end Cert.Gru1Ideal.Body

end
-- ==== Proof.ValueGru.Output.lean ====
/- The array that the kernel's run leaves in its last output: the window covers the whole array and is written back once,
   at the last grid point, so the array is what that point leaves in the window's buffer. -/
module

public import proofs.«01_k».proof.Proof.ValueGru.Fold
public import Idealize.ShloMosaic.Lib.Pipeline.ArrRel

@[expose] public section

noncomputable section

namespace Cert.Gru1Ideal.Body

open Cert.Gru1Ideal Cert.Gru1Ideal.Gen Idealize.ShloMosaic Idealize.ShloMosaic.TcCoe Idealize.SL.Sem

attribute [local irreducible] outsAt0

variable (m : (ℓ : Loc nD τ sig) → Buf (Elt Ideal) ℓ) (ρ : Dev nD → PrngReg)

/-- The grid's last point. -/
abbrev last : Fin cfg0.N := ⟨64, lt_of_lt_of_eq (by decide) N_0.symm⟩

theorem whole13 : (cfg0.win 13).WholeAt last := by decide +kernel

/-- The state after a point, without its padding. -/
def resultAt (c : Dev nD) (t : Fin cfg0.N) : FVec Ideal S240x96 .f32 := k0_pay2 (outsAt0 m c t.val t.isLt).2.2.2

/-- The kernel's result: that of the last point. -/
abbrev result (c : Dev nD) : FVec Ideal S240x96 .f32 := resultAt m c last

theorem said13 (c : Dev nD) (t : Fin cfg0.N) (X : (cfg0.win 13).block.Idx → Elt Ideal (cfg0.win 13).elt) (h : Rl m c 13 t X) (h0 : ¬t.val % 65 = 0) (h1 : t.val % 65 = 64) :
    X = lastOut m c t (fun h => h0 ((hcond0_0 t).mp h)) ((hcond0_1 t).mpr h1) (before m c t) := by
  unfold Rl at h
  exact h h0 h1

theorem leaves_said (c : Dev nD) (t : Fin cfg0.N) (X : (cfg0.win 13).block.Idx → Elt Ideal (cfg0.win 13).elt)
    (h : ((dats m 0 c).toRRel forgets0 (Rl m c)).Leaves 13 t X) : Rl m c 13 t X :=
  Pipeline.Dat.toRRel_leaves (dat := dats m 0 c) (fgt := forgets0) (Rl := Rl m c) (w := 13) (by decide) h

/-- What the last point may leave in the window is the result. -/
theorem leaves_last (c : Dev nD) (t : Fin cfg0.N) (h0 : ¬t.val % 65 = 0) (h1 : t.val % 65 = 64) (X : (cfg0.win 13).block.Idx → Elt Ideal (cfg0.win 13).elt)
    (h : ((dats m 0 c).toRRel forgets0 (Rl m c)).Leaves 13 t X) : X = resultAt m c t :=
  (said13 m c t X (leaves_said m c t X h) h0 h1).trans (last_eq m c t h0 _ _)

/-- Of a value of the window's whole block, an array that holds it at every index is that value. -/
theorem whole13_eq (c : Dev nD) (G : Buf (Elt Ideal) ((c : Thread nD τ).loc main_v46_2)) (o : (cfg0.win 13).block.Idx → Elt Ideal (cfg0.win 13).elt)
    (e : ∀ j : (cfg0.win 13).shape.Idx, G ((cfg0.win 13).arr.view.emb j)
      = _root_.cast (congrArg (Elt Ideal) (cfg0.win 13).arr.view.elt_eq.symm) (o fun a => ⟨j a, whole13.lt_size j a⟩)) :
    G = (o : FVec Ideal S240x96 .f32) := by
  funext j
  exact e j

/-- The array after the run is something that the last point may leave in the window. -/
theorem named13 (c : Dev nD) (G : Buf (Elt Ideal) ((c : Thread nD τ).loc main_v46_2))
    (h : ((dats m 0 c).toRRel forgets0 (Rl m c)).ArrAt 13 cfg0.N G) :
    ∃ X : (cfg0.win 13).block.Idx → Elt Ideal (cfg0.win 13).elt, ((dats m 0 c).toRRel forgets0 (Rl m c)).Leaves 13 last X ∧ G = (X : FVec Ideal S240x96 .f32) := by
  obtain ⟨X, hX, e⟩ := Pipeline.RDat.ArrAt.emb_eq_of_wholeAt h whole13
  exact ⟨X, hX, whole13_eq c G X e⟩

theorem leaves_result (c : Dev nD) (t : Fin cfg0.N) (ht : t = last) (X : (cfg0.win 13).block.Idx → Elt Ideal (cfg0.win 13).elt)
    (h : ((dats m 0 c).toRRel forgets0 (Rl m c)).Leaves 13 t X) : X = resultAt m c t := by
  have h1 : t.val = 64 := congrArg Fin.val ht
  exact leaves_last m c t (by omega) (by omega) X h

/-- The array after the run. -/
theorem final13 (c : Dev nD) (G : Buf (Elt Ideal) ((c : Thread nD τ).loc main_v46_2))
    (h : ((dats m 0 c).toRRel forgets0 (Rl m c)).ArrAt 13 cfg0.N G) : G = (result m c : Buf (Elt Ideal) ((c : Thread nD τ).loc main_v46_2)) := by
  obtain ⟨X, hX, e⟩ := named13 m c G h
  exact e.trans (leaves_result m c last rfl X hX)

/-- The run: the result array, and every argument as launched. -/
theorem run : θ_run defs (onTc (τ := τ) (main (F := Ideal))) ⟨m, fun _ => 0, ρ⟩ fun r => ∀ c : Dev nD,
    r.2.mem ((c.tc : Thread nD τ).loc main_v46_2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨final13 m c _ ((h c).1 13),
      (Pipeline.RDat.FramePost.arr_in (cfg₁ := cfgs 0) h c 0 rfl).trans ((A_eq m c 0).trans (V_main_arg0 m c)),
      ((h c).2 main_arg1 (Pipeline.mem_restRefs_of main_arg1 (by decide) (by decide))).trans (V_main_arg1 m c),
      (Pipeline.RDat.FramePost.arr_in (cfg₁ := cfgs 0) h c 8 rfl).trans ((A_eq m c 8).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) (run_main m ρ)

end Cert.Gru1Ideal.Body

end
-- ==== Proof.Gru1ReferenceIdeal.Step.lean ====
/- One trip of the reference's loop, and what the reference leaves in its output. -/
module

public import proofs.«01_k».proof.Proof.Gen.Gru1ReferenceIdeal.Value
public import Idealize.ShloMosaic.Lib.Pointwise

@[expose] public section

noncomputable section

namespace Cert.Gru1ReferenceIdeal.Body

open Cert.Gru1ReferenceIdeal Cert.Gru1ReferenceIdeal.Gen Idealize.ShloMosaic Idealize.ShloMosaic.TcCoe Idealize.SL.Sem Idealize.ShloMosaic.Tactic
open Idealize.ShloMosaic.Pipeline (Dat Cfg Window BodyObligation cellOf)

variable {F : FTy → Type} [FloatOps F]

theorem hz2 : (![0, 0] : Fin 2 → ℕ) = fun _ => 0 := funext fun a => by fin_cases a <;> rfl

/-- One trip of the loop, over the loaded arrays: the weights `v0` … `v20` gate by gate, the inputs, lengths, scales and biases. -/
def trip (v0 v4 v8 : Vec F S448x96 .fp8e4m3) (v12 v16 v20 : Vec F S96x96 .fp8e4m3)
    (x0 : Vec F S512x240x448 .bf16) (x1 : Vec F S240x1 .i32) (x3 x4 x6 x7 : Vec F S3x96 .f32) (k : Fin k0_t1_loop.trips) (acc : FVec F S240x96 .f32) : FVec F S240x96 .f32 :=
  k0_pay7 v20 acc (Scf.iv 0#32 1#32 k) (k0_pay9 (k0_pay1 v0) (View.ld x0 (Rect.unit (s := S512x240x448) (k0_off1 k) S1x240x448.size (k0_off1_inb k))) (View.ld x3 (Rect.unit (s := S3x96) ![0, 0] S1x96.size inb_S3x96_S1x96_0_0)) (View.ld x4 (Rect.unit (s := S3x96) ![0, 0] S1x96.size inb_S3x96_S1x96_0_0)))
    (k0_pay10 (k0_pay2 v4) (View.ld x0 (Rect.unit (s := S512x240x448) (k0_off1 k) S1x240x448.size (k0_off1_inb k))) (View.ld x3 (Rect.unit (s := S3x96) ![1, 0] S1x96.size inb_S3x96_S1x96_1_0)) (View.ld x4 (Rect.unit (s := S3x96) ![1, 0] S1x96.size inb_S3x96_S1x96_1_0)))
    (k0_pay11 (k0_pay3 v8) (View.ld x0 (Rect.unit (s := S512x240x448) (k0_off1 k) S1x240x448.size (k0_off1_inb k))) (View.ld x3 (Rect.unit (s := S3x96) ![2, 0] S1x96.size inb_S3x96_S1x96_2_0)) (View.ld x4 (Rect.unit (s := S3x96) ![2, 0] S1x96.size inb_S3x96_S1x96_2_0)))
    (k0_pay12 (k0_pay4 v12) acc (View.ld x6 (Rect.unit (s := S3x96) ![0, 0] S1x96.size inb_S3x96_S1x96_0_0)) (View.ld x7 (Rect.unit (s := S3x96) ![0, 0] S1x96.size inb_S3x96_S1x96_0_0))) (k0_pay13 (k0_pay5 v16) acc)
    (View.ld x6 (Rect.unit (s := S3x96) ![1, 0] S1x96.size inb_S3x96_S1x96_1_0)) (View.ld x7 (Rect.unit (s := S3x96) ![1, 0] S1x96.size inb_S3x96_S1x96_1_0)) (View.ld x6 (Rect.unit (s := S3x96) ![2, 0] S1x96.size inb_S3x96_S1x96_2_0)) (View.ld x7 (Rect.unit (s := S3x96) ![2, 0] S1x96.size inb_S3x96_S1x96_2_0)) x1

/-- The carried value after `n` trips. -/
def runs (v0 v4 v8 : Vec F S448x96 .fp8e4m3) (v12 v16 v20 : Vec F S96x96 .fp8e4m3)
    (x0 : Vec F S512x240x448 .bf16) (x1 : Vec F S240x1 .i32) (x3 x4 x6 x7 : Vec F S3x96 .f32) : ℕ → FVec F S240x96 .f32
  | 0 => k0_pay6
  | n + 1 => if h : n < k0_t1_loop.trips then trip v0 v4 v8 v12 v16 v20 x0 x1 x3 x4 x6 x7 ⟨n, h⟩ (runs v0 v4 v8 v12 v16 v20 x0 x1 x3 x4 x6 x7 n) else k0_pay6

section
variable (c : Dev nD) (arg0 : Memref sig .tc .vmem S512x240x448 .bf16) (harg0 : arg0.IsWhole) (arg1 : Memref sig .tc .vmem S240x1 .i32) (harg1 : arg1.IsWhole) (arg2 : Memref sig .tc .vmem S448x288 .fp8e4m3) (harg2 : arg2.IsWhole) (arg3 : Memref sig .tc .vmem S3x96 .f32) (harg3 : arg3.IsWhole) (arg4 : Memref sig .tc .vmem S3x96 .f32) (harg4 : arg4.IsWhole) (arg5 : Memref sig .tc .vmem S96x288 .fp8e4m3) (harg5 : arg5.IsWhole) (arg6 : Memref sig .tc .vmem S3x96 .f32) (harg6 : arg6.IsWhole) (arg7 : Memref sig .tc .vmem S3x96 .f32) (harg7 : arg7.IsWhole) (arg8 : Memref sig .tc .vmem S240x96 .f32) (harg8 : arg8.IsWhole)

/-- The generated trip is `trip` over what the arrays hold. -/
theorem trip_eq (𝒱 : Variants) (bd : Option 𝒱.V) (v0 v4 v8 : Vec F S448x96 .fp8e4m3) (v12 v16 v20 : Vec F S96x96 .fp8e4m3) (X_arg0 : BufTy.Contents (Elt F) arg0.view.ty) (X_arg1 : BufTy.Contents (Elt F) arg1.view.ty) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (k : Fin k0_t1_loop.trips) (acc : FVec F S240x96 .f32) :
    tripR_k0_t1 𝒱 c bd arg0 harg0 arg1 harg1 arg2 harg2 arg3 harg3 arg4 harg4 arg5 harg5 arg6 harg6 arg7 harg7 arg8 harg8 v0 v4 v8 v12 v16 v20 X_arg0 X_arg1 X_arg3 X_arg4 X_arg6 X_arg7 k acc
      = trip v0 v4 v8 v12 v16 v20 (arg0.view.read (Elt F) X_arg0) (arg1.view.read (Elt F) X_arg1) (arg3.view.read (Elt F) X_arg3) (arg4.view.read (Elt F) X_arg4) (arg6.view.read (Elt F) X_arg6) (arg7.view.read (Elt F) X_arg7) k acc := by
  unfold tripR_k0_t1 trip_k0_t1 trip
  dsimp only
  unfold trip_k0_t1.sl.arg9 trip_k0_t1.sl.r trip_k0_t1.sl.r_1 trip_k0_t1.sl.r_2 trip_k0_t1.sl.r_3 trip_k0_t1.sl.r_4
  simp only [View.readAt_eq_ld]
  rw [View.ld_unit_zero (S := S240x1) hz2 _ _]

theorem runs_eq (𝒱 : Variants) (bd : Option 𝒱.V) (v0 v4 v8 : Vec F S448x96 .fp8e4m3) (v12 v16 v20 : Vec F S96x96 .fp8e4m3) (X_arg0 : BufTy.Contents (Elt F) arg0.view.ty) (X_arg1 : BufTy.Contents (Elt F) arg1.view.ty) (X_arg3 : BufTy.Contents (Elt F) arg3.view.ty) (X_arg4 : BufTy.Contents (Elt F) arg4.view.ty) (X_arg6 : BufTy.Contents (Elt F) arg6.view.ty) (X_arg7 : BufTy.Contents (Elt F) arg7.view.ty) (n : ℕ) (hn : n ≤ k0_t1_loop.trips) :
    st_k0_t1 𝒱 c bd arg0 harg0 arg1 harg1 arg2 harg2 arg3 harg3 arg4 harg4 arg5 harg5 arg6 harg6 arg7 harg7 arg8 harg8 v0 v4 v8 v12 v16 v20 X_arg0 X_arg1 X_arg3 X_arg4 X_arg6 X_arg7 k0_pay6 n
      = runs v0 v4 v8 v12 v16 v20 (arg0.view.read (Elt F) X_arg0) (arg1.view.read (Elt F) X_arg1) (arg3.view.read (Elt F) X_arg3) (arg4.view.read (Elt F) X_arg4) (arg6.view.read (Elt F) X_arg6) (arg7.view.read (Elt F) X_arg7) n := by
  induction n with
  | zero => rfl
  | succ n ih =>
    rw [st_k0_t1_succ 𝒱 c bd arg0 harg0 arg1 harg1 arg2 harg2 arg3 harg3 arg4 harg4 arg5 harg5 arg6 harg6 arg7 harg7 arg8 harg8 v0 v4 v8 v12 v16 v20 X_arg0 X_arg1 X_arg3 X_arg4 X_arg6 X_arg7 k0_pay6 ⟨n, hn⟩, trip_eq, ih (Nat.le_of_succ_le hn)]
    conv_rhs => unfold runs
    rw [dif_pos (show n < k0_t1_loop.trips from hn)]

variable (x0 : Vec F S512x240x448 .bf16) (x1 : Vec F S240x1 .i32) (x2 : Vec F S448x288 .fp8e4m3) (x3 : Vec F S3x96 .f32) (x4 : Vec F S3x96 .f32) (x5 : Vec F S96x288 .fp8e4m3) (x6 : Vec F S3x96 .f32) (x7 : Vec F S3x96 .f32)

set_option maxHeartbeats 1000000 in
/-- The state that the reference leaves. -/
theorem final_eq : out0_A_8 c arg0 harg0 arg1 harg1 arg2 harg2 arg3 harg3 arg4 harg4 arg5 harg5 arg6 harg6 arg7 harg7 arg8 harg8 x0 x1 x2 x3 x4 x5 x6 x7
    = runs (View.ld x2 (Rect.unit (s := S448x288) ![0, 0] S448x96.size inb_S448x288_S448x96_0_0)) (View.ld x2 (Rect.unit (s := S448x288) ![0, 96] S448x96.size inb_S448x288_S448x96_0_96)) (View.ld x2 (Rect.unit (s := S448x288) ![0, 192] S448x96.size inb_S448x288_S448x96_0_192))
        (View.ld x5 (Rect.unit (s := S96x288) ![0, 0] S96x96.size inb_S96x288_S96x96_0_0)) (View.ld x5 (Rect.unit (s := S96x288) ![0, 96] S96x96.size inb_S96x288_S96x96_0_96)) (View.ld x5 (Rect.unit (s := S96x288) ![0, 192] S96x96.size inb_S96x288_S96x96_0_192)) x0 x1 x3 x4 x6 x7 k0_t1_loop.trips := by
  unfold out0_A_8
  rw [View.read_writes_eq_canon _ _ _ (cover0_A_8 c arg0 harg0 arg1 harg1 arg2 harg2 arg3 harg3 arg4 harg4 arg5 harg5 arg6 harg6 arg7 harg7 arg8 harg8 x0 x1 x2 x3 x4 x5 x6 x7)]
  delta kernelRun0_A
  dsimp only
  rw [View.canon_unit_zero hz2]
  simp only [View.readAt_eq_ld, Memref.IsWhole.read_unread]
  refine (runs_eq c arg0 harg0 arg1 harg1 arg2 harg2 arg3 harg3 arg4 harg4 arg5 harg5 arg6 harg6 arg7 harg7 arg8 harg8 _ _ _ _ _ _ _ _ _ _ _ _ _ _ _ le_rfl).trans ?_
  simp only [Memref.IsWhole.read_unread]

end

end Cert.Gru1ReferenceIdeal.Body

end
-- ==== Proof.ValueGru.Reference.lean ====
/- What the reference's array holds, over the extended reals: the state after 512 steps of the recurrence. -/
module

public import proofs.«01_k».proof.Proof.Gru1ReferenceIdeal.Step
public import proofs.«01_k».proof.Proof.ValueGru.Cell
public import proofs.«01_k».proof.Proof.ValueGru.Layout
public import Idealize.ShloMosaic.Lib.Pipeline.ValueKit.Point
public import Idealize.ShloMosaic.Lib.StableHlo.ReadAt
public import Idealize.ShloMosaic.Lib.BitcastConvert
public import Idealize.ShloMosaic.Lib.Claim

@[expose] public section

noncomputable section

namespace Cert.Gru1ReferenceIdeal.Body

open Cert.Gru1ReferenceIdeal Cert.Gru1ReferenceIdeal.Gen Idealize.ShloMosaic Idealize.ShloMosaic.TcCoe Idealize.SL.Sem

theorem trips_eq : k0_t1_loop.trips = 512 := by decide +kernel

theorem iv_eq : ∀ k : Fin k0_t1_loop.trips, (Scf.iv 0#32 1#32 k : BitVec 32) = BitVec.ofNat 32 k.val := by decide +kernel

/-! ## The loads of a trip -/

theorem row_apply (s : Vec Ideal S3x96 .f32) (k : Fin 3) (h : ∀ d, ![k.val, 0] d + S1x96.size d ≤ S3x96.size d) (l : Fin 96) :
    View.ld s (Rect.unit (s := S3x96) ![k.val, 0] S1x96.size h) (ix2 0 l) = s (ix2 k l) := by
  pointwise

theorem plane_apply (x0 : Vec Ideal S512x240x448 .bf16) (k : Fin k0_t1_loop.trips) (K : Fin 512) (hK : K.val = k.val) (p : Fin 240) (x : Fin 448) :
    View.ld x0 (Rect.unit (s := S512x240x448) (k0_off1 k) S1x240x448.size (k0_off1_inb k)) (ix3 0 p x) = x0 (ix3 K p x) := by
  show x0 _ = x0 _
  congr 1
  have h := k0_off1_eq k
  funext d; apply Fin.ext
  match d with
  | ⟨0, _⟩ => show k0_off1 k 0 + 1 * 0 = K.val; rw [h, hK]; show k.val + 1 * 0 = k.val; omega
  | ⟨1, _⟩ => show k0_off1 k 1 + 1 * p.val = p.val; rw [h]; show 0 + 1 * p.val = p.val; omega
  | ⟨2, _⟩ => show k0_off1 k 2 + 1 * x.val = x.val; rw [h]; show 0 + 1 * x.val = x.val; omega

/-! ## One trip -/

section
variable (wx : Fin 448 → Fin 3 → Fin 96 → EReal) (wh : Fin 96 → Fin 3 → Fin 96 → EReal) (sx bx sh bh : Fin 3 → Fin 96 → EReal)
    (v0 v4 v8 : Vec Ideal S448x96 .fp8e4m3) (v12 v16 v20 : Vec Ideal S96x96 .fp8e4m3)
    (x0 : Vec Ideal S512x240x448 .bf16) (x1 : Vec Ideal S240x1 .i32) (x3 x4 x6 x7 : Vec Ideal S3x96 .f32)
    (h0 : ∀ k j, v0 (ix2 k j) = wx k 0 j) (h4 : ∀ k j, v4 (ix2 k j) = wx k 1 j) (h8 : ∀ k j, v8 (ix2 k j) = wx k 2 j)
    (h12 : ∀ k j, v12 (ix2 k j) = wh k 0 j) (h16 : ∀ k j, v16 (ix2 k j) = wh k 1 j) (h20 : ∀ k j, v20 (ix2 k j) = wh k 2 j)
    (h3 : ∀ g j, x3 (ix2 g j) = sx g j) (hb : ∀ g j, x4 (ix2 g j) = bx g j) (h6 : ∀ g j, x6 (ix2 g j) = sh g j) (h7 : ∀ g j, x7 (ix2 g j) = bh g j)

include h0 h4 h8 h12 h16 h20 h3 hb h6 h7

/-- One trip of the reference's loop is one step of the recurrence, for the rows that are still live. -/
theorem trip_apply (k : Fin k0_t1_loop.trips) (K : Fin 512) (hK : K.val = k.val) (acc : FVec Ideal S240x96 .f32) (p : Fin 240) (j : Fin 96) :
    trip v0 v4 v8 v12 v16 v20 x0 x1 x3 x4 x6 x7 k acc (ix2 p j)
      = Scalar.select (IntOp.cmpi .slt (BitVec.ofNat 32 K.val) (x1 (ix2 p 0)))
          (Recurrence.cell wh sh bh (fun g j => (∑ n, x0 (ix3 K p n) * wx n g j) * sx g j + bx g j) (fun x => acc (ix2 p x)) j) (acc (ix2 p j)) := by
  unfold trip
  have c0 := fun x => plane_apply x0 k K hK p x
  rw [iv_eq, ← hK]
  generalize View.ld x0 (Rect.unit (s := S512x240x448) (k0_off1 k) S1x240x448.size (k0_off1_inb k)) = X at c0 ⊢
  pointwise [k0_pay7, k0_pay9, k0_pay10, k0_pay11, k0_pay12, k0_pay13, k0_pay1, k0_pay2, k0_pay3, k0_pay4, k0_pay5, k0_pay8]
  unfold Recurrence.cell Recurrence.gate
  simp only [c0, h0, h4, h8, h12, h16, h20, h3, hb, h6, h7]

/-- After `n` trips the carried value is the recurrence's state after `n` steps. -/
theorem runs_apply (x : ℕ → Fin 240 → Fin 448 → EReal)
    (hx : ∀ (t : Fin 512) p k, x0 (ix3 t p k) = x t.val p k)
    (n : ℕ) (hn : n ≤ 512) (p : Fin 240) (j : Fin 96) :
    runs v0 v4 v8 v12 v16 v20 x0 x1 x3 x4 x6 x7 n (ix2 p j)
      = Recurrence.masked wh sh bh (x1 (ix2 p 0)) (fun t g j => (∑ n, x t p n * wx n g j) * sx g j + bx g j) n j := by
  induction n generalizing j with
  | zero => unfold runs; pointwise [k0_pay6]; rfl
  | succ n ih =>
    unfold runs
    rw [dif_pos (show n < k0_t1_loop.trips from lt_of_lt_of_eq hn trips_eq.symm)]
    refine (trip_apply wx wh sx bx sh bh v0 v4 v8 v12 v16 v20 x0 x1 x3 x4 x6 x7 h0 h4 h8 h12 h16 h20 h3 hb h6 h7 ⟨n, _⟩ ⟨n, hn⟩ rfl _ p j).trans ?_
    simp only [hx, ih (Nat.le_of_succ_le hn)]
    rfl

end

/-! ## The arguments as functions -/

section
variable (m : (ℓ : Loc nD τ sig) → Buf (Elt Ideal) ℓ) (c : Dev nD)

/-- Channel `n` of time `t`, batch row `p`: of field `n / 224` the channel `r = n % 224`, in byte plane `r % 4` at `r / 4`. -/
def xs (t : ℕ) (p : Fin 240) (n : Fin 448) : EReal :=
  if h : t < 512 then
    Recurrence.halfWord ((m ((c : Thread nD τ).loc main_arg0) : IVec S512x4x120x128 32)
      (ix4 ⟨t, h⟩ ⟨2 * (n.val / 224) + n.val % 4 / 2, by omega⟩ ⟨p.val / 2, by omega⟩ ⟨64 * (n.val % 4 % 2) + n.val % 224 / 4, by omega⟩)) p.val
  else 0
def wx (n : Fin 448) (g : Fin 3) (j : Fin 96) : EReal :=
  (m ((c : Thread nD τ).loc main_arg4) : FVec Ideal S2x224x3x96 .fp8e4m3) (ix4 ⟨n.val / 224, by omega⟩ ⟨n.val % 224, by omega⟩ g j)
def sx (g : Fin 3) (j : Fin 96) : EReal := (m ((c : Thread nD τ).loc main_arg5) : FVec Ideal S3x96 .f32) (ix2 g j)
def wh (k : Fin 96) (g : Fin 3) (j : Fin 96) : EReal := (m ((c : Thread nD τ).loc main_arg6) : FVec Ideal S96x3x96 .f32) (ix3 k g j)
def sh (g : Fin 3) (j : Fin 96) : EReal := (m ((c : Thread nD τ).loc main_arg7) : FVec Ideal S3x96 .f32) (ix2 g j)
def bx (g : Fin 3) (j : Fin 96) : EReal := (m ((c : Thread nD τ).loc main_arg8) : FVec Ideal S3x96 .f32) (ix2 g j)
def bh (g : Fin 3) (j : Fin 96) : EReal := (m ((c : Thread nD τ).loc main_arg9) : FVec Ideal S3x96 .f32) (ix2 g j)
/-- The length of batch row `p`. -/
def len (p : Fin 240) : BitVec 32 := (m ((c : Thread nD τ).loc main_arg1) : IVec S240 32) (ix1 p)

/-! ## The host prelude and the blocks -/

theorem V5 (t : Fin 512) (p : Fin 240) (n : Fin 448) : (V m c main_v5 : FVec Ideal S512x240x448 .bf16) (ix3 t p n) = xs m c t.val p n := by
  unfold V xs
  rw [dif_pos t.isLt]
  after_reads_simp
  exact rows_apply _ _ _ _ _ _ _ t p n

theorem V6 (p : Fin 240) : V m c main_v6 (ix2 p 0) = m ((c : Thread nD τ).loc main_arg1) (ix1 p) := by
  unfold V
  after_reads_at

theorem V7 (n : Fin 448) (g : Fin 3) (j : Fin 96) :
    (V m c main_v7 : FVec Ideal S448x288 .fp8e4m3) (ix2 n ⟨96 * g.val + j.val, by omega⟩) = wx m c n g j := by
  unfold V
  after_reads_simp
  exact weights_apply _ _ n g j

theorem V9 (k : Fin 96) (g : Fin 3) (j : Fin 96) :
    (V m c main_v9 : FVec Ideal S96x288 .fp8e4m3) (ix2 k ⟨96 * g.val + j.val, by omega⟩) = wh m c k g j := by
  unfold V
  after_reads_at
  rfl

/-- The one point of the grid. -/
abbrev pt : Fin cfg0.N := ⟨0, lt_of_lt_of_eq (by decide) N_0.symm⟩

theorem eq_pt (t : Fin cfg0.N) : t = pt := by
  have ht : t.val < 1 := Nat.lt_of_lt_of_eq t.isLt N_0
  exact Fin.ext (by show t.val = 0; omega)

theorem index0_0 : win0_0.index pt 0 = 0 := rfl
theorem index0_1 : win0_0.index pt 1 = 0 := rfl
theorem index0_2 : win0_0.index pt 2 = 0 := rfl
theorem blk0 (p : Fin 512) (k : Fin 240) (l : Fin 448) : iblk m c 0 pt (ix3 p k l) = V m c main_v5 (ix3 p k l) := by
  blk_ext [iblk, index0_0, index0_1, index0_2]

theorem index1_0 : win0_1.index pt 0 = 0 := rfl
theorem index1_1 : win0_1.index pt 1 = 0 := rfl
theorem blk1 (p : Fin 240) (k : Fin 1) : iblk m c 1 pt (ix2 p k) = V m c main_v6 (ix2 p k) := by
  blk_ext [iblk, index1_0, index1_1]

theorem index2_0 : win0_2.index pt 0 = 0 := rfl
theorem index2_1 : win0_2.index pt 1 = 0 := rfl
theorem blk2 (p : Fin 448) (k : Fin 288) : iblk m c 2 pt (ix2 p k) = V m c main_v7 (ix2 p k) := by
  blk_ext [iblk, index2_0, index2_1]

theorem index3_0 : win0_3.index pt 0 = 0 := rfl
theorem index3_1 : win0_3.index pt 1 = 0 := rfl
theorem blk3 (p : Fin 3) (k : Fin 96) : iblk m c 3 pt (ix2 p k) = V m c main_arg5 (ix2 p k) := by
  blk_ext [iblk, index3_0, index3_1]

theorem index4_0 : win0_4.index pt 0 = 0 := rfl
theorem index4_1 : win0_4.index pt 1 = 0 := rfl
theorem blk4 (p : Fin 3) (k : Fin 96) : iblk m c 4 pt (ix2 p k) = V m c main_arg8 (ix2 p k) := by
  blk_ext [iblk, index4_0, index4_1]

theorem index5_0 : win0_5.index pt 0 = 0 := rfl
theorem index5_1 : win0_5.index pt 1 = 0 := rfl
theorem blk5 (p : Fin 96) (k : Fin 288) : iblk m c 5 pt (ix2 p k) = V m c main_v9 (ix2 p k) := by
  blk_ext [iblk, index5_0, index5_1]

theorem index6_0 : win0_6.index pt 0 = 0 := rfl
theorem index6_1 : win0_6.index pt 1 = 0 := rfl
theorem blk6 (p : Fin 3) (k : Fin 96) : iblk m c 6 pt (ix2 p k) = V m c main_arg7 (ix2 p k) := by
  blk_ext [iblk, index6_0, index6_1]

theorem index7_0 : win0_7.index pt 0 = 0 := rfl
theorem index7_1 : win0_7.index pt 1 = 0 := rfl
theorem blk7 (p : Fin 3) (k : Fin 96) : iblk m c 7 pt (ix2 p k) = V m c main_arg9 (ix2 p k) := by
  blk_ext [iblk, index7_0, index7_1]

/-! ## The array -/

/-- The last state that the reference computes. -/
def final : FVec Ideal S240x96 .f32 :=
  runs (View.ld (iblk m c 2 pt) (Rect.unit (s := S448x288) ![0, 0] S448x96.size inb_S448x288_S448x96_0_0)) (View.ld (iblk m c 2 pt) (Rect.unit (s := S448x288) ![0, 96] S448x96.size inb_S448x288_S448x96_0_96)) (View.ld (iblk m c 2 pt) (Rect.unit (s := S448x288) ![0, 192] S448x96.size inb_S448x288_S448x96_0_192))
    (View.ld (iblk m c 5 pt) (Rect.unit (s := S96x288) ![0, 0] S96x96.size inb_S96x288_S96x96_0_0)) (View.ld (iblk m c 5 pt) (Rect.unit (s := S96x288) ![0, 96] S96x96.size inb_S96x288_S96x96_0_96)) (View.ld (iblk m c 5 pt) (Rect.unit (s := S96x288) ![0, 192] S96x96.size inb_S96x288_S96x96_0_192))
    (iblk m c 0 pt) (iblk m c 1 pt) (iblk m c 3 pt) (iblk m c 4 pt) (iblk m c 6 pt) (iblk m c 7 pt) k0_t1_loop.trips

/-- One gate's columns of a weight array, as loaded. -/
theorem columns_apply (X : Vec Ideal S96x288 .fp8e4m3) (g : Fin 3) (o : ℕ) (ho : o = 96 * g.val) (h : ∀ d, ![0, o] d + S96x96.size d ≤ S96x288.size d) (k j : Fin 96) :
    View.ld X (Rect.unit (s := S96x288) ![0, o] S96x96.size h) (ix2 k j) = X (ix2 k ⟨96 * g.val + j.val, by omega⟩) := by
  subst ho
  show X _ = X _
  congr 1
  funext d; apply Fin.ext
  match d with
  | ⟨0, _⟩ => show 0 + 1 * k.val = k.val; omega
  | ⟨1, _⟩ => show 96 * g.val + 1 * j.val = 96 * g.val + j.val; omega

theorem columns448_apply (X : Vec Ideal S448x288 .fp8e4m3) (g : Fin 3) (o : ℕ) (ho : o = 96 * g.val) (h : ∀ d, ![0, o] d + S448x96.size d ≤ S448x288.size d) (k : Fin 448) (j : Fin 96) :
    View.ld X (Rect.unit (s := S448x288) ![0, o] S448x96.size h) (ix2 k j) = X (ix2 k ⟨96 * g.val + j.val, by omega⟩) := by
  subst ho
  show X _ = X _
  congr 1
  funext d; apply Fin.ext
  match d with
  | ⟨0, _⟩ => show 0 + 1 * k.val = k.val; omega
  | ⟨1, _⟩ => show 96 * g.val + 1 * j.val = 96 * g.val + j.val; omega

/-- The last state is the recurrence's after 512 steps. -/
theorem final_apply (p : Fin 240) (j : Fin 96) :
    final m c (ix2 p j) = Recurrence.masked (wh m c) (sh m c) (bh m c) (len m c p)
      (fun t g j => (∑ n, xs m c t p n * wx m c n g j) * sx m c g j + bx m c g j) 512 j := by
  unfold final
  rw [trips_eq]
  have el : len m c p = iblk m c 1 pt (ix2 p 0) := ((blk1 m c p 0).trans (V6 m c p)).symm
  rw [el]
  refine runs_apply (wx m c) (wh m c) (sx m c) (bx m c) (sh m c) (bh m c) _ _ _ _ _ _ _ _ _ _ _ _ ?_ ?_ ?_ ?_ ?_ ?_ ?_ ?_ ?_ ?_ (xs m c) ?_ 512 le_rfl p j
  · intro k j; exact (columns448_apply _ 0 0 rfl _ k j).trans ((blk2 m c k _).trans (V7 m c k 0 j))
  · intro k j; exact (columns448_apply _ 1 96 rfl _ k j).trans ((blk2 m c k _).trans (V7 m c k 1 j))
  · intro k j; exact (columns448_apply _ 2 192 rfl _ k j).trans ((blk2 m c k _).trans (V7 m c k 2 j))
  · intro k j; exact (columns_apply _ 0 0 rfl _ k j).trans ((blk5 m c k _).trans (V9 m c k 0 j))
  · intro k j; exact (columns_apply _ 1 96 rfl _ k j).trans ((blk5 m c k _).trans (V9 m c k 1 j))
  · intro k j; exact (columns_apply _ 2 192 rfl _ k j).trans ((blk5 m c k _).trans (V9 m c k 2 j))
  · intro g j; exact (blk3 m c g j).trans (congrFun (V_main_arg5 m c) _)
  · intro g j; exact (blk4 m c g j).trans (congrFun (V_main_arg8 m c) _)
  · intro g j; exact (blk6 m c g j).trans (congrFun (V_main_arg7 m c) _)
  · intro g j; exact (blk7 m c g j).trans (congrFun (V_main_arg9 m c) _)
  · intro t p k; exact (blk0 m c t p k).trans (V5 m c t p k)

/-! ## The run -/

theorem index8_pt : win0_8.index pt = fun _ => 0 := by decide +kernel

theorem final8 : (dats m 0 c).arrAt 8 cfg0.N = (final m c : Buf (Elt Ideal) ((c : Thread nD τ).loc main_v10)) := by
  refine (dats m 0 c).arrAt_eq_of_cover 8 _ (fun t hf => ?_) (fun i => ⟨pt, flush0_8 pt, ?_⟩)
  · obtain rfl := eq_pt t
    rw [Value.flushed8_A, final_eq]
    show (cfg0.win 8).cut (grid0.coords pt) (final m c) = _
    generalize final m c = o
    funext y
    show o _ = o _
    congr 1
    funext a; apply Fin.ext
    have h := congrFun index8_pt
    match a with
    | ⟨0, _⟩ => show (y 0).val = win0_8.index pt (0 : Fin 2) * 240 + 1 * (y 0).val; rw [h 0]; omega
    | ⟨1, _⟩ => show (y 1).val = win0_8.index pt (1 : Fin 2) * 96 + 1 * (y 1).val; rw [h 1]; omega
  · show i ∈ ((View.whole main_v10).slice (win0_8.rect pt)).set
    rw [View.set_slice_whole, Rect.mem_set_unit]
    have h := congrFun index8_pt
    intro a
    have ha : (i a).val < S240x96.size a := (i a).isLt
    show win0_8.index pt a * S240x96.size a ≤ (i a).val ∧ (i a).val < win0_8.index pt a * S240x96.size a + S240x96.size a
    rw [h a]; omega

end

end Cert.Gru1ReferenceIdeal.Body

end
-- ==== Proof.ValueGru.Finite.lean ====
/- The precondition, read at an index: which entries it makes real. -/
module

public import proofs.«01_k».proof.Defs
public import Idealize.ShloMosaic.Lib.Pointwise

@[expose] public section

noncomputable section

namespace Cert.Pre_finite1

open Idealize.ShloMosaic

variable [Facts]

/-- Between minus and plus infinity: a real. -/
theorem real_of_between (x : EReal) (h : IntOp.andi (Ideal.cmp .ogt x (Ideal.ofBits .f32 0xFF800000#32)) (Ideal.cmp .olt x (Ideal.ofBits .f32 0x7F800000#32)) = 1#1) :
    ∃ r : ℝ, x = r := by
  rw [show Ideal.ofBits .f32 0xFF800000#32 = ⊥ by simp [Ideal.ofBits, Ideal.ieee], show Ideal.ofBits .f32 0x7F800000#32 = ⊤ by simp [Ideal.ofBits, Ideal.ieee]] at h
  by_cases h0 : ⊥ < x
  · by_cases h1 : x < ⊤
    · exact ⟨x.toReal, (EReal.coe_toReal h1.ne h0.ne').symm⟩
    · exfalso; simp [Ideal.cmp, h1, IntOp.andi] at h
  · exfalso; simp [Ideal.cmp, h0, IntOp.andi] at h

variable (a0 : IVec S512x4x120x128 32) (a1 : IVec S240 32) (a2 : IVec S2x240x128 32) (a3 : FVec Ideal S480 .f32) (a4 : FVec Ideal S2x224x3x96 .fp8e4m3)
  (a5 : FVec Ideal S3x96 .f32) (a6 : FVec Ideal S96x3x96 .f32) (a7 a8 a9 : FVec Ideal S3x96 .f32) (a10 : FVec Ideal S96x2x224 .f32)

theorem real_weight (h : (fn a0 a1 a2 a3 a4 a5 a6 a7 a8 a9 a10).1 = fun _ => 1#1) (k j : Fin 96) : ∃ r : ℝ, a6 (ix3 k 2 j) = r := by
  apply real_of_between
  rw [← congrFun h (ix2 k j)]
  pointwise [fn, fn_part1]

theorem real_scale (h : (fn a0 a1 a2 a3 a4 a5 a6 a7 a8 a9 a10).2.1 = fun _ => 1#1) (j : Fin 96) : ∃ r : ℝ, a7 (ix2 2 j) = r := by
  apply real_of_between
  rw [← congrFun h (ix1 j)]
  pointwise [fn, fn_part1]

theorem real_bias (h : (fn a0 a1 a2 a3 a4 a5 a6 a7 a8 a9 a10).2.2 = fun _ => 1#1) (j : Fin 96) : ∃ r : ℝ, a9 (ix2 2 j) = r := by
  apply real_of_between
  rw [← congrFun h (ix1 j)]
  pointwise [fn, fn_part1]

end Cert.Pre_finite1

end
-- ==== Proof.ValueGru.Equation.lean ====
/- The equation: from equal arguments under the precondition, the kernel's last state is the reference's. -/
module

public import proofs.«01_k».proof.Proof.ValueGru.Output
public import proofs.«01_k».proof.Proof.ValueGru.Reference
public import proofs.«01_k».proof.Proof.ValueGru.Finite

@[expose] public section

noncomputable section

namespace Cert.EquationGru

open Idealize.ShloMosaic Idealize.ShloMosaic.TcCoe Idealize.SL.Sem

variable (m : (ℓ : Loc Cert.Gru1Ideal.nD Cert.Gru1Ideal.τ Cert.Gru1Ideal.sig) → Buf (Elt Ideal) ℓ) (m' : (ℓ : Loc Cert.Gru1ReferenceIdeal.nD Cert.Gru1ReferenceIdeal.τ Cert.Gru1ReferenceIdeal.sig) → Buf (Elt Ideal) ℓ) (c : Dev Cert.Gru1Ideal.nD)

/-- The kernel's result at an index: the recurrence's state after 512 steps. -/
theorem result_apply (hr : ∀ k j, ∃ r : ℝ, Cert.Gru1Ideal.Body.wh m c k 2 j = r) (hs : ∀ j, ∃ r : ℝ, Cert.Gru1Ideal.Body.sh m c 2 j = r)
    (hb : ∀ j, ∃ r : ℝ, Cert.Gru1Ideal.Body.bh m c 2 j = r) (p : Fin 240) (j : Fin 96) :
    Cert.Gru1Ideal.Body.result m c (ix2 p j) = Cert.Gru1Ideal.Body.after (Cert.Gru1Ideal.Body.wx m c) (Cert.Gru1Ideal.Body.wh m c) (Cert.Gru1Ideal.Body.sx m c) (Cert.Gru1Ideal.Body.bx m c) (Cert.Gru1Ideal.Body.sh m c) (Cert.Gru1Ideal.Body.bh m c)
      (Cert.Gru1Ideal.Body.xs m c) (Cert.Gru1Ideal.Body.len m c) 512 p j := by
  have I := (Cert.Gru1Ideal.Body.inv m c hr hs hb Cert.Gru1Ideal.Body.last.val Cert.Gru1Ideal.Body.last.isLt).h p j
  unfold Cert.Gru1Ideal.Body.result Cert.Gru1Ideal.Body.resultAt
  generalize (Cert.Gru1Ideal.Body.outsAt0 m c Cert.Gru1Ideal.Body.last.val Cert.Gru1Ideal.Body.last.isLt).2.2.2 = h at I ⊢
  refine Eq.trans ?_ I
  pointwise [Cert.Gru1Ideal.Gen.k0_pay2]

/-- The two programs' arguments are equal on device `c`. -/
def Same : Prop :=
    m' ((c.tc : Thread Cert.Gru1ReferenceIdeal.nD Cert.Gru1ReferenceIdeal.τ).loc Cert.Gru1ReferenceIdeal.main_arg0) = m ((c.tc : Thread Cert.Gru1Ideal.nD Cert.Gru1Ideal.τ).loc Cert.Gru1Ideal.main_arg0)
      ∧ m' ((c.tc : Thread Cert.Gru1ReferenceIdeal.nD Cert.Gru1ReferenceIdeal.τ).loc Cert.Gru1ReferenceIdeal.main_arg1) = m ((c.tc : Thread Cert.Gru1Ideal.nD Cert.Gru1Ideal.τ).loc Cert.Gru1Ideal.main_arg1)
      ∧ m' ((c.tc : Thread Cert.Gru1ReferenceIdeal.nD Cert.Gru1ReferenceIdeal.τ).loc Cert.Gru1ReferenceIdeal.main_arg2) = m ((c.tc : Thread Cert.Gru1Ideal.nD Cert.Gru1Ideal.τ).loc Cert.Gru1Ideal.main_arg2)
      ∧ m' ((c.tc : Thread Cert.Gru1ReferenceIdeal.nD Cert.Gru1ReferenceIdeal.τ).loc Cert.Gru1ReferenceIdeal.main_arg3) = m ((c.tc : Thread Cert.Gru1Ideal.nD Cert.Gru1Ideal.τ).loc Cert.Gru1Ideal.main_arg3)
      ∧ m' ((c.tc : Thread Cert.Gru1ReferenceIdeal.nD Cert.Gru1ReferenceIdeal.τ).loc Cert.Gru1ReferenceIdeal.main_arg4) = m ((c.tc : Thread Cert.Gru1Ideal.nD Cert.Gru1Ideal.τ).loc Cert.Gru1Ideal.main_arg4)
      ∧ m' ((c.tc : Thread Cert.Gru1ReferenceIdeal.nD Cert.Gru1ReferenceIdeal.τ).loc Cert.Gru1ReferenceIdeal.main_arg5) = m ((c.tc : Thread Cert.Gru1Ideal.nD Cert.Gru1Ideal.τ).loc Cert.Gru1Ideal.main_arg5)
      ∧ m' ((c.tc : Thread Cert.Gru1ReferenceIdeal.nD Cert.Gru1ReferenceIdeal.τ).loc Cert.Gru1ReferenceIdeal.main_arg6) = m ((c.tc : Thread Cert.Gru1Ideal.nD Cert.Gru1Ideal.τ).loc Cert.Gru1Ideal.main_arg6)
      ∧ m' ((c.tc : Thread Cert.Gru1ReferenceIdeal.nD Cert.Gru1ReferenceIdeal.τ).loc Cert.Gru1ReferenceIdeal.main_arg7) = m ((c.tc : Thread Cert.Gru1Ideal.nD Cert.Gru1Ideal.τ).loc Cert.Gru1Ideal.main_arg7)
      ∧ m' ((c.tc : Thread Cert.Gru1ReferenceIdeal.nD Cert.Gru1ReferenceIdeal.τ).loc Cert.Gru1ReferenceIdeal.main_arg8) = m ((c.tc : Thread Cert.Gru1Ideal.nD Cert.Gru1Ideal.τ).loc Cert.Gru1Ideal.main_arg8)
      ∧ m' ((c.tc : Thread Cert.Gru1ReferenceIdeal.nD Cert.Gru1ReferenceIdeal.τ).loc Cert.Gru1ReferenceIdeal.main_arg9) = m ((c.tc : Thread Cert.Gru1Ideal.nD Cert.Gru1Ideal.τ).loc Cert.Gru1Ideal.main_arg9)
      ∧ m' ((c.tc : Thread Cert.Gru1ReferenceIdeal.nD Cert.Gru1ReferenceIdeal.τ).loc Cert.Gru1ReferenceIdeal.main_arg10) = m ((c.tc : Thread Cert.Gru1Ideal.nD Cert.Gru1Ideal.τ).loc Cert.Gru1Ideal.main_arg10)

theorem final_eq (e : Same m m' c) [Cert.Pre_finite1.Facts] (h : Cert.Pre_Gru1Ideal_finite1 m) : Cert.Gru1ReferenceIdeal.Body.final m' c = Cert.Gru1Ideal.Body.result m c := by
  funext i
  obtain ⟨p, j, rfl⟩ : ∃ (p : Fin 240) (j : Fin 96), i = ix2 p j := ⟨i 0, i 1, ValueIdx.eq_ix2 i⟩
  refine (Cert.Gru1ReferenceIdeal.Body.final_apply m' c p j).trans (Eq.trans ?_ (result_apply m c
    (fun k j => Cert.Pre_finite1.real_weight _ _ _ _ _ _ _ _ _ _ _ (h c).1 k j) (fun j => Cert.Pre_finite1.real_scale _ _ _ _ _ _ _ _ _ _ _ (h c).2.1 j)
    (fun j => Cert.Pre_finite1.real_bias _ _ _ _ _ _ _ _ _ _ _ (h c).2.2 j) p j).symm)
  obtain ⟨e0, e1, _, _, e4, e5, e6, e7, e8, e9, _⟩ := e
  unfold Cert.Gru1Ideal.Body.after
  unfold Cert.Gru1ReferenceIdeal.Body.xs Cert.Gru1ReferenceIdeal.Body.len Cert.Gru1ReferenceIdeal.Body.wx Cert.Gru1ReferenceIdeal.Body.wh Cert.Gru1ReferenceIdeal.Body.sx Cert.Gru1ReferenceIdeal.Body.sh Cert.Gru1ReferenceIdeal.Body.bx Cert.Gru1ReferenceIdeal.Body.bh
  rw [e0, e1, e4, e5, e6, e7, e8, e9]
  rfl

/-- The kernel and the reference leave the same array. -/
theorem algebraic [Cert.Pre_finite1.Facts] : Cert.algebraic_Gru1Ideal_Gru1ReferenceIdeal_pre_finite1 := by
  intro m g m' g' h e
  refine ⟨fun c => Cert.Gru1Ideal.Body.result m c, Cert.Gru1Ideal.Body.run m g, (θ_run _ _ _).mono (fun r hr c => ?_) (Cert.Gru1ReferenceIdeal.Value.run_blocks m' g')⟩
  have hr := hr c
  exact ⟨hr.1.trans ((Cert.Gru1ReferenceIdeal.Body.final8 m' c).trans (final_eq m m' c (e c) h)), hr.2⟩

end Cert.EquationGru

end
-- ==== Proof.lean ====
/- The certificate: of each of the two calls the frames of its three programs, and the equality of the kernel's and the reference's
   results over the extended reals, put together from the modules below proof/Proof/. -/
module

public import proofs.«01_k».proof.Defs
public import Idealize.ShloMosaic.Lib.Tactic
public import proofs.«01_k».proof.Proof.Gen.Augru
public import proofs.«01_k».proof.Proof.AugruIdeal.Frame
public import proofs.«01_k».proof.Proof.Gen.AugruReferenceIdeal.Value
public import proofs.«01_k».proof.Proof.Value.Equation
public import proofs.«01_k».proof.Proof.Gen.Gru1
public import proofs.«01_k».proof.Proof.Gru1Ideal.Frame
public import proofs.«01_k».proof.Proof.Gen.Gru1ReferenceIdeal.Value
public import proofs.«01_k».proof.Proof.ValueGru.Equation

@[expose] public section

noncomputable section

namespace Cert.Proof

open Idealize.ShloMosaic Idealize.ShloMosaic.Tactic Idealize.SL.Sem

/-- The shapes that the precondition's operations take. -/
theorem finite_facts : Cert.Pre_finite.Facts where
  bcast_S_S240x512 := by decide
  bcast_S_S240 := by decide
  slices_S96x3x96_S96x1x96_0_2_0 := by decide
  shapeCasts_S96x1x96_S96x96 := by decide
  bcast_S_S96x96 := by decide
  slices_S3x96_S1x96_2_0 := by decide
  shapeCasts_S1x96_S96 := by decide
  bcast_S_S96 := by decide

/-- The shapes that the second precondition's operations take. -/
theorem finite1_facts : Cert.Pre_finite1.Facts where
  slices_S96x3x96_S96x1x96_0_2_0 := by decide
  shapeCasts_S96x1x96_S96x96 := by decide
  bcast_S_S96x96 := by decide
  slices_S3x96_S1x96_2_0 := by decide
  shapeCasts_S1x96_S96 := by decide
  bcast_S_S96 := by decide

/-- The kernel's frame: its program is, definition by definition, the text of the ideal one, whose frame is proved for floats of
    any kind and so holds of the machine's. -/
theorem frame_augru : Cert.quiescent_Augru (hAugru := Cert.Augru.Gen.facts) :=
  Eq.mpr (by sl_kernel_rfl) fun m ρ (_ : True) => Cert.AugruIdeal.Body.frame (F := Bits) m ρ

/-- The same of the other call. -/
theorem frame_gru1 : Cert.quiescent_Gru1 (hGru1 := Cert.Gru1.Gen.facts) :=
  Eq.mpr (by sl_kernel_rfl) fun m ρ (_ : True) => Cert.Gru1Ideal.Body.frame (F := Bits) m ρ

theorem claim : Cert.Claim := ⟨Cert.Augru.Gen.facts, Cert.AugruIdeal.Gen.facts, Cert.AugruReferenceIdeal.Gen.facts,
  Cert.Gru1.Gen.facts, Cert.Gru1Ideal.Gen.facts, Cert.Gru1ReferenceIdeal.Gen.facts, finite_facts, finite1_facts,
  frame_augru,
  fun m ρ _ => Cert.AugruIdeal.Body.frame m ρ,
  fun m ρ _ => Cert.AugruIdeal.Body.frame m ρ,
  fun m ρ _ => Cert.AugruReferenceIdeal.Gen.frame m ρ,
  fun m ρ _ => Cert.AugruReferenceIdeal.Gen.frame m ρ,
  frame_gru1,
  fun m ρ _ => Cert.Gru1Ideal.Body.frame m ρ,
  fun m ρ _ => Cert.Gru1Ideal.Body.frame m ρ,
  fun m ρ _ => Cert.Gru1ReferenceIdeal.Gen.frame m ρ,
  fun m ρ _ => Cert.Gru1ReferenceIdeal.Gen.frame m ρ,
  trivial,
  @Cert.Equation.algebraic finite_facts,
  trivial,
  @Cert.EquationGru.algebraic finite1_facts⟩

end Cert.Proof

end
